-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v79_0)) (v1 : (c : Dev Cert.Kernel3Ideal.nD) → Buf (Elt Ideal) ((c.tc : Thread Cert.Kernel3Ideal.nD Cert.Kernel3Ideal.τ).loc Cert.Kernel3Ideal.main_v79_1)) (v2 : (c : Dev Cert.Kernel3Ideal.nD) → Buf (Elt Ideal) ((c.tc : Thread Cert.Kernel3Ideal.nD Cert.Kernel3Ideal.τ).loc Cert.Kernel3Ideal.main_v79_2)) (v3 : (c : Dev Cert.Kernel3Ideal.nD) → Buf (Elt Ideal) ((c.tc : Thread Cert.Kernel3Ideal.nD Cert.Kernel3Ideal.τ).loc Cert.Kernel3Ideal.main_v79_3)) (v4 : (c : Dev Cert.Kernel3Ideal.nD) → Buf (Elt Ideal) ((c.tc : Thread Cert.Kernel3Ideal.nD Cert.Kernel3Ideal.τ).loc Cert.Kernel3Ideal.main_v79_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v79_0) = v0 c
          ∧ r.2.mem ((c.tc : Thread Cert.Kernel3Ideal.nD Cert.Kernel3Ideal.τ).loc Cert.Kernel3Ideal.main_v79_1) = v1 c
          ∧ r.2.mem ((c.tc : Thread Cert.Kernel3Ideal.nD Cert.Kernel3Ideal.τ).loc Cert.Kernel3Ideal.main_v79_2) = v2 c
          ∧ r.2.mem ((c.tc : Thread Cert.Kernel3Ideal.nD Cert.Kernel3Ideal.τ).loc Cert.Kernel3Ideal.main_v79_3) = v3 c
          ∧ r.2.mem ((c.tc : Thread Cert.Kernel3Ideal.nD Cert.Kernel3Ideal.τ).loc Cert.Kernel3Ideal.main_v79_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v154) = v0 c
          ∧ r.2.mem ((c.tc : Thread Cert.Reference3Ideal.nD Cert.Reference3Ideal.τ).loc Cert.Reference3Ideal.main_v155) = v1 c
          ∧ r.2.mem ((c.tc : Thread Cert.Reference3Ideal.nD Cert.Reference3Ideal.τ).loc Cert.Reference3Ideal.main_v156) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_v158) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8x4096x8x64 : Shape := ⟨4, ![8, 4096, 8, 64]⟩
abbrev S8x4096x2x64 : Shape := ⟨4, ![8, 4096, 2, 64]⟩
abbrev S_ : Shape := ⟨0, ![]⟩

class Facts : Prop where
  bcast_S_S8x4096x8x64 : S_.BroadcastsInDim S8x4096x8x64 (![] : Fin 0 → Fin S8x4096x8x64.rank)
  bcast_S_S8x4096x2x64 : S_.BroadcastsInDim S8x4096x2x64 (![] : Fin 0 → Fin S8x4096x2x64.rank)

variable [Facts]

def fn {F : FTy → Type} [FloatOps F] (main_arg0 : FVec F S8x4096x8x64 .f32) (main_arg1 : FVec F S8x4096x2x64 .f32) (main_arg2 : FVec F S8x4096x2x64 .f32) : IVec S8x4096x8x64 1 × IVec S8x4096x2x64 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x2x64 .f32 := Host.absf main_arg1
  let main_cst_0 : FVec F S_ .f32 := constant S_ .f32 0x7F800000#32
  let main_v4 : FVec F S8x4096x2x64 .f32 := broadcastInDim S8x4096x2x64 ![] bcast_S_S8x4096x2x64 main_cst_0
  let main_v5 : IVec S8x4096x2x64 1 := cmpf .olt main_v3 main_v4
  (main_v2, main_v5)
-- ==== Kernel.lean ====
abbrev S8x4096x8x64 : Shape := ⟨4, ![8, 4096, 8, 64]⟩
abbrev S8x4096x2x64 : Shape := ⟨4, ![8, 4096, 2, 64]⟩
abbrev S_ : Shape := ⟨0, ![]⟩
abbrev S8x4096x512 : Shape := ⟨3, ![8, 4096, 512]⟩
abbrev S8x2x4096x64 : Shape := ⟨4, ![8, 2, 4096, 64]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S1x512x256 : Shape := ⟨3, ![1, 512, 256]⟩
abbrev S1x1x4096x64 : Shape := ⟨4, ![1, 1, 4096, 64]⟩
abbrev S1x1x80x4096 : Shape := ⟨4, ![1, 1, 80, 4096]⟩
abbrev S8x80x256 : Shape := ⟨3, ![8, 80, 256]⟩
abbrev S8x512x256 : Shape := ⟨3, ![8, 512, 256]⟩
abbrev S1x1x512x64 : Shape := ⟨4, ![1, 1, 512, 64]⟩
abbrev S512x64 : Shape := ⟨2, ![512, 64]⟩
abbrev S1x256x64 : Shape := ⟨3, ![1, 256, 64]⟩
abbrev S256x64 : Shape := ⟨2, ![256, 64]⟩
abbrev S512x256 : Shape := ⟨2, ![512, 256]⟩
abbrev S1x1x80x512 : Shape := ⟨4, ![1, 1, 80, 512]⟩
abbrev S80x512 : Shape := ⟨2, ![80, 512]⟩
abbrev S1x80x256 : Shape := ⟨3, ![1, 80, 256]⟩
abbrev S80x256 : Shape := ⟨2, ![80, 256]⟩
abbrev S64x256 : Shape := ⟨2, ![64, 256]⟩
abbrev S1x256 : Shape := ⟨2, ![1, 256]⟩
abbrev S64x512 : Shape := ⟨2, ![64, 512]⟩
abbrev S256x512 : Shape := ⟨2, ![256, 512]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x512, .f32⟩
  | .hbm, ⟨8, _⟩ => ⟨S8x4096x512, .f32⟩
  | .hbm, ⟨9, _⟩ => ⟨S8x4096x512, .f32⟩
  | .hbm, ⟨10, _⟩ => ⟨S8x4096x512, .bf16⟩
  | .hbm, ⟨11, _⟩ => ⟨S8x2x4096x64, .f32⟩
  | .hbm, ⟨12, _⟩ => ⟨S8x2x4096x64, .bf16⟩
  | .hbm, ⟨13, _⟩ => ⟨S8x2x64x4096, .f32⟩
  | .hbm, ⟨14, _⟩ => ⟨S8x2x64x4096, .bf16⟩
  | .hbm, ⟨15, _⟩ => ⟨S_, .bf16⟩
  | .hbm, ⟨16, _⟩ => ⟨S8x2x16x4096, .bf16⟩
  | .hbm, ⟨17, _⟩ => ⟨S8x2x80x4096, .bf16⟩
  | .hbm, ⟨18, _⟩ => ⟨S8x4096x512, .f32⟩
  | .local _ .vmem, ⟨0, _⟩ => ⟨S1x512x256, .bf16⟩
  | .local _ .vmem, ⟨1, _⟩ => ⟨S1x512x256, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x80x4096, .bf16⟩
  | .local _ .vmem, ⟨5, _⟩ => ⟨S1x1x80x4096, .bf16⟩
  | .local _ .vmem, ⟨6, _⟩ => ⟨S1x512x256, .f32⟩
  | .local _ .vmem, ⟨7, _⟩ => ⟨S1x512x256, .f32⟩
  | .local _ .vmem, ⟨8, _⟩ => ⟨S8x80x256, .f32⟩
  | .local _ .vmem, ⟨9, _⟩ => ⟨S8x512x256, .f32⟩
  | .local _ .vmem, ⟨10, _⟩ => ⟨S8x512x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_mult1 : BitVec 32 :=
  let c0_i32 : BitVec 32 := 0#32
  c0_i32
def k0_mult2 : BitVec 32 :=
  let c0_i32_12 : BitVec 32 := 0#32
  c0_i32_12
def k0_mult3 : BitVec 32 :=
  let c0_i32_21 : BitVec 32 := 0#32
  c0_i32_21
def k0_mult4 : BitVec 32 :=
  let c0_i32_30 : BitVec 32 := 0#32
  c0_i32_30
def k0_mult5 : BitVec 32 :=
  let c0_i32_40 : BitVec 32 := 0#32
  c0_i32_40
def k0_mult6 : BitVec 32 :=
  let c0_i32_49 : BitVec 32 := 0#32
  c0_i32_49
def k0_mult7 : BitVec 32 :=
  let c0_i32_59 : BitVec 32 := 0#32
  c0_i32_59
def k0_mult8 : BitVec 32 :=
  let c0_i32_68 : BitVec 32 := 0#32
  c0_i32_68
def k0_mult9 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32 : BitVec 32 := 512#32
  let v87 : BitVec 32 := Scalar.muli v85 c512_i32
  v87
def k0_off1 (c0_i32_78 : BitVec 32) (c1_i32 : BitVec 32) : Fin 4 → Nat :=
  let c0_80 : Index := 0#32
  let c0_81 : Index := 0#32
  let c2_i32 : BitVec 32 := 2#32
  let v84 : BitVec 32 := Scalar.muli c2_i32 c0_i32_78
  let v85 : BitVec 32 := Scalar.addi v84 c1_i32
  let c512_i32 : BitVec 32 := 512#32
  let v87 : BitVec 32 := Scalar.muli v85 c512_i32
  let v88 : BitVec 32 := v87
  let v89 : Index := Scalar.indexCast v88
  let c0_82 : Index := 0#32
  ![0, 0, v89.toNat, 0]
def k0_mult10 : BitVec 32 :=
  let c2_i32_79 : BitVec 32 := 2#32
  let c0_i32_78 : BitVec 32 := 0#32
  let v86 : BitVec 32 := Scalar.muli c2_i32_79 c0_i32_78
  let c512_i32_90 : BitVec 32 := 512#32
  let v98 : BitVec 32 := Scalar.muli v86 c512_i32_90
  v98
def k0_off2 (c0_i32_78 : BitVec 32) : Fin 4 → Nat :=
  let c0_91 : Index := 0#32
  let c0_92 : Index := 0#32
  let c0_93 : Index := 0#32
  let c2_i32_79 : BitVec 32 := 2#32
  let v86 : BitVec 32 := Scalar.muli c2_i32_79 c0_i32_78
  let c512_i32_90 : BitVec 32 := 512#32
  let v98 : BitVec 32 := Scalar.muli v86 c512_i32_90
  let v99 : BitVec 32 := v98
  let v100 : Index := Scalar.indexCast v99
  ![0, 0, 0, v100.toNat]
def k0_mult11 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_104 : BitVec 32 := 512#32
  let v114 : BitVec 32 := Scalar.muli v85 c512_i32_104
  v114
def k0_mult12 : BitVec 32 :=
  let c2_i32_79 : BitVec 32 := 2#32
  let c0_i32_78 : BitVec 32 := 0#32
  let v86 : BitVec 32 := Scalar.muli c2_i32_79 c0_i32_78
  let c512_i32_115 : BitVec 32 := 512#32
  let v125 : BitVec 32 := Scalar.muli v86 c512_i32_115
  v125
def k0_mult13 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_129 : BitVec 32 := 512#32
  let v141 : BitVec 32 := Scalar.muli v85 c512_i32_129
  v141
def k0_mult14 : BitVec 32 :=
  let c2_i32_79 : BitVec 32 := 2#32
  let c0_i32_78 : BitVec 32 := 0#32
  let v86 : BitVec 32 := Scalar.muli c2_i32_79 c0_i32_78
  let c512_i32_140 : BitVec 32 := 512#32
  let v152 : BitVec 32 := Scalar.muli v86 c512_i32_140
  v152
def k0_mult15 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_154 : BitVec 32 := 512#32
  let v168 : BitVec 32 := Scalar.muli v85 c512_i32_154
  v168
def k0_mult16 : BitVec 32 :=
  let c2_i32_79 : BitVec 32 := 2#32
  let c0_i32_78 : BitVec 32 := 0#32
  let v86 : BitVec 32 := Scalar.muli c2_i32_79 c0_i32_78
  let c512_i32_165 : BitVec 32 := 512#32
  let v179 : BitVec 32 := Scalar.muli v86 c512_i32_165
  v179
def k0_mult17 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_179 : BitVec 32 := 512#32
  let v195 : BitVec 32 := Scalar.muli v85 c512_i32_179
  v195
def k0_mult18 : BitVec 32 :=
  let c2_i32_79 : BitVec 32 := 2#32
  let c0_i32_78 : BitVec 32 := 0#32
  let v86 : BitVec 32 := Scalar.muli c2_i32_79 c0_i32_78
  let c512_i32_190 : BitVec 32 := 512#32
  let v206 : BitVec 32 := Scalar.muli v86 c512_i32_190
  v206
def k0_mult19 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_204 : BitVec 32 := 512#32
  let v222 : BitVec 32 := Scalar.muli v85 c512_i32_204
  v222
def k0_mult20 : BitVec 32 :=
  let c2_i32_79 : BitVec 32 := 2#32
  let c0_i32_78 : BitVec 32 := 0#32
  let v86 : BitVec 32 := Scalar.muli c2_i32_79 c0_i32_78
  let c512_i32_215 : BitVec 32 := 512#32
  let v233 : BitVec 32 := Scalar.muli v86 c512_i32_215
  v233
def k0_mult21 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_229 : BitVec 32 := 512#32
  let v249 : BitVec 32 := Scalar.muli v85 c512_i32_229
  v249
def k0_mult22 : BitVec 32 :=
  let c2_i32_79 : BitVec 32 := 2#32
  let c0_i32_78 : BitVec 32 := 0#32
  let v86 : BitVec 32 := Scalar.muli c2_i32_79 c0_i32_78
  let c512_i32_240 : BitVec 32 := 512#32
  let v260 : BitVec 32 := Scalar.muli v86 c512_i32_240
  v260
def k0_mult23 : BitVec 32 :=
  let c2_i32 : BitVec 32 := 2#32
  let c0_i32_78 : BitVec 32 := 0#32
  let v84 : BitVec 32 := Scalar.muli c2_i32 c0_i32_78
  let c1_i32 : BitVec 32 := 1#32
  let v85 : BitVec 32 := Scalar.addi v84 c1_i32
  let c512_i32_254 : BitVec 32 := 512#32
  let v276 : BitVec 32 := Scalar.muli v85 c512_i32_254
  v276
def k0_mult24 : BitVec 32 :=
  let c2_i32_79 : BitVec 32 := 2#32
  let c0_i32_78 : BitVec 32 := 0#32
  let v86 : BitVec 32 := Scalar.muli c2_i32_79 c0_i32_78
  let c512_i32_265 : BitVec 32 := 512#32
  let v287 : BitVec 32 := Scalar.muli v86 c512_i32_265
  v287
def k0_mult25 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_283 : BitVec 32 := 512#32
  let v307 : BitVec 32 := Scalar.muli v304 c512_i32_283
  v307
def k0_mult26 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_294 : BitVec 32 := 512#32
  let v318 : BitVec 32 := Scalar.muli v306 c512_i32_294
  v318
def k0_off3 (c0_i32_78 : BitVec 32) : Fin 4 → Nat :=
  let c0_295 : Index := 0#32
  let c0_296 : Index := 0#32
  let c0_297 : Index := 0#32
  let c2_i32_281 : BitVec 32 := 2#32
  let v305 : BitVec 32 := Scalar.muli c2_i32_281 c0_i32_78
  let c1_i32_282 : BitVec 32 := 1#32
  let v306 : BitVec 32 := Scalar.addi v305 c1_i32_282
  let c512_i32_294 : BitVec 32 := 512#32
  let v318 : BitVec 32 := Scalar.muli v306 c512_i32_294
  let v319 : BitVec 32 := v318
  let v320 : Index := Scalar.indexCast v319
  ![0, 0, 0, v320.toNat]
def k0_mult27 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_308 : BitVec 32 := 512#32
  let v334 : BitVec 32 := Scalar.muli v304 c512_i32_308
  v334
def k0_mult28 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_319 : BitVec 32 := 512#32
  let v345 : BitVec 32 := Scalar.muli v306 c512_i32_319
  v345
def k0_mult29 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_333 : BitVec 32 := 512#32
  let v361 : BitVec 32 := Scalar.muli v304 c512_i32_333
  v361
def k0_mult30 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_344 : BitVec 32 := 512#32
  let v372 : BitVec 32 := Scalar.muli v306 c512_i32_344
  v372
def k0_mult31 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_358 : BitVec 32 := 512#32
  let v388 : BitVec 32 := Scalar.muli v304 c512_i32_358
  v388
def k0_mult32 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_369 : BitVec 32 := 512#32
  let v399 : BitVec 32 := Scalar.muli v306 c512_i32_369
  v399
def k0_mult33 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_383 : BitVec 32 := 512#32
  let v415 : BitVec 32 := Scalar.muli v304 c512_i32_383
  v415
def k0_mult34 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_394 : BitVec 32 := 512#32
  let v426 : BitVec 32 := Scalar.muli v306 c512_i32_394
  v426
def k0_mult35 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_408 : BitVec 32 := 512#32
  let v442 : BitVec 32 := Scalar.muli v304 c512_i32_408
  v442
def k0_mult36 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_419 : BitVec 32 := 512#32
  let v453 : BitVec 32 := Scalar.muli v306 c512_i32_419
  v453
def k0_mult37 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_433 : BitVec 32 := 512#32
  let v469 : BitVec 32 := Scalar.muli v304 c512_i32_433
  v469
def k0_mult38 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_444 : BitVec 32 := 512#32
  let v480 : BitVec 32 := Scalar.muli v306 c512_i32_444
  v480
def k0_mult39 : BitVec 32 :=
  let c2_i32_279 : BitVec 32 := 2#32
  let c0_i32_78 : BitVec 32 := 0#32
  let v303 : BitVec 32 := Scalar.muli c2_i32_279 c0_i32_78
  let c2_i32_280 : BitVec 32 := 2#32
  let v304 : BitVec 32 := Scalar.addi v303 c2_i32_280
  let c512_i32_458 : BitVec 32 := 512#32
  let v496 : BitVec 32 := Scalar.muli v304 c512_i32_458
  v496
def k0_mult40 : BitVec 32 :=
  let c2_i32_281 : BitVec 32 := 2#32
  let c0_i32_78 : BitVec 32 := 0#32
  let v305 : BitVec 32 := Scalar.muli c2_i32_281 c0_i32_78
  let c1_i32_282 : BitVec 32 := 1#32
  let v306 : BitVec 32 := Scalar.addi v305 c1_i32_282
  let c512_i32_469 : BitVec 32 := 512#32
  let v507 : BitVec 32 := Scalar.muli v306 c512_i32_469
  v507
def k0_mult41 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_487 : BitVec 32 := 512#32
  let v526 : BitVec 32 := Scalar.muli v524 c512_i32_487
  v526
def k0_mult42 : BitVec 32 :=
  let c2_i32_486 : BitVec 32 := 2#32
  let c1_i32_483 : BitVec 32 := 1#32
  let v525 : BitVec 32 := Scalar.muli c2_i32_486 c1_i32_483
  let c512_i32_498 : BitVec 32 := 512#32
  let v537 : BitVec 32 := Scalar.muli v525 c512_i32_498
  v537
def k0_mult43 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_512 : BitVec 32 := 512#32
  let v553 : BitVec 32 := Scalar.muli v524 c512_i32_512
  v553
def k0_mult44 : BitVec 32 :=
  let c2_i32_486 : BitVec 32 := 2#32
  let c1_i32_483 : BitVec 32 := 1#32
  let v525 : BitVec 32 := Scalar.muli c2_i32_486 c1_i32_483
  let c512_i32_523 : BitVec 32 := 512#32
  let v564 : BitVec 32 := Scalar.muli v525 c512_i32_523
  v564
def k0_mult45 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_537 : BitVec 32 := 512#32
  let v580 : BitVec 32 := Scalar.muli v524 c512_i32_537
  v580
def k0_mult46 : BitVec 32 :=
  let c2_i32_486 : BitVec 32 := 2#32
  let c1_i32_483 : BitVec 32 := 1#32
  let v525 : BitVec 32 := Scalar.muli c2_i32_486 c1_i32_483
  let c512_i32_548 : BitVec 32 := 512#32
  let v591 : BitVec 32 := Scalar.muli v525 c512_i32_548
  v591
def k0_mult47 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_562 : BitVec 32 := 512#32
  let v607 : BitVec 32 := Scalar.muli v524 c512_i32_562
  v607
def k0_mult48 : BitVec 32 :=
  let c2_i32_486 : BitVec 32 := 2#32
  let c1_i32_483 : BitVec 32 := 1#32
  let v525 : BitVec 32 := Scalar.muli c2_i32_486 c1_i32_483
  let c512_i32_573 : BitVec 32 := 512#32
  let v618 : BitVec 32 := Scalar.muli v525 c512_i32_573
  v618
def k0_mult49 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_587 : BitVec 32 := 512#32
  let v634 : BitVec 32 := Scalar.muli v524 c512_i32_587
  v634
def k0_mult50 : BitVec 32 :=
  let c2_i32_486 : BitVec 32 := 2#32
  let c1_i32_483 : BitVec 32 := 1#32
  let v525 : BitVec 32 := Scalar.muli c2_i32_486 c1_i32_483
  let c512_i32_598 : BitVec 32 := 512#32
  let v645 : BitVec 32 := Scalar.muli v525 c512_i32_598
  v645
def k0_mult51 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_612 : BitVec 32 := 512#32
  let v661 : BitVec 32 := Scalar.muli v524 c512_i32_612
  v661
def k0_mult52 : BitVec 32 :=
  let c2_i32_486 : BitVec 32 := 2#32
  let c1_i32_483 : BitVec 32 := 1#32
  let v525 : BitVec 32 := Scalar.muli c2_i32_486 c1_i32_483
  let c512_i32_623 : BitVec 32 := 512#32
  let v672 : BitVec 32 := Scalar.muli v525 c512_i32_623
  v672
def k0_mult53 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_637 : BitVec 32 := 512#32
  let v688 : BitVec 32 := Scalar.muli v524 c512_i32_637
  v688
def k0_mult54 : BitVec 32 :=
  let c2_i32_486 : BitVec 32 := 2#32
  let c1_i32_483 : BitVec 32 := 1#32
  let v525 : BitVec 32 := Scalar.muli c2_i32_486 c1_i32_483
  let c512_i32_648 : BitVec 32 := 512#32
  let v699 : BitVec 32 := Scalar.muli v525 c512_i32_648
  v699
def k0_mult55 : BitVec 32 :=
  let c2_i32_484 : BitVec 32 := 2#32
  let c1_i32_483 : BitVec 32 := 1#32
  let v523 : BitVec 32 := Scalar.muli c2_i32_484 c1_i32_483
  let c1_i32_485 : BitVec 32 := 1#32
  let v524 : BitVec 32 := Scalar.addi v523 c1_i32_485
  let c512_i32_662 : BitVec 32 := 512#32
  let v715 : BitVec 32 := Scalar.muli v524 c512_i32_662
  v715
def k0_mult56 : BitVec 32 :=
  let c2_i32_486 : BitVec 32 := 2#32
  let c1_i32_483 : BitVec 32 := 1#32
  let v525 : BitVec 32 := Scalar.muli c2_i32_486 c1_i32_483
  let c512_i32_673 : BitVec 32 := 512#32
  let v726 : BitVec 32 := Scalar.muli v525 c512_i32_673
  v726
def k0_mult57 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_691 : BitVec 32 := 512#32
  let v746 : BitVec 32 := Scalar.muli v743 c512_i32_691
  v746
def k0_mult58 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_702 : BitVec 32 := 512#32
  let v757 : BitVec 32 := Scalar.muli v745 c512_i32_702
  v757
def k0_mult59 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_716 : BitVec 32 := 512#32
  let v773 : BitVec 32 := Scalar.muli v743 c512_i32_716
  v773
def k0_mult60 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_727 : BitVec 32 := 512#32
  let v784 : BitVec 32 := Scalar.muli v745 c512_i32_727
  v784
def k0_mult61 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_741 : BitVec 32 := 512#32
  let v800 : BitVec 32 := Scalar.muli v743 c512_i32_741
  v800
def k0_mult62 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_752 : BitVec 32 := 512#32
  let v811 : BitVec 32 := Scalar.muli v745 c512_i32_752
  v811
def k0_mult63 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_766 : BitVec 32 := 512#32
  let v827 : BitVec 32 := Scalar.muli v743 c512_i32_766
  v827
def k0_mult64 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_777 : BitVec 32 := 512#32
  let v838 : BitVec 32 := Scalar.muli v745 c512_i32_777
  v838
def k0_mult65 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_791 : BitVec 32 := 512#32
  let v854 : BitVec 32 := Scalar.muli v743 c512_i32_791
  v854
def k0_mult66 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_802 : BitVec 32 := 512#32
  let v865 : BitVec 32 := Scalar.muli v745 c512_i32_802
  v865
def k0_mult67 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_816 : BitVec 32 := 512#32
  let v881 : BitVec 32 := Scalar.muli v743 c512_i32_816
  v881
def k0_mult68 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_827 : BitVec 32 := 512#32
  let v892 : BitVec 32 := Scalar.muli v745 c512_i32_827
  v892
def k0_mult69 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_841 : BitVec 32 := 512#32
  let v908 : BitVec 32 := Scalar.muli v743 c512_i32_841
  v908
def k0_mult70 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_852 : BitVec 32 := 512#32
  let v919 : BitVec 32 := Scalar.muli v745 c512_i32_852
  v919
def k0_mult71 : BitVec 32 :=
  let c2_i32_687 : BitVec 32 := 2#32
  let c1_i32_483 : BitVec 32 := 1#32
  let v742 : BitVec 32 := Scalar.muli c2_i32_687 c1_i32_483
  let c2_i32_688 : BitVec 32 := 2#32
  let v743 : BitVec 32 := Scalar.addi v742 c2_i32_688
  let c512_i32_866 : BitVec 32 := 512#32
  let v935 : BitVec 32 := Scalar.muli v743 c512_i32_866
  v935
def k0_mult72 : BitVec 32 :=
  let c2_i32_689 : BitVec 32 := 2#32
  let c1_i32_483 : BitVec 32 := 1#32
  let v744 : BitVec 32 := Scalar.muli c2_i32_689 c1_i32_483
  let c1_i32_690 : BitVec 32 := 1#32
  let v745 : BitVec 32 := Scalar.addi v744 c1_i32_690
  let c512_i32_877 : BitVec 32 := 512#32
  let v946 : BitVec 32 := Scalar.muli v745 c512_i32_877
  v946
def k0_mult73 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_895 : BitVec 32 := 512#32
  let v965 : BitVec 32 := Scalar.muli v963 c512_i32_895
  v965
def k0_mult74 : BitVec 32 :=
  let c2_i32_894 : BitVec 32 := 2#32
  let c2_i32_891 : BitVec 32 := 2#32
  let v964 : BitVec 32 := Scalar.muli c2_i32_894 c2_i32_891
  let c512_i32_906 : BitVec 32 := 512#32
  let v976 : BitVec 32 := Scalar.muli v964 c512_i32_906
  v976
def k0_mult75 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_920 : BitVec 32 := 512#32
  let v992 : BitVec 32 := Scalar.muli v963 c512_i32_920
  v992
def k0_mult76 : BitVec 32 :=
  let c2_i32_894 : BitVec 32 := 2#32
  let c2_i32_891 : BitVec 32 := 2#32
  let v964 : BitVec 32 := Scalar.muli c2_i32_894 c2_i32_891
  let c512_i32_931 : BitVec 32 := 512#32
  let v1003 : BitVec 32 := Scalar.muli v964 c512_i32_931
  v1003
def k0_mult77 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_945 : BitVec 32 := 512#32
  let v1019 : BitVec 32 := Scalar.muli v963 c512_i32_945
  v1019
def k0_mult78 : BitVec 32 :=
  let c2_i32_894 : BitVec 32 := 2#32
  let c2_i32_891 : BitVec 32 := 2#32
  let v964 : BitVec 32 := Scalar.muli c2_i32_894 c2_i32_891
  let c512_i32_956 : BitVec 32 := 512#32
  let v1030 : BitVec 32 := Scalar.muli v964 c512_i32_956
  v1030
def k0_mult79 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_970 : BitVec 32 := 512#32
  let v1046 : BitVec 32 := Scalar.muli v963 c512_i32_970
  v1046
def k0_mult80 : BitVec 32 :=
  let c2_i32_894 : BitVec 32 := 2#32
  let c2_i32_891 : BitVec 32 := 2#32
  let v964 : BitVec 32 := Scalar.muli c2_i32_894 c2_i32_891
  let c512_i32_981 : BitVec 32 := 512#32
  let v1057 : BitVec 32 := Scalar.muli v964 c512_i32_981
  v1057
def k0_mult81 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_995 : BitVec 32 := 512#32
  let v1073 : BitVec 32 := Scalar.muli v963 c512_i32_995
  v1073
def k0_mult82 : BitVec 32 :=
  let c2_i32_894 : BitVec 32 := 2#32
  let c2_i32_891 : BitVec 32 := 2#32
  let v964 : BitVec 32 := Scalar.muli c2_i32_894 c2_i32_891
  let c512_i32_1006 : BitVec 32 := 512#32
  let v1084 : BitVec 32 := Scalar.muli v964 c512_i32_1006
  v1084
def k0_mult83 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_1020 : BitVec 32 := 512#32
  let v1100 : BitVec 32 := Scalar.muli v963 c512_i32_1020
  v1100
def k0_mult84 : BitVec 32 :=
  let c2_i32_894 : BitVec 32 := 2#32
  let c2_i32_891 : BitVec 32 := 2#32
  let v964 : BitVec 32 := Scalar.muli c2_i32_894 c2_i32_891
  let c512_i32_1031 : BitVec 32 := 512#32
  let v1111 : BitVec 32 := Scalar.muli v964 c512_i32_1031
  v1111
def k0_mult85 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_1045 : BitVec 32 := 512#32
  let v1127 : BitVec 32 := Scalar.muli v963 c512_i32_1045
  v1127
def k0_mult86 : BitVec 32 :=
  let c2_i32_894 : BitVec 32 := 2#32
  let c2_i32_891 : BitVec 32 := 2#32
  let v964 : BitVec 32 := Scalar.muli c2_i32_894 c2_i32_891
  let c512_i32_1056 : BitVec 32 := 512#32
  let v1138 : BitVec 32 := Scalar.muli v964 c512_i32_1056
  v1138
def k0_mult87 : BitVec 32 :=
  let c2_i32_892 : BitVec 32 := 2#32
  let c2_i32_891 : BitVec 32 := 2#32
  let v962 : BitVec 32 := Scalar.muli c2_i32_892 c2_i32_891
  let c1_i32_893 : BitVec 32 := 1#32
  let v963 : BitVec 32 := Scalar.addi v962 c1_i32_893
  let c512_i32_1070 : BitVec 32 := 512#32
  let v1154 : BitVec 32 := Scalar.muli v963 c512_i32_1070
  v1154
def k0_mult88 : BitVec 32 :=
  let c2_i32_894 : BitVec 32 := 2#32
  let c2_i32_891 : BitVec 32 := 2#32
  let v964 : BitVec 32 := Scalar.muli c2_i32_894 c2_i32_891
  let c512_i32_1081 : BitVec 32 := 512#32
  let v1165 : BitVec 32 := Scalar.muli v964 c512_i32_1081
  v1165
def k0_mult89 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1099 : BitVec 32 := 512#32
  let v1185 : BitVec 32 := Scalar.muli v1182 c512_i32_1099
  v1185
def k0_mult90 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1110 : BitVec 32 := 512#32
  let v1196 : BitVec 32 := Scalar.muli v1184 c512_i32_1110
  v1196
def k0_mult91 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1124 : BitVec 32 := 512#32
  let v1212 : BitVec 32 := Scalar.muli v1182 c512_i32_1124
  v1212
def k0_mult92 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1135 : BitVec 32 := 512#32
  let v1223 : BitVec 32 := Scalar.muli v1184 c512_i32_1135
  v1223
def k0_mult93 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1149 : BitVec 32 := 512#32
  let v1239 : BitVec 32 := Scalar.muli v1182 c512_i32_1149
  v1239
def k0_mult94 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1160 : BitVec 32 := 512#32
  let v1250 : BitVec 32 := Scalar.muli v1184 c512_i32_1160
  v1250
def k0_mult95 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1174 : BitVec 32 := 512#32
  let v1266 : BitVec 32 := Scalar.muli v1182 c512_i32_1174
  v1266
def k0_mult96 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1185 : BitVec 32 := 512#32
  let v1277 : BitVec 32 := Scalar.muli v1184 c512_i32_1185
  v1277
def k0_mult97 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1199 : BitVec 32 := 512#32
  let v1293 : BitVec 32 := Scalar.muli v1182 c512_i32_1199
  v1293
def k0_mult98 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1210 : BitVec 32 := 512#32
  let v1304 : BitVec 32 := Scalar.muli v1184 c512_i32_1210
  v1304
def k0_mult99 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1224 : BitVec 32 := 512#32
  let v1320 : BitVec 32 := Scalar.muli v1182 c512_i32_1224
  v1320
def k0_mult100 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1235 : BitVec 32 := 512#32
  let v1331 : BitVec 32 := Scalar.muli v1184 c512_i32_1235
  v1331
def k0_mult101 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1249 : BitVec 32 := 512#32
  let v1347 : BitVec 32 := Scalar.muli v1182 c512_i32_1249
  v1347
def k0_mult102 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1260 : BitVec 32 := 512#32
  let v1358 : BitVec 32 := Scalar.muli v1184 c512_i32_1260
  v1358
def k0_mult103 : BitVec 32 :=
  let c2_i32_1095 : BitVec 32 := 2#32
  let c2_i32_891 : BitVec 32 := 2#32
  let v1181 : BitVec 32 := Scalar.muli c2_i32_1095 c2_i32_891
  let c2_i32_1096 : BitVec 32 := 2#32
  let v1182 : BitVec 32 := Scalar.addi v1181 c2_i32_1096
  let c512_i32_1274 : BitVec 32 := 512#32
  let v1374 : BitVec 32 := Scalar.muli v1182 c512_i32_1274
  v1374
def k0_mult104 : BitVec 32 :=
  let c2_i32_1097 : BitVec 32 := 2#32
  let c2_i32_891 : BitVec 32 := 2#32
  let v1183 : BitVec 32 := Scalar.muli c2_i32_1097 c2_i32_891
  let c1_i32_1098 : BitVec 32 := 1#32
  let v1184 : BitVec 32 := Scalar.addi v1183 c1_i32_1098
  let c512_i32_1285 : BitVec 32 := 512#32
  let v1385 : BitVec 32 := Scalar.muli v1184 c512_i32_1285
  v1385
def k0_mult105 : BitVec 32 :=
  let c3584_i32 : BitVec 32 := 3584#32
  c3584_i32
def k0_mult106 : BitVec 32 :=
  let c3072_i32 : BitVec 32 := 3072#32
  c3072_i32
def k0_mult107 : BitVec 32 :=
  let c3584_i32_1322 : BitVec 32 := 3584#32
  c3584_i32_1322
def k0_mult108 : BitVec 32 :=
  let c3072_i32_1333 : BitVec 32 := 3072#32
  c3072_i32_1333
def k0_mult109 : BitVec 32 :=
  let c3584_i32_1347 : BitVec 32 := 3584#32
  c3584_i32_1347
def k0_mult110 : BitVec 32 :=
  let c3072_i32_1358 : BitVec 32 := 3072#32
  c3072_i32_1358
def k0_mult111 : BitVec 32 :=
  let c3584_i32_1372 : BitVec 32 := 3584#32
  c3584_i32_1372
def k0_mult112 : BitVec 32 :=
  let c3072_i32_1383 : BitVec 32 := 3072#32
  c3072_i32_1383
def k0_mult113 : BitVec 32 :=
  let c3584_i32_1397 : BitVec 32 := 3584#32
  c3584_i32_1397
def k0_mult114 : BitVec 32 :=
  let c3072_i32_1408 : BitVec 32 := 3072#32
  c3072_i32_1408
def k0_mult115 : BitVec 32 :=
  let c3584_i32_1422 : BitVec 32 := 3584#32
  c3584_i32_1422
def k0_mult116 : BitVec 32 :=
  let c3072_i32_1433 : BitVec 32 := 3072#32
  c3072_i32_1433
def k0_mult117 : BitVec 32 :=
  let c3584_i32_1447 : BitVec 32 := 3584#32
  c3584_i32_1447
def k0_mult118 : BitVec 32 :=
  let c3072_i32_1458 : BitVec 32 := 3072#32
  c3072_i32_1458
def k0_mult119 : BitVec 32 :=
  let c3584_i32_1472 : BitVec 32 := 3584#32
  c3584_i32_1472
def k0_mult120 : BitVec 32 :=
  let c3072_i32_1483 : BitVec 32 := 3072#32
  c3072_i32_1483
def k0_mult121 : BitVec 32 :=
  let c3584_i32_1497 : BitVec 32 := 3584#32
  c3584_i32_1497
def k0_mult122 : BitVec 32 :=
  let c3584_i32_1511 : BitVec 32 := 3584#32
  c3584_i32_1511
def k0_mult123 : BitVec 32 :=
  let c3584_i32_1525 : BitVec 32 := 3584#32
  c3584_i32_1525
def k0_mult124 : BitVec 32 :=
  let c3584_i32_1539 : BitVec 32 := 3584#32
  c3584_i32_1539
def k0_mult125 : BitVec 32 :=
  let c3584_i32_1553 : BitVec 32 := 3584#32
  c3584_i32_1553
def k0_mult126 : BitVec 32 :=
  let c3584_i32_1567 : BitVec 32 := 3584#32
  c3584_i32_1567
def k0_mult127 : BitVec 32 :=
  let c3584_i32_1581 : BitVec 32 := 3584#32
  c3584_i32_1581
def k0_mult128 : BitVec 32 :=
  let c3584_i32_1595 : BitVec 32 := 3584#32
  c3584_i32_1595
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x64 : Shape := ⟨4, ![8, 4096, 8, 64]⟩
abbrev S8x4096x2x64 : Shape := ⟨4, ![8, 4096, 2, 64]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x4096x2x4x64, .f32⟩
  | .hbm, ⟨4, _⟩ => ⟨S8x2x4096x4096x4, .f32⟩
  | .hbm, ⟨5, _⟩ => ⟨S8x2x4x4096x4096, .f32⟩
  | .hbm, ⟨6, _⟩ => ⟨S_, .f32⟩
  | .hbm, ⟨7, _⟩ => ⟨S8x2x4x4096x4096, .f32⟩
  | .hbm, ⟨8, _⟩ => ⟨S8x2x4x4096x4096, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4096, .f32⟩
  | .hbm, ⟨16, _⟩ => ⟨S8x2x4x4096x4096, .f32⟩
  | .hbm, ⟨17, _⟩ => ⟨S8x2x4x4096x4096, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x64x4x4096, .f32⟩
  | .hbm, ⟨24, _⟩ => ⟨S8x4096x2x4x64, .f32⟩
  | .hbm, ⟨25, _⟩ => ⟨S8x4096x512, .f32⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S8x6144 : Shape := ⟨2, ![8, 6144]⟩
abbrev S4x512 : Shape := ⟨2, ![4, 512]⟩
abbrev S4x512x512 : Shape := ⟨3, ![4, 512, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S2048x16x32x16 : Shape := ⟨4, ![2048, 16, 32, 16]⟩
abbrev S32x2048x16x16 : Shape := ⟨4, ![32, 2048, 16, 16]⟩
abbrev S32x2048x256 : Shape := ⟨3, ![32, 2048, 256]⟩
abbrev S8x6x1024 : Shape := ⟨3, ![8, 6, 1024]⟩
abbrev S1x512 : Shape := ⟨2, ![1, 512]⟩
abbrev S512 : Shape := ⟨1, ![512]⟩
abbrev S1x1024 : Shape := ⟨2, ![1, 1024]⟩
abbrev S1x512x1024 : Shape := ⟨3, ![1, 512, 1024]⟩
abbrev S1x512x512 : Shape := ⟨3, ![1, 512, 512]⟩
abbrev S32x32x256 : Shape := ⟨3, ![32, 32, 256]⟩
abbrev S1x6x1024 : Shape := ⟨3, ![1, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S4x512x128 : Shape := ⟨3, ![4, 512, 128]⟩
abbrev S16x128 : Shape := ⟨2, ![16, 128]⟩
abbrev S1x16x128 : Shape := ⟨3, ![1, 16, 128]⟩
abbrev S1x256x128 : Shape := ⟨3, ![1, 256, 128]⟩
abbrev S256x128 : Shape := ⟨2, ![256, 128]⟩
abbrev S256x512 : Shape := ⟨2, ![256, 512]⟩
abbrev S1x256x1024 : Shape := ⟨3, ![1, 256, 1024]⟩
abbrev S256x1024 : Shape := ⟨2, ![256, 1024]⟩
abbrev S1x256x512 : Shape := ⟨3, ![1, 256, 512]⟩
abbrev S512x512 : Shape := ⟨2, ![512, 512]⟩
abbrev S256 : Shape := ⟨1, ![256]⟩
abbrev S256x1 : Shape := ⟨2, ![256, 1]⟩
abbrev S512x1024 : Shape := ⟨2, ![512, 1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 40
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x6144, .f32⟩
  | .hbm, ⟨5, _⟩ => ⟨S4x512, .f32⟩
  | .hbm, ⟨6, _⟩ => ⟨S4x512x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x1024x1024, .f32⟩
  | .hbm, ⟨11, _⟩ => ⟨S4x1024, .f32⟩
  | .hbm, ⟨12, _⟩ => ⟨S4x1024x5632, .f32⟩
  | .hbm, ⟨13, _⟩ => ⟨S4x2816x1024, .f32⟩
  | .hbm, ⟨14, _⟩ => ⟨S1024, .f32⟩
  | .hbm, ⟨15, _⟩ => ⟨S2048x16x32x16, .f32⟩
  | .hbm, ⟨16, _⟩ => ⟨S32x2048x16x16, .f32⟩
  | .hbm, ⟨17, _⟩ => ⟨S32x2048x256, .f32⟩
  | .hbm, ⟨18, _⟩ => ⟨S8x6x1024, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S4x512x512, .bf16⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S4x1024x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4x1024x5632, .bf16⟩
  | .hbm, ⟨37, _⟩ => ⟨S4x2816x1024, .bf16⟩
  | .hbm, ⟨38, _⟩ => ⟨S1x1024, .f32⟩
  | .hbm, ⟨39, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S32x32x256, .f32⟩
  | .local _ .vmem, ⟨5, _⟩ => ⟨S32x32x256, .f32⟩
  | .local _ .vmem, ⟨6, _⟩ => ⟨S1x512x512, .f32⟩
  | .local _ .vmem, ⟨7, _⟩ => ⟨S1x512x512, .f32⟩
  | .local _ .vmem, ⟨8, _⟩ => ⟨S1x6x1024, .f32⟩
  | .local _ .vmem, ⟨9, _⟩ => ⟨S1x6x1024, .f32⟩
  | .local _ .vmem, ⟨10, _⟩ => ⟨S1x512, .f32⟩
  | .local _ .vmem, ⟨11, _⟩ => ⟨S1x512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1024x1024, .bf16⟩
  | .local _ .vmem, ⟨16, _⟩ => ⟨S1x1024, .f32⟩
  | .local _ .vmem, ⟨17, _⟩ => ⟨S1x1024x5632, .bf16⟩
  | .local _ .vmem, ⟨18, _⟩ => ⟨S1x2816x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S8x6144 : Shape := ⟨2, ![8, 6144]⟩
abbrev S4x512 : Shape := ⟨2, ![4, 512]⟩
abbrev S4x512x512 : Shape := ⟨3, ![4, 512, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S8x1x6144 : Shape := ⟨3, ![8, 1, 6144]⟩
abbrev S8x1x1024 : Shape := ⟨3, ![8, 1, 1024]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S1x512x512 : Shape := ⟨3, ![1, 512, 512]⟩
abbrev S512x512 : Shape := ⟨2, ![512, 512]⟩
abbrev S8x4096 : Shape := ⟨2, ![8, 4096]⟩
abbrev S8x4096x1 : Shape := ⟨3, ![8, 4096, 1]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 167
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x4096x512, .f32⟩
  | 4 => ⟨S8x6144, .f32⟩
  | 5 => ⟨S4x512, .f32⟩
  | 6 => ⟨S4x512x512, .f32⟩
  | 7 => ⟨S4x512, .f32⟩
  | 8 => ⟨S4x512, .f32⟩
  | 9 => ⟨S4x512, .f32⟩
  | 10 => ⟨S4x1024x1024, .f32⟩
  | 11 => ⟨S4x1024, .f32⟩
  | 12 => ⟨S4x1024x5632, .f32⟩
  | 13 => ⟨S4x2816x1024, .f32⟩
  | 14 => ⟨S1024, .f32⟩
  | 15 => ⟨S8x1x6144, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S1x512, .f32⟩
  | 23 => ⟨S512, .f32⟩
  | 24 => ⟨S1x1x512, .f32⟩
  | 25 => ⟨S8x4096x512, .f32⟩
  | 26 => ⟨S8x4096x512, .f32⟩
  | 27 => ⟨S8x4096x512, .f32⟩
  | 28 => ⟨S8x4096x512, .f32⟩
  | 29 => ⟨S8x4096x512, .f32⟩
  | 30 => ⟨S_, .f32⟩
  | 31 => ⟨S8x4096x512, .f32⟩
  | 32 => ⟨S8x4096x512, .f32⟩
  | 33 => ⟨S8x4096x512, .f32⟩
  | 34 => ⟨S_, .f32⟩
  | 35 => ⟨S8x4096x512, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S8x4096x512, .f32⟩
  | 45 => ⟨S1x512x512, .f32⟩
  | 46 => ⟨S512x512, .f32⟩
  | 47 => ⟨S8x4096x512, .f32⟩
  | 48 => ⟨S1x512, .f32⟩
  | 49 => ⟨S512, .f32⟩
  | 50 => ⟨S1x1x512, .f32⟩
  | 51 => ⟨S8x4096x512, .f32⟩
  | 52 => ⟨S8x4096x512, .f32⟩
  | 53 => ⟨S8x4096x512, .f32⟩
  | 54 => ⟨S8x4096x512, .f32⟩
  | 55 => ⟨S_, .f32⟩
  | 56 => ⟨S8x4096x512, .f32⟩
  | 57 => ⟨S8x4096x512, .f32⟩
  | 58 => ⟨S_, .f32⟩
  | 59 => ⟨S8x4096x512, .f32⟩
  | 60 => ⟨S8x4096x512, .f32⟩
  | 61 => ⟨S8x4096x512, .f32⟩
  | 62 => ⟨S1x512, .f32⟩
  | 63 => ⟨S512, .f32⟩
  | 64 => ⟨S8x4096x512, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x512, .f32⟩
  | 76 => ⟨S8x4096x512, .f32⟩
  | 77 => ⟨S1x1x512, .f32⟩
  | 78 => ⟨S8x4096x512, .f32⟩
  | 79 => ⟨S8x4096x512, .f32⟩
  | 80 => ⟨S1x512, .f32⟩
  | 81 => ⟨S512, .f32⟩
  | 82 => ⟨S8x4096x512, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x512, .f32⟩
  | 94 => ⟨S8x4096x512, .f32⟩
  | 95 => ⟨S1x1x512, .f32⟩
  | 96 => ⟨S8x4096x512, .f32⟩
  | 97 => ⟨S8x4096x512, .f32⟩
  | 98 => ⟨S8x4096x1024, .f32⟩
  | 99 => ⟨S1x1024x1024, .f32⟩
  | 100 => ⟨S1024x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S1x1024, .f32⟩
  | 106 => ⟨S1024, .f32⟩
  | 107 => ⟨S8x4096x1024, .f32⟩
  | 108 => ⟨S_, .f32⟩
  | 109 => ⟨S8x4096, .f32⟩
  | 110 => ⟨S8x4096x1, .f32⟩
  | 111 => ⟨S_, .f32⟩
  | 112 => ⟨S8x4096x1, .f32⟩
  | 113 => ⟨S8x4096x1, .f32⟩
  | 114 => ⟨S_, .f32⟩
  | 115 => ⟨S8x4096x1, .f32⟩
  | 116 => ⟨S8x4096x1, .f32⟩
  | 117 => ⟨S8x4096x1, .f32⟩
  | 118 => ⟨S8x4096x1024, .f32⟩
  | 119 => ⟨S8x4096x1024, .f32⟩
  | 120 => ⟨S1x1x1024, .f32⟩
  | 121 => ⟨S8x4096x1024, .f32⟩
  | 122 => ⟨S8x4096x1024, .f32⟩
  | 123 => ⟨S_, .f32⟩
  | 124 => ⟨S8x1x1024, .f32⟩
  | 125 => ⟨S8x1x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1024x5632, .f32⟩
  | 3 => ⟨S1024x5632, .f32⟩
  | 4 => ⟨S8x4096x5632, .f32⟩
  | 5 => ⟨S8x4096x2816, .f32⟩
  | 6 => ⟨S8x4096x2816, .f32⟩
  | 7 => ⟨S8x4096x2816, .f32⟩
  | 8 => ⟨S8x4096x2816, .f32⟩
  | 9 => ⟨S_, .f32⟩
  | 10 => ⟨S8x4096x2816, .f32⟩
  | 11 => ⟨S8x4096x2816, .f32⟩
  | 12 => ⟨S_, .f32⟩
  | 13 => ⟨S8x4096x2816, .f32⟩
  | 14 => ⟨S8x4096x2816, .f32⟩
  | 15 => ⟨S8x4096x2816, .f32⟩
  | 16 => ⟨S8x4096x2816, .f32⟩
  | 17 => ⟨S1x2816x1024, .f32⟩
  | 18 => ⟨S2816x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call0_v0 : Ref sig .tc := ⟨.hbm, 135, rfl⟩
abbrev main_call0_v1 : Ref sig .tc := ⟨.hbm, 136, rfl⟩
abbrev main_call0_cst : Ref sig .tc := ⟨.hbm, 137, rfl⟩
abbrev main_call0_v2 : Ref sig .tc := ⟨.hbm, 138, rfl⟩
abbrev main_call0_v3 : Ref sig .tc := ⟨.hbm, 139, rfl⟩
abbrev main_call0_cst_0 : Ref sig .tc := ⟨.hbm, 140, rfl⟩
abbrev main_call0_v4 : Ref sig .tc := ⟨.hbm, 141, rfl⟩
abbrev main_call0_v5 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_15 : Ref sig .tc := ⟨.hbm, 152, rfl⟩
abbrev main_v113 : Ref sig .tc := ⟨.hbm, 153, rfl⟩
abbrev main_v114 : Ref sig .tc := ⟨.hbm, 154, rfl⟩
abbrev main_cst_16 : Ref sig .tc := ⟨.hbm, 155, rfl⟩
abbrev main_v115 : Ref sig .tc := ⟨.hbm, 156, rfl⟩
abbrev main_v116 : Ref sig .tc := ⟨.hbm, 157, rfl⟩
abbrev main_cst_17 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S4x1024 : Shape := ⟨2, ![4, 1024]⟩
abbrev S4x1024x1280 : Shape := ⟨3, ![4, 1024, 1280]⟩
abbrev S4x64 : Shape := ⟨2, ![4, 64]⟩
abbrev S4x1024x640 : Shape := ⟨3, ![4, 1024, 640]⟩
abbrev S4x1024x10x32x2 : Shape := ⟨5, ![4, 1024, 10, 32, 2]⟩
abbrev S4x1024x10x2x32 : Shape := ⟨5, ![4, 1024, 10, 2, 32]⟩
abbrev S4x1x32x2 : Shape := ⟨4, ![4, 1, 32, 2]⟩
abbrev S4x1x2x32 : Shape := ⟨4, ![4, 1, 2, 32]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x4x2x64 : Shape := ⟨4, ![1, 4, 2, 64]⟩
abbrev S4x128 : Shape := ⟨2, ![4, 128]⟩
abbrev S4x1x128 : Shape := ⟨3, ![4, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x6x1024 : Shape := ⟨3, ![8, 6, 1024]⟩
abbrev S1x1024 : Shape := ⟨2, ![1, 1024]⟩
abbrev S1024 : Shape := ⟨1, ![1024]⟩
abbrev S1x1x512 : Shape := ⟨3, ![1, 1, 512]⟩
abbrev S1x512 : Shape := ⟨2, ![1, 512]⟩
abbrev S1x1x128 : Shape := ⟨3, ![1, 1, 128]⟩
abbrev S8x4096x512 : Shape := ⟨3, ![8, 4096, 512]⟩
abbrev S8x2x4096x64 : Shape := ⟨4, ![8, 2, 4096, 64]⟩
abbrev S8x2x80x4096 : Shape := ⟨4, ![8, 2, 80, 4096]⟩
abbrev S32x2048x256 : Shape := ⟨3, ![32, 2048, 256]⟩
abbrev S1x512x1024 : Shape := ⟨3, ![1, 512, 1024]⟩
abbrev S1x6x1024 : Shape := ⟨3, ![1, 6, 1024]⟩
abbrev S1x1024x1280 : Shape := ⟨3, ![1, 1024, 1280]⟩
abbrev S512x128 : Shape := ⟨2, ![512, 128]⟩
abbrev S1x512x512 : Shape := ⟨3, ![1, 512, 512]⟩
abbrev S1x2x512x64 : Shape := ⟨4, ![1, 2, 512, 64]⟩
abbrev S1x2x80x512 : Shape := ⟨4, ![1, 2, 80, 512]⟩
abbrev S32x32x256 : Shape := ⟨3, ![32, 32, 256]⟩
abbrev S4x512x128 : Shape := ⟨3, ![4, 512, 128]⟩
abbrev S1x1x1024 : Shape := ⟨3, ![1, 1, 1024]⟩
abbrev S256x128 : Shape := ⟨2, ![256, 128]⟩
abbrev S16x256 : Shape := ⟨2, ![16, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1280 : Shape := ⟨2, ![1024, 1280]⟩
abbrev S256x1280 : Shape := ⟨2, ![256, 1280]⟩
abbrev S1x256x128 : Shape := ⟨3, ![1, 256, 128]⟩
abbrev S128x256 : Shape := ⟨2, ![128, 256]⟩
abbrev S256x64 : Shape := ⟨2, ![256, 64]⟩
abbrev S1x1x256x64 : Shape := ⟨4, ![1, 1, 256, 64]⟩
abbrev S64x256 : Shape := ⟨2, ![64, 256]⟩
abbrev S1x1x64x256 : Shape := ⟨4, ![1, 1, 64, 256]⟩
abbrev S1x1x16x256 : Shape := ⟨4, ![1, 1, 16, 256]⟩
abbrev S256x512 : Shape := ⟨2, ![256, 512]⟩
abbrev S1x256x512 : Shape := ⟨3, ![1, 256, 512]⟩
abbrev S16x128 : Shape := ⟨2, ![16, 128]⟩
abbrev S1x16x128 : Shape := ⟨3, ![1, 16, 128]⟩

abbrev nBuf : Space → Nat
  | .hbm => 133
  | .vmem => 24
  | .smem => 0
  | _ => 0

abbrev hbmTy0_0 (i : Nat) : BufTy := match i % 128 with
  | 0 => ⟨S8x4096x1024, .f32⟩
  | 1 => ⟨S8x6144, .f32⟩
  | 2 => ⟨S4x1024, .f32⟩
  | 3 => ⟨S4x1024x1280, .f32⟩
  | 4 => ⟨S4x64, .f32⟩
  | 5 => ⟨S4x64, .f32⟩
  | 6 => ⟨S4x1024x640, .f32⟩
  | 7 => ⟨S4x1024x10x32x2, .f32⟩
  | 8 => ⟨S4x1024x10x2x32, .f32⟩
  | 9 => ⟨S4x1024x640, .f32⟩
  | 10 => ⟨S4x1024x640, .f32⟩
  | 11 => ⟨S4x1024x1280, .f32⟩
  | 12 => ⟨S4x1024x1280, .bf16⟩
  | 13 => ⟨S4x1x32x2, .f32⟩
  | 14 => ⟨S4x1x2x32, .f32⟩
  | 15 => ⟨S4x64, .f32⟩
  | 16 => ⟨S1x4x1x64, .f32⟩
  | 17 => ⟨S1x4x8x64, .f32⟩
  | 18 => ⟨S4x512, .f32⟩
  | 19 => ⟨S4x1x512, .f32⟩
  | 20 => ⟨S4x1x32x2, .f32⟩
  | 21 => ⟨S4x1x2x32, .f32⟩
  | 22 => ⟨S4x64, .f32⟩
  | 23 => ⟨S1x4x1x64, .f32⟩
  | 24 => ⟨S1x4x2x64, .f32⟩
  | 25 => ⟨S4x128, .f32⟩
  | 26 => ⟨S4x1x128, .f32⟩
  | 27 => ⟨S64, .f32⟩
  | 28 => ⟨S64x64, .f32⟩
  | 29 => ⟨S4096, .f32⟩
  | 30 => ⟨S64, .f32⟩
  | 31 => ⟨S1x64, .f32⟩
  | 32 => ⟨S64x64, .f32⟩
  | 33 => ⟨S4096, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S4096x1, .f32⟩
  | 51 => ⟨S1x16, .f32⟩
  | 52 => ⟨S4096x16, .f32⟩
  | 53 => ⟨S4096x16, .f32⟩
  | 54 => ⟨S4096x16, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096x32, .f32⟩
  | 61 => ⟨S4096x32, .f32⟩
  | 62 => ⟨S4096x32, .f32⟩
  | 63 => ⟨S4096x64, .f32⟩
  | 64 => ⟨S1x4096x1x64, .f32⟩
  | 65 => ⟨S1x4096x2x64, .f32⟩
  | 66 => ⟨S4096x128, .f32⟩
  | 67 => ⟨S4096x32, .f32⟩
  | 68 => ⟨S4096x64, .f32⟩
  | 69 => ⟨S1x4096x1x64, .f32⟩
  | 70 => ⟨S1x4096x2x64, .f32⟩
  | 71 => ⟨S4096x128, .f32⟩
  | 72 => ⟨S128, .i32⟩
  | 73 => ⟨S128x1, .i32⟩
  | 74 => ⟨S_, .i32⟩
  | 75 => ⟨S_, .i32⟩
  | 76 => ⟨S128x1, .i32⟩
  | 77 => ⟨S128x1, .i32⟩
  | 78 => ⟨S128x1, .i32⟩
  | 79 => ⟨S_, .i32⟩
  | 80 => ⟨S128x1, .i32⟩
  | 81 => ⟨S128x1, .i1⟩
  | 82 => ⟨S128x1, .i32⟩
  | 83 => ⟨S128x1, .i32⟩
  | 84 => ⟨S_, .i32⟩
  | 85 => ⟨S128x1, .i32⟩
  | 86 => ⟨S128x1, .i1⟩
  | 87 => ⟨S128x1, .i1⟩
  | 88 => ⟨S_, .i32⟩
  | 89 => ⟨S128x1, .i32⟩
  | 90 => ⟨S128x1, .i32⟩
  | 91 => ⟨S128x1, .i32⟩
  | 92 => ⟨S1x128, .i32⟩
  | 93 => ⟨S_, .i32⟩
  | 94 => ⟨S_, .i32⟩
  | 95 => ⟨S1x128, .i32⟩
  | 96 => ⟨S1x128, .i32⟩
  | 97 => ⟨S1x128, .i32⟩
  | 98 => ⟨S_, .i32⟩
  | 99 => ⟨S1x128, .i32⟩
  | 100 => ⟨S1x128, .i1⟩
  | 101 => ⟨S1x128, .i32⟩
  | 102 => ⟨S1x128, .i32⟩
  | 103 => ⟨S_, .i32⟩
  | 104 => ⟨S1x128, .i32⟩
  | 105 => ⟨S1x128, .i1⟩
  | 106 => ⟨S1x128, .i1⟩
  | 107 => ⟨S_, .i32⟩
  | 108 => ⟨S1x128, .i32⟩
  | 109 => ⟨S1x128, .i32⟩
  | 110 => ⟨S1x128, .i32⟩
  | 111 => ⟨S128x128, .i32⟩
  | 112 => ⟨S128x128, .i32⟩
  | 113 => ⟨S128x128, .i1⟩
  | 114 => ⟨S_, .f32⟩
  | 115 => ⟨S_, .f32⟩
  | 116 => ⟨S128x128, .f32⟩
  | 117 => ⟨S128x128, .f32⟩
  | 118 => ⟨S128x128, .f32⟩
  | 119 => ⟨S128x128, .bf16⟩
  | 120 => ⟨S8x6x1024, .f32⟩
  | 121 => ⟨S1x1024, .f32⟩
  | 122 => ⟨S1024, .f32⟩
  | 123 => ⟨S1x1024, .f32⟩
  | 124 => ⟨S1x1x512, .f32⟩
  | 125 => ⟨S1x512, .f32⟩
  | 126 => ⟨S1x1x128, .f32⟩
  | 127 => ⟨S1x128, .f32⟩
  | _ => ⟨S8x4096x1024, .f32⟩

abbrev hbmTy0_1 (i : Nat) : BufTy := match i % 128 with
  | 0 => ⟨S8x4096x512, .bf16⟩
  | 1 => ⟨S8x2x4096x64, .bf16⟩
  | 2 => ⟨S8x2x80x4096, .bf16⟩
  | 3 => ⟨S8x4096x512, .f32⟩
  | 4 => ⟨S32x2048x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x1280, .bf16⟩
  | .local _ .vmem, ⟨6, _⟩ => ⟨S1x512, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S128x128, .bf16⟩
  | .local _ .vmem, ⟨13, _⟩ => ⟨S1x512x512, .bf16⟩
  | .local _ .vmem, ⟨14, _⟩ => ⟨S1x512x512, .bf16⟩
  | .local _ .vmem, ⟨15, _⟩ => ⟨S1x2x512x64, .bf16⟩
  | .local _ .vmem, ⟨16, _⟩ => ⟨S1x2x512x64, .bf16⟩
  | .local _ .vmem, ⟨17, _⟩ => ⟨S1x2x80x512, .bf16⟩
  | .local _ .vmem, ⟨18, _⟩ => ⟨S1x2x80x512, .bf16⟩
  | .local _ .vmem, ⟨19, _⟩ => ⟨S1x512x512, .f32⟩
  | .local _ .vmem, ⟨20, _⟩ => ⟨S1x512x512, .f32⟩
  | .local _ .vmem, ⟨21, _⟩ => ⟨S32x32x256, .bf16⟩
  | .local _ .vmem, ⟨22, _⟩ => ⟨S32x32x256, .bf16⟩
  | .local _ .vmem, ⟨23, _⟩ => ⟨S4x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_c : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_c : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_c_0 : Ref sig .tc := ⟨.hbm, 88, rfl⟩
abbrev main_call0_v12 : Ref sig .tc := ⟨.hbm, 89, rfl⟩
abbrev main_call0_v13 : Ref sig .tc := ⟨.hbm, 90, rfl⟩
abbrev main_v63 : Ref sig .tc := ⟨.hbm, 91, rfl⟩
abbrev main_v64 : Ref sig .tc := ⟨.hbm, 92, rfl⟩
abbrev main_c_4 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_c : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_0 : Ref sig .tc := ⟨.hbm, 107, rfl⟩
abbrev main_call1_v12 : Ref sig .tc := ⟨.hbm, 108, rfl⟩
abbrev main_call1_v13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_5 : Ref sig .tc := ⟨.hbm, 114, rfl⟩
abbrev main_cst_6 : Ref sig .tc := ⟨.hbm, 115, rfl⟩
abbrev main_call2_v0 : Ref sig .tc := ⟨.hbm, 116, rfl⟩
abbrev main_call2_v1 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79_0 : Ref sig .tc := ⟨.hbm, 128, rfl⟩
abbrev main_v79_1 : Ref sig .tc := ⟨.hbm, 129, rfl⟩
abbrev main_v79_2 : Ref sig .tc := ⟨.hbm, 130, rfl⟩
abbrev main_v79_3 : Ref sig .tc := ⟨.hbm, 131, rfl⟩
abbrev main_v79_4 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x32x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x4096x1024 : Shape := ⟨3, ![8, 4096, 1024]⟩
abbrev S8x6144 : Shape := ⟨2, ![8, 6144]⟩
abbrev S4x1024 : Shape := ⟨2, ![4, 1024]⟩
abbrev S4x1024x1280 : Shape := ⟨3, ![4, 1024, 1280]⟩
abbrev S4x64 : Shape := ⟨2, ![4, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x1280 : Shape := ⟨3, ![1, 1024, 1280]⟩
abbrev S1024x1280 : Shape := ⟨2, ![1024, 1280]⟩
abbrev S8x4096x1280 : Shape := ⟨3, ![8, 4096, 1280]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x32x2 : Shape := ⟨5, ![8, 4096, 8, 32, 2]⟩
abbrev S8x4096x8x32x1 : Shape := ⟨5, ![8, 4096, 8, 32, 1]⟩
abbrev S8x4096x8x32 : Shape := ⟨4, ![8, 4096, 8, 32]⟩
abbrev S1x4096x1x32 : Shape := ⟨4, ![1, 4096, 1, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32x2 : Shape := ⟨5, ![8, 4096, 2, 32, 2]⟩
abbrev S8x4096x2x32x1 : Shape := ⟨5, ![8, 4096, 2, 32, 1]⟩
abbrev S8x4096x2x32 : Shape := ⟨4, ![8, 4096, 2, 32]⟩
abbrev S8x4096x8x2x32 : Shape := ⟨5, ![8, 4096, 8, 2, 32]⟩
abbrev S8x4096x2x2x32 : Shape := ⟨5, ![8, 4096, 2, 2, 32]⟩
abbrev S8x2x4096x64 : Shape := ⟨4, ![8, 2, 4096, 64]⟩
abbrev S8x2x64x4096 : Shape := ⟨4, ![8, 2, 64, 4096]⟩
abbrev S8x2x16x4096 : Shape := ⟨4, ![8, 2, 16, 4096]⟩
abbrev S8x2x80x4096 : Shape := ⟨4, ![8, 2, 80, 4096]⟩
abbrev S2048x16x32x16 : Shape := ⟨4, ![2048, 16, 32, 16]⟩
abbrev S32x2048x16x16 : Shape := ⟨4, ![32, 2048, 16, 16]⟩
abbrev S32x2048x256 : Shape := ⟨3, ![32, 2048, 256]⟩

abbrev nBuf : Space → Nat
  | .hbm => 181
  | .vmem => 0
  | .smem => 0
  | _ => 0

abbrev hbmTy0_0 (i : Nat) : BufTy := match i % 128 with
  | 0 => ⟨S8x4096x1024, .f32⟩
  | 1 => ⟨S8x6144, .f32⟩
  | 2 => ⟨S4x1024, .f32⟩
  | 3 => ⟨S4x1024x1280, .f32⟩
  | 4 => ⟨S4x64, .f32⟩
  | 5 => ⟨S4x64, .f32⟩
  | 6 => ⟨S64, .f32⟩
  | 7 => ⟨S64x64, .f32⟩
  | 8 => ⟨S4096, .f32⟩
  | 9 => ⟨S64, .f32⟩
  | 10 => ⟨S1x64, .f32⟩
  | 11 => ⟨S64x64, .f32⟩
  | 12 => ⟨S4096, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S4096x32, .f32⟩
  | 40 => ⟨S4096x32, .f32⟩
  | 41 => ⟨S4096x32, .f32⟩
  | 42 => ⟨S8x1x6144, .f32⟩
  | 43 => ⟨S8x1x1024, .f32⟩
  | 44 => ⟨S8x1x1024, .f32⟩
  | 45 => ⟨S8x1x1024, .f32⟩
  | 46 => ⟨S8x1x1024, .f32⟩
  | 47 => ⟨S8x1x1024, .f32⟩
  | 48 => ⟨S8x1x1024, .f32⟩
  | 49 => ⟨S1x1024, .f32⟩
  | 50 => ⟨S1024, .f32⟩
  | 51 => ⟨S8x4096x1024, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x1024, .f32⟩
  | 63 => ⟨S8x4096x1024, .f32⟩
  | 64 => ⟨S1x1x1024, .f32⟩
  | 65 => ⟨S8x4096x1024, .f32⟩
  | 66 => ⟨S8x4096x1024, .f32⟩
  | 67 => ⟨S_, .f32⟩
  | 68 => ⟨S8x1x1024, .f32⟩
  | 69 => ⟨S8x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S1x1024x1280, .f32⟩
  | 75 => ⟨S1024x1280, .f32⟩
  | 76 => ⟨S8x4096x1280, .f32⟩
  | 77 => ⟨S8x4096x512, .f32⟩
  | 78 => ⟨S8x4096x128, .f32⟩
  | 79 => ⟨S8x4096x128, .f32⟩
  | 80 => ⟨S8x4096x512, .f32⟩
  | 81 => ⟨S8x4096x8x64, .f32⟩
  | 82 => ⟨S1x64, .f32⟩
  | 83 => ⟨S64, .f32⟩
  | 84 => ⟨S8x4096x8x64, .f32⟩
  | 85 => ⟨S_, .f32⟩
  | 86 => ⟨S8x4096x8, .f32⟩
  | 87 => ⟨S8x4096x8x1, .f32⟩
  | 88 => ⟨S_, .f32⟩
  | 89 => ⟨S8x4096x8x1, .f32⟩
  | 90 => ⟨S8x4096x8x1, .f32⟩
  | 91 => ⟨S_, .f32⟩
  | 92 => ⟨S8x4096x8x1, .f32⟩
  | 93 => ⟨S8x4096x8x1, .f32⟩
  | 94 => ⟨S8x4096x8x1, .f32⟩
  | 95 => ⟨S8x4096x8x64, .f32⟩
  | 96 => ⟨S8x4096x8x64, .f32⟩
  | 97 => ⟨S1x1x1x64, .f32⟩
  | 98 => ⟨S8x4096x8x64, .f32⟩
  | 99 => ⟨S8x4096x8x64, .f32⟩
  | 100 => ⟨S8x4096x8x32x2, .f32⟩
  | 101 => ⟨S8x4096x8x32x1, .f32⟩
  | 102 => ⟨S8x4096x8x32, .f32⟩
  | 103 => ⟨S8x4096x8x32x1, .f32⟩
  | 104 => ⟨S8x4096x8x32, .f32⟩
  | 105 => ⟨S1x4096x1x32, .f32⟩
  | 106 => ⟨S1x4096x1x32, .f32⟩
  | 107 => ⟨S8x4096x8x32, .f32⟩
  | 108 => ⟨S8x4096x8x32, .f32⟩
  | 109 => ⟨S8x4096x8x32, .f32⟩
  | 110 => ⟨S8x4096x8x32, .f32⟩
  | 111 => ⟨S8x4096x8x32, .f32⟩
  | 112 => ⟨S8x4096x8x32, .f32⟩
  | 113 => ⟨S8x4096x8x32, .f32⟩
  | 114 => ⟨S8x4096x8x32, .f32⟩
  | 115 => ⟨S8x4096x8x32, .f32⟩
  | 116 => ⟨S8x4096x8x32, .f32⟩
  | 117 => ⟨S8x4096x8x32x1, .f32⟩
  | 118 => ⟨S8x4096x8x32x1, .f32⟩
  | 119 => ⟨S8x4096x8x32x2, .f32⟩
  | 120 => ⟨S8x4096x8x64, .f32⟩
  | 121 => ⟨S8x4096x2x64, .f32⟩
  | 122 => ⟨S1x64, .f32⟩
  | 123 => ⟨S64, .f32⟩
  | 124 => ⟨S8x4096x2x64, .f32⟩
  | 125 => ⟨S_, .f32⟩
  | 126 => ⟨S8x4096x2, .f32⟩
  | 127 => ⟨S8x4096x2x1, .f32⟩
  | _ => ⟨S8x4096x1024, .f32⟩

abbrev hbmTy0_1 (i : Nat) : BufTy := match i % 128 with
  | 0 => ⟨S_, .f32⟩
  | 1 => ⟨S8x4096x2x1, .f32⟩
  | 2 => ⟨S8x4096x2x1, .f32⟩
  | 3 => ⟨S_, .f32⟩
  | 4 => ⟨S8x4096x2x1, .f32⟩
  | 5 => ⟨S8x4096x2x1, .f32⟩
  | 6 => ⟨S8x4096x2x1, .f32⟩
  | 7 => ⟨S8x4096x2x64, .f32⟩
  | 8 => ⟨S8x4096x2x64, .f32⟩
  | 9 => ⟨S1x1x1x64, .f32⟩
  | 10 => ⟨S8x4096x2x64, .f32⟩
  | 11 => ⟨S8x4096x2x64, .f32⟩
  | 12 => ⟨S8x4096x2x32x2, .f32⟩
  | 13 => ⟨S8x4096x2x32x1, .f32⟩
  | 14 => ⟨S8x4096x2x32, .f32⟩
  | 15 => ⟨S8x4096x2x32x1, .f32⟩
  | 16 => ⟨S8x4096x2x32, .f32⟩
  | 17 => ⟨S1x4096x1x32, .f32⟩
  | 18 => ⟨S1x4096x1x32, .f32⟩
  | 19 => ⟨S8x4096x2x32, .f32⟩
  | 20 => ⟨S8x4096x2x32, .f32⟩
  | 21 => ⟨S8x4096x2x32, .f32⟩
  | 22 => ⟨S8x4096x2x32, .f32⟩
  | 23 => ⟨S8x4096x2x32, .f32⟩
  | 24 => ⟨S8x4096x2x32, .f32⟩
  | 25 => ⟨S8x4096x2x32, .f32⟩
  | 26 => ⟨S8x4096x2x32, .f32⟩
  | 27 => ⟨S8x4096x2x32, .f32⟩
  | 28 => ⟨S8x4096x2x32, .f32⟩
  | 29 => ⟨S8x4096x2x32x1, .f32⟩
  | 30 => ⟨S8x4096x2x32x1, .f32⟩
  | 31 => ⟨S8x4096x2x32x2, .f32⟩
  | 32 => ⟨S8x4096x2x64, .f32⟩
  | 33 => ⟨S8x4096x2x64, .f32⟩
  | 34 => ⟨S8x4096x8x32x2, .f32⟩
  | 35 => ⟨S8x4096x8x2x32, .f32⟩
  | 36 => ⟨S8x4096x8x64, .f32⟩
  | 37 => ⟨S8x4096x512, .f32⟩
  | 38 => ⟨S8x4096x2x32x2, .f32⟩
  | 39 => ⟨S8x4096x2x2x32, .f32⟩
  | 40 => ⟨S8x4096x2x64, .f32⟩
  | 41 => ⟨S8x2x4096x64, .f32⟩
  | 42 => ⟨S8x2x64x4096, .f32⟩
  | 43 => ⟨S_, .f32⟩
  | 44 => ⟨S8x2x16x4096, .f32⟩
  | 45 => ⟨S8x2x80x4096, .f32⟩
  | 46 => ⟨S2048x16x32x16, .f32⟩
  | 47 => ⟨S32x2048x16x16, .f32⟩
  | 48 => ⟨S8x4096x512, .bf16⟩
  | 49 => ⟨S8x2x4096x64, .bf16⟩
  | 50 => ⟨S8x2x80x4096, .bf16⟩
  | 51 => ⟨S32x2048x256, .f32⟩
  | 52 => ⟨S32x2048x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_cst_12 : Ref sig .tc := ⟨.hbm, 128, rfl⟩
abbrev main_v109 : Ref sig .tc := ⟨.hbm, 129, rfl⟩
abbrev main_v110 : Ref sig .tc := ⟨.hbm, 130, rfl⟩
abbrev main_cst_13 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_14 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩

abbrev nD : Nat := 1
abbrev τ : Topo := Topo.v7x

variable {F : FTy → Type} [FloatOps F]
-- ==== Kernel4.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.MixFrame.lean ====
/- The call that ends a layer, at bit patterns: its idealization has the same text, so the run found for the one is the other's. -/
module

public import proofs.«01_k».proof.Defs
public import proofs.«01_k».proof.Proof.Gen.Kernel2
public import proofs.«01_k».proof.Proof.Gen.Kernel2Ideal.Value

@[expose] public section

set_option maxRecDepth 16384

noncomputable section

namespace Cert.Mix

open Idealize.ShloMosaic Idealize.SL.Sem

set_option maxHeartbeats 4000000 in
/-- The kernel and its idealization have the same text, so the same bodies … -/
theorem bodies_eq : Cert.Kernel2.defs₀ (F := Bits) = Cert.Kernel2Ideal.defs₀ (F := Bits) := by
  refine congrArg Defs.onTc (funext fun ℓ => funext fun a => ?_)
  match ℓ, a with
  | ⟨0, _⟩, (t, s) => rfl
  | ⟨_ + 1, h⟩, _ => exact absurd h (Nat.not_lt.2 (Nat.le_add_left _ _))

set_option maxHeartbeats 4000000 in
theorem defs_eq : Cert.Kernel2.defs (F := Bits) = Cert.Kernel2Ideal.defs (F := Bits) :=
  congrArg (Pipeline.defs Cert.Kernel2Ideal.pcfgs) bodies_eq

set_option maxHeartbeats 4000000 in
/-- … and the same run: the kernel's at bit patterns. -/
theorem frame_kernel : Cert.quiescent_Kernel2 := by
  intro m ρ _
  rw [defs_eq]
  exact Cert.Kernel2Ideal.Gen.frame (F := Bits) m ρ

end Cert.Mix
-- ==== Proof.AttentionBlock.lean ====
/- One grid point of the attention kernel: the output block as a function of the point's three input blocks.
   A point holds 512 queries of four heads that share one key/value head.  It works in eight UNITS, a unit being one
   of the four heads `r` and one half `c` of the queries (256 of them); for each unit it goes through the keys in
   eight blocks `j` of 512, adding the block's weighted values to an accumulator of 80 rows: rows 0 to 63 are the
   value's entries, rows 64 to 79 carry ones, so row 64 adds up the weights themselves. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attention

open Cert.KernelIdeal Cert.KernelIdeal.Gen Idealize.ShloMosaic Idealize.ShloMosaic.TcCoe Idealize.SL.Sem
open Idealize.ShloMosaic.Pipeline (Dat)

variable {F : FTy → Type} [FloatOps F]

theorem inb_keys (j : Fin 8) : ∀ a, (![0, 0, 512 * j.val, 0] : Fin 4 → ℕ) a + S1x1x512x64.size a ≤ S1x1x4096x64.size a := by
  intro a; fin_cases a <;> simp <;> omega

theorem inb_vals (j : Fin 8) : ∀ a, (![0, 0, 0, 512 * j.val] : Fin 4 → ℕ) a + S1x1x80x512.size a ≤ S1x1x80x4096.size a := by
  intro a; fin_cases a <;> simp <;> omega

theorem inb_query (r : Fin 4) (c : Fin 2) :
    ∀ a, (![0, 256 * c.val, 64 * r.val] : Fin 3 → ℕ) a + S1x256x64.size a ≤ S1x512x256.size a := by
  intro a; fin_cases a <;> simp <;> omega

/-- The `j`-th block of 512 keys. -/
def keys (x1 : Vec F S1x1x4096x64 .bf16) (j : Fin 8) : Vec F S1x1x512x64 .bf16 :=
  View.ld x1 (Rect.unit ![0, 0, 512 * j.val, 0] S1x1x512x64.size (inb_keys j))

/-- The `j`-th block of 512 values, a value being a column of 80 rows. -/
def vals (x2 : Vec F S1x1x80x4096 .bf16) (j : Fin 8) : Vec F S1x1x80x512 .bf16 :=
  View.ld x2 (Rect.unit ![0, 0, 0, 512 * j.val] S1x1x80x512.size (inb_vals j))

/-- The queries of unit `(r, c)`. -/
def query (x0 : Vec F S1x512x256 .bf16) (r : Fin 4) (c : Fin 2) : Vec F S1x256x64 .bf16 :=
  View.ld x0 (Rect.unit ![0, 256 * c.val, 64 * r.val] S1x256x64.size (inb_query r c))

/-- The scores of a block of keys against a unit's queries. -/
def scores (K : Vec F S1x1x512x64 .bf16) (Q : Vec F S1x256x64 .bf16) : FVec F S512x256 .f32 :=
  matmul dot_S512x64_S256x64_S512x256_1_1_0_0_n_n none
    (shapeCast S512x64 K shapeCasts_S1x1x512x64_S512x64 : FVec F S512x64 .bf16)
    (shapeCast S256x64 Q shapeCasts_S1x256x64_S256x64 : FVec F S256x64 .bf16) (constant S512x256 .f32 0x00000000#32)

/-- The accumulator after one more block of keys: the block's weights, powers of two of its scores, times its values. -/
def accStep (V : Vec F S1x1x80x512 .bf16) (A : Vec F S1x80x256 .f32) (S : FVec F S512x256 .f32) : FVec F S1x80x256 .f32 :=
  shapeCast S1x80x256
    (addf (shapeCast S80x256 A shapeCasts_S1x80x256_S80x256 : FVec F S80x256 .f32)
      (matmul dot_S80x512_S512x256_S80x256_1_0_0_1_n_n none
        (shapeCast S80x512 V shapeCasts_S1x1x80x512_S80x512 : FVec F S80x512 .bf16)
        (truncf .bf16 (exp2 (shapeCast S512x256 (shapeCast S1x512x256 S shapeCasts_S512x256_S1x512x256 : FVec F S1x512x256 .f32)
          shapeCasts_S1x512x256_S512x256 : FVec F S512x256 .f32)) bitsLt_bf16_f32 : FVec F S512x256 .bf16)
        (constant S80x256 .f32 0x00000000#32)))
    shapeCasts_S80x256_S1x80x256

/-- One unit's step over key block `j`. -/
def unitStep (x0 : Vec F S1x512x256 .bf16) (x1 : Vec F S1x1x4096x64 .bf16) (x2 : Vec F S1x1x80x4096 .bf16)
    (r : Fin 4) (c : Fin 2) (j : Fin 8) (A : Vec F S1x80x256 .f32) : FVec F S1x80x256 .f32 :=
  accStep (vals x2 j) A (scores (keys x1 j) (query x0 r c))

/-- One unit's accumulator after all eight blocks, from the start `Z`. -/
def unitAcc (x0 : Vec F S1x512x256 .bf16) (x1 : Vec F S1x1x4096x64 .bf16) (x2 : Vec F S1x1x80x4096 .bf16)
    (r : Fin 4) (c : Fin 2) (Z : Vec F S1x80x256 .f32) : FVec F S1x80x256 .f32 :=
  let s := unitStep x0 x1 x2 r c
  s 7 (s 6 (s 5 (s 4 (s 3 (s 2 (s 1 (s 0 Z)))))))

/-- A unit's quotient: the 64 rows of weighted values by the row of added weights. -/
def quotient (A : Vec F S1x80x256 .f32) : FVec F S64x256 .f32 :=
  divf (extractStridedSlice S64x256 ![0, 0] (shapeCast S80x256 A shapeCasts_S1x80x256_S80x256 : FVec F S80x256 .f32) slices_S80x256_o0_0_S64x256)
    (broadcastTo S64x256 (extractStridedSlice S1x256 ![64, 0] (shapeCast S80x256 A shapeCasts_S1x80x256_S80x256 : FVec F S80x256 .f32)
      slices_S80x256_o64_0_S1x256) broadcasts_S1x256_S64x256)

/-- One head's two halves side by side. -/
def headOut (A₀ A₁ : Vec F S1x80x256 .f32) : FVec F S64x512 .f32 :=
  concatenate S64x512 1 [⟨S64x256, quotient A₀⟩, ⟨S64x256, quotient A₁⟩] concatenates_S64x256_S64x256_S64x512_d1

/-- The output block of the eight accumulators: the heads under one another, and the whole turned. -/
def assemble (A : Fin 4 → Fin 2 → Vec F S1x80x256 .f32) : FVec F S1x512x256 .f32 :=
  shapeCast S1x512x256
    (transpose S512x256 [1, 0]
      (concatenate S256x512 0 [⟨S64x512, headOut (A 0 0) (A 0 1)⟩, ⟨S64x512, headOut (A 1 0) (A 1 1)⟩,
        ⟨S64x512, headOut (A 2 0) (A 2 1)⟩, ⟨S64x512, headOut (A 3 0) (A 3 1)⟩]
        concatenates_S64x512_S64x512_S64x512_S64x512_S256x512_d0)
      transposes_S256x512_p1_0_S512x256)
    shapeCasts_S512x256_S1x512x256

theorem inb_start (r : Fin 4) (c : Fin 2) :
    ∀ a, (![2 * r.val + c.val, 0, 0] : Fin 3 → ℕ) a + S1x80x256.size a ≤ S8x80x256.size a := by
  intro a; fin_cases a <;> simp <;> omega

/-- Where a unit's accumulator starts: its own slice of the accumulators, all set to zero. -/
def start (r : Fin 4) (c : Fin 2) : Vec F S1x80x256 .f32 :=
  View.ld (k0_pay2 (F := F)) (Rect.unit (s := S8x80x256) ![2 * r.val + c.val, 0, 0] S1x80x256.size (inb_start r c))

/-- The output block of a grid point, from its blocks of queries, keys and values. -/
def block (x0 : Vec F S1x512x256 .bf16) (x1 : Vec F S1x1x4096x64 .bf16) (x2 : Vec F S1x1x80x4096 .bf16) : FVec F S1x512x256 .f32 :=
  assemble fun r c => unitAcc x0 x1 x2 r c (start r c)

variable (m : (ℓ : Loc nD τ sig) → Buf (Elt F) ℓ)

set_option maxHeartbeats 2000000 in
/-- What a grid point leaves in the output window is `block` of its input blocks. -/
theorem outsAt_eq (c : Dev nD) (t : Fin cfg0.N) : outsAt0 m c t = block (iblk m c 0 t) (iblk m c 1 t) (iblk m c 2 t) := by
  unfold outsAt0
  frame_open
  simp (disch := decide) only [↓ View.readCov_skip, ↓ View.readCov_cons_toLoadRect, ↓ View.readCov_fill]
  frame_out
  generalize iblk m c 0 t = x0
  generalize iblk m c 1 t = x1
  generalize iblk m c 2 t = x2
  rfl

end Cert.Attention
-- ==== Proof.AttentionPoint.lean ====
/- What a grid point's output block holds, element by element, over the extended reals: at query `i` and column `n`
   (head `n / 64`, entry `n % 64`), the weighted sum of the values' entries divided by the sum of the weights, the
   weight of key `k` being two to the power of its score. -/
module

public import proofs.«01_k».proof.Proof.AttentionBlock
public import Idealize.ShloMosaic.Lib.Pointwise

@[expose] public section

set_option maxRecDepth 16384

noncomputable section

namespace Cert.Attention

open Cert.KernelIdeal Cert.KernelIdeal.Gen Idealize.ShloMosaic Idealize.ShloMosaic.TcCoe Idealize.SL.Sem

theorem scores_apply (K : FVec Ideal S1x1x512x64 .bf16) (Q : FVec Ideal S1x256x64 .bf16) (k : Fin 512) (i : Fin 256) :
    scores (F := Ideal) K Q (ix2 k i) = ∑ d : Fin 64, K (ix4 0 0 k d) * Q (ix3 0 i d) := by
  pointwise [scores]

theorem accStep_apply (V : FVec Ideal S1x1x80x512 .bf16) (A : FVec Ideal S1x80x256 .f32) (S : FVec Ideal S512x256 .f32)
    (h : Fin 80) (i : Fin 256) :
    accStep (F := Ideal) V A S (ix3 0 h i) = A (ix3 0 h i) + ∑ k : Fin 512, V (ix4 0 0 h k) * Ideal.exp2 (S (ix2 k i)) := by
  pointwise [accStep]
  rfl

theorem keys_apply (x1 : FVec Ideal S1x1x4096x64 .bf16) (j : Fin 8) (k : Fin 512) (d : Fin 64) :
    keys (F := Ideal) x1 j (ix4 0 0 k d) = x1 (ix4 0 0 ⟨512 * j.val + k.val, by omega⟩ d) := by
  pointwise [keys]

theorem vals_apply (x2 : FVec Ideal S1x1x80x4096 .bf16) (j : Fin 8) (h : Fin 80) (k : Fin 512) :
    vals (F := Ideal) x2 j (ix4 0 0 h k) = x2 (ix4 0 0 h ⟨512 * j.val + k.val, by omega⟩) := by
  pointwise [vals]

theorem query_apply (x0 : FVec Ideal S1x512x256 .bf16) (r : Fin 4) (c : Fin 2) (i : Fin 256) (d : Fin 64) :
    query (F := Ideal) x0 r c (ix3 0 i d) = x0 (ix3 0 ⟨256 * c.val + i.val, by omega⟩ ⟨64 * r.val + d.val, by omega⟩) := by
  pointwise [query]

theorem start_apply (r : Fin 4) (c : Fin 2) (h : Fin 80) (i : Fin 256) : start (F := Ideal) r c (ix3 0 h i) = 0 := by
  pointwise [start, k0_pay2]

/-- The weight of key `k` for unit `(r, c)`'s query `i`. -/
def weight (x0 : FVec Ideal S1x512x256 .bf16) (x1 : FVec Ideal S1x1x4096x64 .bf16) (s : Fin 512) (r : Fin 4) (k : Fin 4096) : EReal :=
  Ideal.exp2 (∑ d : Fin 64, x1 (ix4 0 0 k d) * x0 (ix3 0 s ⟨64 * r.val + d.val, by omega⟩))

/-- A sum over 4096 keys, taken in eight blocks of 512. -/
theorem sum_blocks (f : Fin 4096 → EReal) :
    ∑ k : Fin 4096, f k = ∑ j : Fin 8, ∑ k : Fin 512, f ⟨512 * j.val + k.val, by omega⟩ := by
  rw [← Fintype.sum_prod_type', ← (finProdFinEquiv (m := 8) (n := 512)).sum_comp]
  refine Finset.sum_congr rfl fun p _ => congrArg f (Fin.ext ?_)
  simp [finProdFinEquiv, add_comm]

theorem unitAcc_apply (x0 : FVec Ideal S1x512x256 .bf16) (x1 : FVec Ideal S1x1x4096x64 .bf16) (x2 : FVec Ideal S1x1x80x4096 .bf16)
    (r : Fin 4) (c : Fin 2) (h : Fin 80) (i : Fin 256) :
    unitAcc (F := Ideal) x0 x1 x2 r c (start r c) (ix3 0 h i)
      = ∑ k : Fin 4096, x2 (ix4 0 0 h k) * weight x0 x1 ⟨256 * c.val + i.val, by omega⟩ r k := by
  have step (j : Fin 8) (A : FVec Ideal S1x80x256 .f32) : unitStep (F := Ideal) x0 x1 x2 r c j A (ix3 0 h i)
      = A (ix3 0 h i) + ∑ k : Fin 512, x2 (ix4 0 0 h ⟨512 * j.val + k.val, by omega⟩)
          * weight x0 x1 ⟨256 * c.val + i.val, by omega⟩ r ⟨512 * j.val + k.val, by omega⟩ := by
    rw [unitStep, accStep_apply]
    refine congrArg _ (Finset.sum_congr rfl fun k _ => ?_)
    rw [vals_apply, scores_apply, weight]
    simp only [keys_apply, query_apply]
  rw [sum_blocks, Fin.sum_univ_eight]
  simp only [unitAcc, step, start_apply, zero_add]

theorem quotient_apply (A : FVec Ideal S1x80x256 .f32) (h : Fin 64) (i : Fin 256) :
    quotient (F := Ideal) A (ix2 h i) = Ideal.div (A (ix3 0 ⟨h.val, by omega⟩ i)) (A (ix3 0 64 i)) := by
  pointwise [quotient]

theorem headOut_apply (A : Fin 2 → FVec Ideal S1x80x256 .f32) (h : Fin 64) (s : Fin 512) :
    headOut (F := Ideal) (A 0) (A 1) (ix2 h s) = quotient (F := Ideal) (A ⟨s.val / 256, by omega⟩) (ix2 h ⟨s.val % 256, by omega⟩) := by
  have at_cols : ∀ (c : Fin 2) (i : Fin 256), c.val = s.val / 256 → i.val = s.val % 256 →
      quotient (F := Ideal) (A c) (ix2 h i) = quotient (F := Ideal) (A ⟨s.val / 256, by omega⟩) (ix2 h ⟨s.val % 256, by omega⟩) := by
    intro c i hc hi
    rw [show (⟨s.val / 256, by omega⟩ : Fin 2) = c from Fin.ext hc.symm, show (⟨s.val % 256, by omega⟩ : Fin 256) = i from Fin.ext hi.symm]
  pointwise [headOut]
  split
  · exact at_cols 0 _ (show 0 = s.val / 256 by omega) (show s.val = s.val % 256 by omega)
  · exact at_cols 1 _ (show 1 = s.val / 256 by omega) (show s.val - 256 = s.val % 256 by omega)

theorem assemble_apply (A : Fin 4 → Fin 2 → FVec Ideal S1x80x256 .f32) (s : Fin 512) (n : Fin 256) :
    assemble (F := Ideal) A (ix3 0 s n) = headOut (F := Ideal) (A ⟨n.val / 64, by omega⟩ 0) (A ⟨n.val / 64, by omega⟩ 1) (ix2 ⟨n.val % 64, by omega⟩ s) := by
  have at_rows : ∀ (r : Fin 4) (h : Fin 64), r.val = n.val / 64 → h.val = n.val % 64 →
      headOut (F := Ideal) (A r 0) (A r 1) (ix2 h s)
        = headOut (F := Ideal) (A ⟨n.val / 64, by omega⟩ 0) (A ⟨n.val / 64, by omega⟩ 1) (ix2 ⟨n.val % 64, by omega⟩ s) := by
    intro r h hr hh
    rw [show (⟨n.val / 64, by omega⟩ : Fin 4) = r from Fin.ext hr.symm, show (⟨n.val % 64, by omega⟩ : Fin 64) = h from Fin.ext hh.symm]
  pointwise [assemble]
  split
  · exact at_rows 0 _ (show 0 = n.val / 64 by omega) (show n.val = n.val % 64 by omega)
  split
  · exact at_rows 1 _ (show 1 = n.val / 64 by omega) (show n.val - 64 = n.val % 64 by omega)
  split
  · exact at_rows 2 _ (show 2 = n.val / 64 by omega) (show n.val - 64 - 64 = n.val % 64 by omega)
  · exact at_rows 3 _ (show 3 = n.val / 64 by omega) (show n.val - 64 - 64 - 64 = n.val % 64 by omega)

/-- The output block at query `s` and column `n`. -/
theorem block_apply (x0 : FVec Ideal S1x512x256 .bf16) (x1 : FVec Ideal S1x1x4096x64 .bf16) (x2 : FVec Ideal S1x1x80x4096 .bf16)
    (s : Fin 512) (n : Fin 256) :
    block (F := Ideal) x0 x1 x2 (ix3 0 s n)
      = Ideal.div (∑ k : Fin 4096, x2 (ix4 0 0 ⟨n.val % 64, by omega⟩ k) * weight x0 x1 s ⟨n.val / 64, by omega⟩ k)
          (∑ k : Fin 4096, x2 (ix4 0 0 64 k) * weight x0 x1 s ⟨n.val / 64, by omega⟩ k) := by
  rw [block, assemble_apply, headOut_apply (A := fun c => unitAcc (F := Ideal) x0 x1 x2 ⟨n.val / 64, by omega⟩ c (start _ c)), quotient_apply,
    unitAcc_apply, unitAcc_apply]
  have e : (⟨256 * (s.val / 256) + s.val % 256, by omega⟩ : Fin 512) = s := Fin.ext (by show 256 * (s.val / 256) + s.val % 256 = s.val; omega)
  simp only [e]

end Cert.Attention
-- ==== Proof.AttentionArray.lean ====
/- What the attention call's result array holds after the run, from the three arguments. -/
module

public import proofs.«01_k».proof.Proof.AttentionPoint
public import proofs.«01_k».proof.Proof.Gen.KernelIdeal.Value
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe Idealize.SL.Sem
open Idealize.ShloMosaic.Pipeline (Dat)

/-- A query entry times the factor that turns a power of e into a power of two: an eighth over the logarithm of two. -/
def scaledQuery (Q : FVec Ideal S8x4096x8x64 .f32) (b : Fin 8) (s : Fin 4096) (n : Fin 8) (d : Fin 64) : EReal :=
  Q (ix4 b s n d) * Ideal.div (FloatOps.ofBits (F := Ideal) .f32 0x3E000000#32) (Ideal.log (FloatOps.ofBits (F := Ideal) .f32 0x40000000#32))

/-- The score of query `(b, s, head)` against key `k` of the head's group, in powers of two. -/
def powScore (Q : FVec Ideal S8x4096x8x64 .f32) (K : FVec Ideal S8x4096x2x64 .f32) (b : Fin 8) (s : Fin 4096) (g : Fin 2) (r : Fin 4)
    (k : Fin 4096) : EReal :=
  ∑ d : Fin 64, K (ix4 b k g d) * scaledQuery Q b s ⟨4 * g.val + r.val, by omega⟩ d

/-- The weighted values divided by the summed weights. -/
def powAttention (Q : FVec Ideal S8x4096x8x64 .f32) (K V : FVec Ideal S8x4096x2x64 .f32) (b : Fin 8) (s : Fin 4096) (g : Fin 2)
    (r : Fin 4) (h : Fin 64) : EReal :=
  Ideal.div (∑ k : Fin 4096, V (ix4 b k g h) * Ideal.exp2 (powScore Q K b s g r k)) (∑ k : Fin 4096, Ideal.exp2 (powScore Q K b s g r k))

/-- The whole result array. -/
def result (Q : FVec Ideal S8x4096x8x64 .f32) (K V : FVec Ideal S8x4096x2x64 .f32) : FVec Ideal S8x4096x512 .bf16 := fun y =>
  powAttention Q K V (y 0) (y 1) ⟨(y 2).val / 256, by have := (y 2).isLt; show _ < 2; have h : (y 2).val < 512 := (y 2).isLt; omega⟩
    ⟨(y 2).val % 256 / 64, by omega⟩ ⟨(y 2).val % 64, by omega⟩

theorem result_apply (Q : FVec Ideal S8x4096x8x64 .f32) (K V : FVec Ideal S8x4096x2x64 .f32) (b : Fin 8) (s : Fin 4096) (n : Fin 512) :
    result Q K V (ix3 b s n) = powAttention Q K V b s ⟨n.val / 256, by omega⟩ ⟨n.val % 256 / 64, by omega⟩ ⟨n.val % 64, by omega⟩ := rfl

variable (m : (ℓ : Loc nD τ sig) → Buf (Elt Ideal) ℓ)

theorem idx : ∀ t : Fin cfg0.N, win0_0.index t = ![t.val / 16, t.val % 8, t.val / 8 % 2] ∧ win0_1.index t = ![t.val / 16, t.val / 8 % 2, 0, 0]
    ∧ win0_2.index t = ![t.val / 16, t.val / 8 % 2, 0, 0] ∧ win0_3.index t = ![t.val / 16, t.val % 8, t.val / 8 % 2] ∧ t.val < 128 :=
  (by decide +kernel : ∀ t : Fin grid0.N, _)

/-- The scaled queries. -/
theorem queries_read (c : Dev nD) (b : Fin 8) (s : Fin 4096) (n : Fin 512) :
    V m c main_v5 (ix3 b s n)
      = scaledQuery (m ((c : Thread nD τ).loc main_arg0)) b s ⟨n.val / 64, by omega⟩ ⟨n.val % 64, by omega⟩ := by
  entry_read
  pointwise [scaledQuery]

/-- The keys, one group after the other. -/
theorem keys_read (c : Dev nD) (b : Fin 8) (g : Fin 2) (k : Fin 4096) (d : Fin 64) :
    V m c main_v7 (ix4 b g k d) = m ((c : Thread nD τ).loc main_arg1) (ix4 b k g d) := by
  entry_read
  pointwise

/-- The values, one group after the other, their first 64 rows. -/
theorem vals_read (c : Dev nD) (b : Fin 8) (g : Fin 2) (h : Fin 64) (k : Fin 4096) :
    V m c main_v11 (ix4 b g ⟨h.val, by omega⟩ k) = m ((c : Thread nD τ).loc main_arg2) (ix4 b k g h) := by
  entry_read
  pointwise

/-- The row below the values holds ones. -/
theorem ones_read (c : Dev nD) (b : Fin 8) (g : Fin 2) (k : Fin 4096) : V m c main_v11 (ix4 b g 64 k) = (1 : EReal) := by
  entry_read
  pointwise

/-- Where a grid point's blocks lie in their arrays. -/
theorem emb_queries (t : Fin cfg0.N) (s : Fin 512) (n : Fin 256) : (win0_0.blk t).view.emb (ix3 0 s n)
    = ix3 (n0 := 8) (n1 := 4096) (n2 := 512) ⟨t.val / 16, by have := (idx t).2.2.2.2; omega⟩ ⟨512 * (t.val % 8) + s.val, by omega⟩
      ⟨256 * (t.val / 8 % 2) + n.val, by omega⟩ := by
  blk_ext [idx t]

theorem emb_keys (t : Fin cfg0.N) (k : Fin 4096) (d : Fin 64) : (win0_1.blk t).view.emb (ix4 0 0 k d)
    = ix4 (n0 := 8) (n1 := 2) (n2 := 4096) (n3 := 64) ⟨t.val / 16, by have := (idx t).2.2.2.2; omega⟩ ⟨t.val / 8 % 2, by omega⟩ k d := by
  blk_ext [idx t]

theorem emb_vals (t : Fin cfg0.N) (h : Fin 80) (k : Fin 4096) : (win0_2.blk t).view.emb (ix4 0 0 h k)
    = ix4 (n0 := 8) (n1 := 2) (n2 := 80) (n3 := 4096) ⟨t.val / 16, by have := (idx t).2.2.2.2; omega⟩ ⟨t.val / 8 % 2, by omega⟩ h k := by
  blk_ext [idx t]

theorem emb_out (t : Fin cfg0.N) (s : Fin 512) (n : Fin 256) : (win0_3.blk t).view.emb (ix3 0 s n)
    = ix3 (n0 := 8) (n1 := 4096) (n2 := 512) ⟨t.val / 16, by have := (idx t).2.2.2.2; omega⟩ ⟨512 * (t.val % 8) + s.val, by omega⟩
      ⟨256 * (t.val / 8 % 2) + n.val, by omega⟩ := by
  blk_ext [idx t]

/-- A grid point's output block holds its part of the result. -/
theorem point (c : Dev nD) (t : Fin cfg0.N) (s : Fin 512) (n : Fin 256) :
    block (F := Ideal) (iblk m c 0 t) (iblk m c 1 t) (iblk m c 2 t) (ix3 0 s n)
      = result (m ((c : Thread nD τ).loc main_arg0)) (m ((c : Thread nD τ).loc main_arg1)) (m ((c : Thread nD τ).loc main_arg2))
          ((win0_3.blk t).view.emb (ix3 0 s n)) := by
  rw [block_apply, emb_out, result_apply]
  blk_simp [iblk, weight]
  have hq (d : Fin 64) : V m c main_v5 ((win0_0.blk t).view.emb (ix3 0 s ⟨64 * (n.val / 64) + d.val, by omega⟩))
      = scaledQuery (m ((c : Thread nD τ).loc main_arg0)) ⟨t.val / 16, by have := (idx t).2.2.2.2; omega⟩ ⟨512 * (t.val % 8) + s.val, by omega⟩
          ⟨4 * (t.val / 8 % 2) + n.val / 64, by omega⟩ d := by
    rw [emb_queries, queries_read]
    congr 1
    · apply Fin.ext; show (256 * (t.val / 8 % 2) + (64 * (n.val / 64) + d.val)) / 64 = 4 * (t.val / 8 % 2) + n.val / 64; omega
    · apply Fin.ext; show (256 * (t.val / 8 % 2) + (64 * (n.val / 64) + d.val)) % 64 = d.val; omega
  have hk (k : Fin 4096) (d : Fin 64) : V m c main_v7 ((win0_1.blk t).view.emb (ix4 0 0 k d))
      = m ((c : Thread nD τ).loc main_arg1) (ix4 ⟨t.val / 16, by have := (idx t).2.2.2.2; omega⟩ k ⟨t.val / 8 % 2, by omega⟩ d) := by
    rw [emb_keys, keys_read]
  have hv (k : Fin 4096) : V m c main_v11 ((win0_2.blk t).view.emb (ix4 0 0 ⟨n.val % 64, by omega⟩ k))
      = m ((c : Thread nD τ).loc main_arg2) (ix4 ⟨t.val / 16, by have := (idx t).2.2.2.2; omega⟩ k ⟨t.val / 8 % 2, by omega⟩
          ⟨n.val % 64, by omega⟩) := by
    rw [emb_vals]
    exact vals_read m c _ _ ⟨n.val % 64, by omega⟩ k
  have ho (k : Fin 4096) : V m c main_v11 ((win0_2.blk t).view.emb (ix4 0 0 64 k)) = (1 : EReal) := by
    rw [emb_vals, ones_read]
  have e1 : (⟨(256 * (t.val / 8 % 2) + n.val) / 256, by omega⟩ : Fin 2) = ⟨t.val / 8 % 2, by omega⟩ := Fin.ext (by
    show (256 * (t.val / 8 % 2) + n.val) / 256 = t.val / 8 % 2; omega)
  have e2 : (⟨(256 * (t.val / 8 % 2) + n.val) % 256 / 64, by omega⟩ : Fin 4) = ⟨n.val / 64, by omega⟩ := Fin.ext (by
    show (256 * (t.val / 8 % 2) + n.val) % 256 / 64 = n.val / 64; omega)
  have e3 : (⟨(256 * (t.val / 8 % 2) + n.val) % 64, by omega⟩ : Fin 64) = ⟨n.val % 64, by omega⟩ := Fin.ext (by
    show (256 * (t.val / 8 % 2) + n.val) % 64 = n.val % 64; omega)
  simp only [hq, hk, hv, ho, one_mul]
  rw [e1, e2, e3, powAttention]
  simp only [powScore]

/-- The result array after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outsAt_eq]
  obtain ⟨s, n, rfl⟩ : ∃ (s : Fin 512) (n : Fin 256), y = ix3 0 s n := ⟨y 1, y 2, by
    have h0 : y 0 = (0 : Fin 1) := Subsingleton.elim (α := Fin 1) _ _
    rw [← h0]; exact eq_ix3 y⟩
  exact point m c t s n

end Cert.Attention
-- ==== Proof.Softmax.lean ====
/- The equation behind the attention, over the extended reals: a softmax shifted by a maximum, written with powers of e,
   against unnormalised powers of two divided at the end. The scores are real; the values may be anything. -/
module

public import Idealize.ShloMosaic.Lib.Pointwise

@[expose] public section

noncomputable section

namespace Cert.Attention

open Idealize.ShloMosaic

/-- A real factor that is not negative may be moved into a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) (z : ℝ) (hz : z ≠ 0) : Ideal.div x (z : EReal) = x * ((z⁻¹ : ℝ) : EReal) := by
  rw [Ideal.div, if_neg (by exact_mod_cast hz), EReal.coe_inv]

/-- The largest of finitely many real scores is real. -/
theorem fold_max_real {n : Nat} [NeZero n] (x : Fin n → ℝ) :
    ∃ M : ℝ, Finset.univ.fold max (⊥ : EReal) (fun k => (x k : EReal)) = (M : EReal) := by
  have h1 : Finset.univ.fold max (⊥ : EReal) (fun k => (x k : EReal)) < ⊤ :=
    (Finset.fold_max_lt _).mpr ⟨bot_lt_top, fun k _ => EReal.coe_lt_top _⟩
  have h2 : ⊥ < Finset.univ.fold max (⊥ : EReal) (fun k => (x k : EReal)) :=
    (Finset.lt_fold_max _).mpr (Or.inr ⟨0, Finset.mem_univ _, EReal.bot_lt_coe _⟩)
  exact ⟨_, (EReal.coe_toReal h1.ne h2.ne').symm⟩

/-- The shifted softmax against the powers of two. -/
theorem softmax_eq {n : Nat} [NeZero n] (a : Fin n → EReal) (x y : Fin n → ℝ) (M : ℝ)
    (hxy : ∀ k, Real.rpow 2 (y k) = Real.exp (x k)) :
    Ideal.div (∑ k, a k * Ideal.exp2 (y k : EReal)) (∑ k, Ideal.exp2 (y k : EReal))
      = ∑ k, a k * Ideal.div (Ideal.exp ((x k : EReal) - (M : EReal))) (∑ l, Ideal.exp ((x l : EReal) - (M : EReal))) := by
  have hZ : 0 < ∑ k, Real.exp (x k) := Finset.sum_pos (fun k _ => Real.exp_pos _) ⟨0, Finset.mem_univ _⟩
  have hexp (k : Fin n) : Ideal.exp ((x k : EReal) - (M : EReal)) = ((Real.exp (x k) * Real.exp (-M) : ℝ) : EReal) := by
    rw [← EReal.coe_sub, Ideal.exp_coe, sub_eq_add_neg, Real.exp_add]
  have hpow (k : Fin n) : Ideal.exp2 (y k : EReal) = ((Real.exp (x k) : ℝ) : EReal) := by
    rw [Ideal.exp2_coe, hxy]
  simp only [hexp, hpow, ← coe_sum, ← Finset.sum_mul]
  rw [div_real _ _ hZ.ne', sum_mul_real _ _ _ (inv_nonneg.mpr hZ.le)]
  refine Finset.sum_congr rfl fun k _ => ?_
  rw [div_real _ _ (mul_pos hZ (Real.exp_pos _)).ne', mul_assoc, ← EReal.coe_mul, ← EReal.coe_mul]
  congr 2
  have := (Real.exp_pos (-M)).ne'
  field_simp

end Cert.Attention
-- ==== Proof.AttentionReference.lean ====
/- What the reference's attention returns at an index. -/
module

public import proofs.«01_k».proof.Proof.Gen.ReferenceIdeal.Run
public import proofs.«01_k».proof.Proof.Softmax

@[expose] public section

set_option maxRecDepth 16384

noncomputable section

namespace Cert.Attention

open Cert.ReferenceIdeal Cert.ReferenceIdeal.Gen Idealize.ShloMosaic

/-- The scores times an eighth, per group, head, query and key. -/
def scaled (Q : FVec Ideal S8x4096x8x64 .f32) (K : FVec Ideal S8x4096x2x64 .f32) : FVec Ideal S8x2x4x4096x4096 .f32 :=
  mulf (transpose S8x2x4x4096x4096 [0, 1, 4, 3, 2] (Host.dotGeneral dot_S8x4096x2x64_S8x4096x2x4x64_S8x2x4096x4096x4_3_4_1_13_02_02 none K
    (shapeCast _ Q shapeCasts_S8x4096x8x64_S8x4096x2x4x64)) transposes_S8x2x4096x4096x4_S8x2x4x4096x4096_0_1_4_3_2)
    (broadcastInDim S8x2x4x4096x4096 ![] bcast_S_S8x2x4x4096x4096 (constant S_ .f32 0x3E000000#32))

/-- Each row's largest score. -/
def rowMax (S : FVec Ideal S8x2x4x4096x4096 .f32) : FVec Ideal S8x2x4x4096 .f32 :=
  maximumf (broadcastInDim S8x2x4x4096 ![] bcast_S_S8x2x4x4096 (constant S_ .f32 0xFF800000#32))
    (Host.reduce FloatOps.maximumf S (constant S_ .f32 0xFF800000#32) reducesTo_S8x2x4x4096x4096_S8x2x4x4096_d4 h_S_)

/-- The exponentials of the scores less the row's largest. -/
def expScores (S : FVec Ideal S8x2x4x4096x4096 .f32) (M : FVec Ideal S8x2x4x4096 .f32) : FVec Ideal S8x2x4x4096x4096 .f32 :=
  Host.exp (subf S (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3 M)))

/-- The exponentials over their row's sum. -/
def weights (E : FVec Ideal S8x2x4x4096x4096 .f32) : FVec Ideal S8x2x4x4096x4096 .f32 :=
  Host.divf E (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3
      (Host.reduceAdd E (constant S_ .f32 0x00000000#32) reducesTo_S8x2x4x4096x4096_S8x2x4x4096_d4 h_S_)))

/-- The values under the weights, heads side by side. -/
def combine (V : FVec Ideal S8x4096x2x64 .f32) (W : FVec Ideal S8x2x4x4096x4096 .f32) : FVec Ideal S8x4096x512 .f32 :=
  shapeCast _ (transpose S8x4096x2x4x64 [0, 4, 1, 3, 2] (Host.dotGeneral dot_S8x4096x2x64_S8x2x4x4096x4096_S8x2x64x4x4096_1_4_3_23_02_01 none
    V W) transposes_S8x2x64x4x4096_S8x4096x2x4x64_0_4_1_3_2) shapeCasts_S8x4096x2x4x64_S8x4096x512

/-- The reference's result. -/
def reference (Q : FVec Ideal S8x4096x8x64 .f32) (K V : FVec Ideal S8x4096x2x64 .f32) : FVec Ideal S8x4096x512 .f32 :=
  combine V (weights (expScores (scaled Q K) (rowMax (scaled Q K))))

theorem scaled_apply (Q : FVec Ideal S8x4096x8x64 .f32) (K : FVec Ideal S8x4096x2x64 .f32) (b : Fin 8) (g : Fin 2) (r : Fin 4)
    (s k : Fin 4096) : scaled Q K (ix5 b g r s k)
      = (∑ d : Fin 64, K (ix4 b k g d) * Q (ix4 b s ⟨4 * g.val + r.val, by omega⟩ d)) * Ideal.ofBits .f32 0x3E000000#32 := by
  have e : (⟨g.val * 4 + r.val, by omega⟩ : Fin 8) = ⟨4 * g.val + r.val, by omega⟩ := Fin.ext (by show g.val * 4 + r.val = 4 * g.val + r.val; omega)
  pointwise [scaled]
  exact congrArg (fun i => (∑ d : Fin 64, K (ix4 b k g d) * Q (ix4 b s i d)) * Ideal.ofBits .f32 0x3E000000#32) e

/-- The larger of a constant below everything and a maximum over the last of five axes is real where the elements are. -/
theorem max_last_real {n0 n1 n2 n3 n4 : Nat} [NeZero n4] (S : FVec Ideal ⟨5, ![n0, n1, n2, n3, n4]⟩ .f32) (w : BitVec 32)
    (hw : Ideal.ofBits .f32 w = ⊥) (h : (⟨5, ![n0, n1, n2, n3, n4]⟩ : Shape).ReducesTo [4] ⟨4, ![n0, n1, n2, n3]⟩)
    (hu : 0 < (⟨0, ![]⟩ : Shape).numel) (hb : (⟨0, ![]⟩ : Shape).BroadcastsInDim ⟨4, ![n0, n1, n2, n3]⟩ ![])
    (a : Fin n0) (b : Fin n1) (c : Fin n2) (d : Fin n3) (x : Fin n4 → ℝ) (hx : ∀ k, S (ix5 a b c d k) = (x k : EReal)) :
    ∃ M : ℝ, maximumf (broadcastInDim (⟨4, ![n0, n1, n2, n3]⟩ : Shape) ![] hb (constant (⟨0, ![]⟩ : Shape) .f32 w))
      (Host.reduce FloatOps.maximumf S (constant (⟨0, ![]⟩ : Shape) .f32 w) h hu) (ix4 a b c d) = (M : EReal) := by
  obtain ⟨M, hM⟩ := fold_max_real x
  refine ⟨M, ?_⟩
  have e : Host.reduce (FloatOps.maximumf (F := Ideal) (φ := .f32)) S (constant (⟨0, ![]⟩ : Shape) .f32 w) h hu (ix4 a b c d)
      = Finset.univ.fold (max : EReal → EReal → EReal) (Ideal.ofBits .f32 w) (fun k : Fin n4 => S (ix5 a b c d k)) := by
    rw [Host.reduce_eq_fold, h.fold_fiber_r5_a4]
    rfl
  simp only [hx, hw] at e
  show max (Ideal.ofBits .f32 w) (Host.reduce (FloatOps.maximumf (F := Ideal) (φ := .f32)) S (constant (⟨0, ![]⟩ : Shape) .f32 w) h hu (ix4 a b c d)) = _
  rw [e, hM, hw, max_eq_right bot_le]

/-- A row of real scores has a real maximum. -/
theorem rowMax_real (S : FVec Ideal S8x2x4x4096x4096 .f32) (b : Fin 8) (g : Fin 2) (r : Fin 4) (s : Fin 4096) (x : Fin 4096 → ℝ)
    (hx : ∀ k, S (ix5 b g r s k) = (x k : EReal)) : ∃ M : ℝ, rowMax S (ix4 b g r s) = (M : EReal) :=
  max_last_real S _ (by simp [Ideal.ofBits, Ideal.ieee]) _ _ _ b g r s x hx

theorem expScores_apply (S : FVec Ideal S8x2x4x4096x4096 .f32) (M : FVec Ideal S8x2x4x4096 .f32) (b : Fin 8) (g : Fin 2) (r : Fin 4)
    (s k : Fin 4096) : expScores S M (ix5 b g r s k) = Ideal.exp (S (ix5 b g r s k) - M (ix4 b g r s)) := by
  pointwise [expScores]

theorem weights_apply (E : FVec Ideal S8x2x4x4096x4096 .f32) (b : Fin 8) (g : Fin 2) (r : Fin 4) (s k : Fin 4096) :
    weights E (ix5 b g r s k) = Ideal.div (E (ix5 b g r s k)) (∑ l : Fin 4096, E (ix5 b g r s l)) := by
  pointwise [weights]

theorem combine_apply (V : FVec Ideal S8x4096x2x64 .f32) (W : FVec Ideal S8x2x4x4096x4096 .f32) (b : Fin 8) (s : Fin 4096) (n : Fin 512) :
    combine V W (ix3 b s n) = ∑ k : Fin 4096, V (ix4 b k ⟨n.val / 256, by omega⟩ ⟨n.val % 64, by omega⟩)
      * W (ix5 b ⟨n.val / 256, by omega⟩ ⟨n.val % 256 / 64, by omega⟩ s k) := by
  have e : (⟨n.val / 64 % 4, by omega⟩ : Fin 4) = ⟨n.val % 256 / 64, by omega⟩ := Fin.ext (by show n.val / 64 % 4 = n.val % 256 / 64; omega)
  pointwise [combine]
  rw [e]

end Cert.Attention
-- ==== Proof.AttentionEquation.lean ====
/- The attention call's result is the reference's attention, where queries and keys are real. -/
module

public import proofs.«01_k».proof.Proof.AttentionArray
public import proofs.«01_k».proof.Proof.AttentionReference

@[expose] public section

set_option maxRecDepth 16384

noncomputable section

namespace Cert.Attention

open Idealize.ShloMosaic

/-- The factor on the queries is an eighth over the logarithm of two. -/
theorem scale_eq : Ideal.div (FloatOps.ofBits (F := Ideal) .f32 0x3E000000#32) (Ideal.log (FloatOps.ofBits (F := Ideal) .f32 0x40000000#32))
    = ((1 / 8 * (Real.log 2)⁻¹ : ℝ) : EReal) := by
  have h8 : FloatOps.ofBits (F := Ideal) .f32 0x3E000000#32 = ((1 / 8 : ℝ) : EReal) := by
    show Ideal.ofBits .f32 0x3E000000#32 = _
    simp [Ideal.ofBits, Ideal.ieee, -EReal.coe_mul]; norm_num
  have h2 : FloatOps.ofBits (F := Ideal) .f32 0x40000000#32 = ((2 : ℝ) : EReal) := by
    show Ideal.ofBits .f32 0x40000000#32 = _
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [h8, h2, hl, div_real _ _ (Real.log_pos (by norm_num)).ne', ← EReal.coe_mul]

/-- A power of two of the scaled scores is a power of e of the scores over eight. -/
theorem pow_eq (k q : Fin 64 → ℝ) : Real.rpow 2 (∑ d, k d * (q d * (1 / 8 * (Real.log 2)⁻¹))) = Real.exp ((∑ d, k d * q d) * (1 / 8)) := by
  have h2 : Real.log 2 ≠ 0 := (Real.log_pos (by norm_num)).ne'
  show (2 : ℝ) ^ (_ : ℝ) = _
  rw [Real.rpow_def_of_pos (by norm_num)]
  congr 1
  rw [Finset.mul_sum, Finset.sum_mul]
  refine Finset.sum_congr rfl fun d _ => ?_
  field_simp

theorem result_eq (Q : FVec Ideal Cert.KernelIdeal.S8x4096x8x64 .f32) (K V : FVec Ideal Cert.KernelIdeal.S8x4096x2x64 .f32)
    (hQ : ∀ i, ∃ x : ℝ, Q i = (x : EReal)) (hK : ∀ i, ∃ x : ℝ, K i = (x : EReal)) (b : Fin 8) (s : Fin 4096) (n : Fin 512) :
    result Q K V (ix3 b s n) = reference Q K V (ix3 b s n) := by
  choose q hq using hQ
  choose κ hκ using hK
  let g : Fin 2 := ⟨n.val / 256, by omega⟩
  let r : Fin 4 := ⟨n.val % 256 / 64, by omega⟩
  let x : Fin 4096 → ℝ := fun k => (∑ d : Fin 64, κ (ix4 b k g d) * q (ix4 b s ⟨4 * g.val + r.val, by omega⟩ d)) * (1 / 8)
  let y : Fin 4096 → ℝ := fun k => ∑ d : Fin 64, κ (ix4 b k g d) * (q (ix4 b s ⟨4 * g.val + r.val, by omega⟩ d) * (1 / 8 * (Real.log 2)⁻¹))
  have hx (k : Fin 4096) : scaled Q K (ix5 b g r s k) = (x k : EReal) := by
    rw [scaled_apply]
    have h8 : Ideal.ofBits .f32 0x3E000000#32 = ((1 / 8 : ℝ) : EReal) := by
      simp [Ideal.ofBits, Ideal.ieee, -EReal.coe_mul]; norm_num
    simp only [hq, hκ, h8, ← EReal.coe_mul, ← coe_sum, x]
  have hy (k : Fin 4096) : powScore Q K b s g r k = (y k : EReal) := by
    simp only [powScore, scaledQuery, scale_eq, hq, hκ, ← EReal.coe_mul, ← coe_sum, y]
  obtain ⟨M, hM⟩ := rowMax_real (scaled Q K) b g r s x hx
  rw [result_apply, reference, combine_apply]
  show powAttention Q K V b s g r _ = ∑ k : Fin 4096, V (ix4 b k g _) * weights _ (ix5 b g r s k)
  simp only [powAttention, weights_apply, expScores_apply, hx, hy, hM]
  exact softmax_eq _ x y M fun k => pow_eq _ _

/-- The reference's array is what the call leaves in its result. -/
theorem reference_eq_final (m : (ℓ : Loc Cert.KernelIdeal.nD Cert.KernelIdeal.τ Cert.KernelIdeal.sig) → Buf (Elt Ideal) ℓ)
    (c : Dev Cert.KernelIdeal.nD)
    (hQ : ∀ i : Cert.KernelIdeal.S8x4096x8x64.Idx, ∃ x : ℝ,
      (show FVec Ideal Cert.KernelIdeal.S8x4096x8x64 .f32 from m (c.tc.loc Cert.KernelIdeal.main_arg0)) i = (x : EReal))
    (hK : ∀ i : Cert.KernelIdeal.S8x4096x2x64.Idx, ∃ x : ℝ,
      (show FVec Ideal Cert.KernelIdeal.S8x4096x2x64 .f32 from m (c.tc.loc Cert.KernelIdeal.main_arg1)) i = (x : EReal)) :
    reference (m (c.tc.loc Cert.KernelIdeal.main_arg0)) (m (c.tc.loc Cert.KernelIdeal.main_arg1)) (m (c.tc.loc Cert.KernelIdeal.main_arg2))
      = (Cert.KernelIdeal.Gen.dats m 0 c).arrAt 3 Cert.KernelIdeal.cfg0.N := by
  refine Eq.trans (funext fun i => ?_) (final m c).symm
  obtain ⟨b, s, n, rfl⟩ : ∃ (b : Fin 8) (s : Fin 4096) (n : Fin 512), i = ix3 b s n := ⟨i 0, i 1, i 2, eq_ix3 i⟩
  exact (result_eq _ _ _ hQ hK b s n).symm

end Cert.Attention
-- ==== Proof.MixGranule.lean ====
/- Turning the recurrence's chunk-major output into token-major rows.
   The recurrence leaves its output with one row per (group of 16 features, chunk of 16 tokens), the row holding the
   chunk's 256 numbers token after token.  The next call wants one row per token.  It gets there eight groups and eight
   tokens at a time: from the eight groups' [16 chunks, 128 lanes] tables, a lane being one of eight GRANULES (tokens) of 16
   features, it makes eight tables whose granules are the groups and whose number is the token, by eight selections, eight
   rotations and eight selections more. -/
module

public import proofs.«01_k».proof.Proof.Gen.Kernel2Ideal.Skeleton
public import Idealize.ShloMosaic.Lib.Pointwise

@[expose] public section

set_option maxRecDepth 16384

noncomputable section

namespace Cert.Mix

open Cert.Kernel2Ideal Cert.Kernel2Ideal.Gen Idealize.ShloMosaic Idealize.SL.Sem

variable {F : FTy → Type} [FloatOps F]

/-- Of eight tables, the one whose number is the lane's granule. -/
def pick (s : Fin 8 → FVec F S16x128 .f32) : FVec F S16x128 .f32 :=
  let is (w : BitVec 32) (a b : FVec F S16x128 .f32) : FVec F S16x128 .f32 := select (cmpi .eq k0_pay2 (broadcast S16x128 w)) a b
  is 7#32 (s 7) (is 6#32 (s 6) (is 5#32 (s 5) (is 4#32 (s 4) (is 3#32 (s 3) (is 2#32 (s 2) (is 1#32 (s 1) (s 0)))))))

/-- The selection by granule, `d` tables further on, turned by `d` granules. -/
def turned (b : Fin 8 → FVec F S16x128 .f32) : Fin 8 → FVec F S16x128 .f32
  | 0 => pick b
  | 1 => dynamicRotate 1 16#32 none (pick fun g => b (g + 1)) rotates_S16x128_d1
  | 2 => dynamicRotate 1 32#32 none (pick fun g => b (g + 2)) rotates_S16x128_d1
  | 3 => dynamicRotate 1 48#32 none (pick fun g => b (g + 3)) rotates_S16x128_d1
  | 4 => dynamicRotate 1 64#32 none (pick fun g => b (g + 4)) rotates_S16x128_d1
  | 5 => dynamicRotate 1 80#32 none (pick fun g => b (g + 5)) rotates_S16x128_d1
  | 6 => dynamicRotate 1 96#32 none (pick fun g => b (g + 6)) rotates_S16x128_d1
  | 7 => dynamicRotate 1 112#32 none (pick fun g => b (g + 7)) rotates_S16x128_d1

/-- The table of token `j`: at granule `g`, the `j`-th granule of table `g`. -/
def token (b : Fin 8 → FVec F S16x128 .f32) (j : Fin 8) : FVec F S16x128 .f32 := pick fun g => turned b (g - j)

theorem granule_word (i : Fin 16) (l : Fin 128) : k0_pay2 (ix2 i l) = BitVec.ofNat 32 (l.val / 16) := by
  have h : ∀ l : Fin 128, k0_pay2 (ix2 (0 : Fin 16) l) = BitVec.ofNat 32 (l.val / 16) := by decide +kernel
  exact (show k0_pay2 (ix2 i l) = k0_pay2 (ix2 (0 : Fin 16) l) from rfl).trans (h l)

theorem pick_apply (s : Fin 8 → FVec F S16x128 .f32) (i : Fin 16) (l : Fin 128) :
    pick s (ix2 i l) = s ⟨l.val / 16, by omega⟩ (ix2 i l) := by
  have hw := granule_word i l
  have key : ∀ g : Fin 8, k0_pay2 (ix2 i l) = BitVec.ofNat 32 g.val → pick s (ix2 i l) = s g (ix2 i l) := by
    intro g hg
    fin_cases g <;> simp [pick, select, cmpi, broadcast, hg] <;> rfl
  exact key ⟨l.val / 16, by omega⟩ hw

theorem rot_apply (x : FVec F S16x128 .f32) (d : Fin 8) (w : BitVec 32) (hw : w.toNat = 16 * d.val) (i : Fin 16) (l : Fin 128) :
    dynamicRotate 1 w none x rotates_S16x128_d1 (ix2 i l) = x (ix2 i ⟨(l.val + 128 - 16 * d.val) % 128, by omega⟩) := by
  obtain rfl : w = BitVec.ofNat 32 (16 * d.val) := BitVec.eq_of_toNat_eq (by rw [hw, BitVec.toNat_ofNat]; omega)
  fin_cases d <;> dsimp only <;> pointwise

/-- A turned selection read at a lane: the lane it came from, and the table that lane belonged to. -/
theorem turned_apply (b : Fin 8 → FVec F S16x128 .f32) (d : Fin 8) (i : Fin 16) (l l' : Fin 128) (g : Fin 8)
    (hl : l'.val = (l.val + 128 - 16 * d.val) % 128) (hg : g.val = (l'.val / 16 + d.val) % 8) :
    turned b d (ix2 i l) = b g (ix2 i l') := by
  have e : ∀ h, (⟨(l.val + 128 - 16 * d.val) % 128, h⟩ : Fin 128) = l' := fun h => Fin.ext hl.symm
  have e2 : ∀ h, (⟨l'.val / 16, h⟩ : Fin 8) + d = g := fun h => Fin.ext (by rw [Fin.val_add]; exact hg.symm)
  have rot : ∀ (d : Fin 8) (w : BitVec 32) (hw : w.toNat = 16 * d.val)
      (e : ∀ h, (⟨(l.val + 128 - 16 * d.val) % 128, h⟩ : Fin 128) = l') (e2 : ∀ h, (⟨l'.val / 16, h⟩ : Fin 8) + d = g),
      dynamicRotate 1 w none (pick fun k => b (k + d)) rotates_S16x128_d1 (ix2 i l) = b g (ix2 i l') := by
    intro d w hw e e2
    rw [rot_apply _ d w hw i l, e, pick_apply]
    exact congrArg (fun k => b k (ix2 i l')) (e2 _)
  match d with
  | 0 =>
    have : l' = l := Fin.ext (by simp at hl; omega)
    subst this
    rw [show g = ⟨l'.val / 16, by omega⟩ from Fin.ext (by simp at hg; simp; omega)]
    exact pick_apply b i l'
  | 1 => exact rot 1 _ rfl e e2
  | 2 => exact rot 2 _ rfl e e2
  | 3 => exact rot 3 _ rfl e e2
  | 4 => exact rot 4 _ rfl e e2
  | 5 => exact rot 5 _ rfl e e2
  | 6 => exact rot 6 _ rfl e e2
  | 7 => exact rot 7 _ rfl e e2

/-- Token `j`'s table at lane `l`: granule `j` of the table of the lane's group. -/
theorem token_apply (b : Fin 8 → FVec F S16x128 .f32) (j : Fin 8) (i : Fin 16) (l : Fin 128) :
    token b j (ix2 i l) = b ⟨l.val / 16, by omega⟩ (ix2 i ⟨16 * j.val + l.val % 16, by omega⟩) := by
  unfold token
  rw [pick_apply]
  refine turned_apply b _ i l _ _ ?_ ?_
  · have hj := j.isLt; have hl := l.isLt
    simp only [Fin.sub_def]; omega
  · have hj := j.isLt; have hl := l.isLt
    simp only [Fin.sub_def]; omega

end Cert.Mix
-- ==== Proof.MixBlock.lean ====
/- One grid point of the call that ends a layer: the output block as a function of the point's fifteen input blocks.
   A point holds 512 tokens of one sequence and works in two halves of 256.  For each half it writes the recurrence's output
   into a staging buffer one row per token, reads it back, adds the skip term, applies gelu and the sigmoid gate, norms the
   two branches, projects them onto the stream, and lets the feed-forward block and the last norm follow. -/
module

public import proofs.«01_k».proof.Proof.MixGranule
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Mix

open Cert.Kernel2Ideal Cert.Kernel2Ideal.Gen Idealize.ShloMosaic Idealize.ShloMosaic.TcCoe Idealize.SL.Sem
open Idealize.ShloMosaic.Pipeline (Dat)

variable {F : FTy → Type} [FloatOps F]

/-! ## The recurrence's output, token by token -/

theorem inb_group (o : Fin 4) (c h : Fin 2) (g : Fin 8) :
    ∀ a, (![8 * o.val + g.val, 16 * c.val, 128 * h.val] : Fin 3 → ℕ) a + S1x16x128.size a ≤ S32x32x256.size a := by
  intro a; fin_cases a <;> simp <;> omega

/-- Group `8 o + g`'s table: half `c`'s sixteen chunks, tokens `8 h` to `8 h + 7` of each. -/
def group (x2 : Vec F S32x32x256 .f32) (o : Fin 4) (c h : Fin 2) (g : Fin 8) : FVec F S16x128 .f32 :=
  shapeCast S16x128 (View.ld x2 (Rect.unit ![8 * o.val + g.val, 16 * c.val, 128 * h.val] S1x16x128.size (inb_group o c h g)))
    shapeCasts_S1x16x128_S16x128

theorem inb_row (o : Fin 4) (c h : Fin 2) (j : Fin 8) :
    ∀ a, S1x16x128.size a = 0 ∨ (![o.val, 256 * c.val + 8 * h.val + j.val, 0] : Fin 3 → ℕ) a
      + (![1, 16, 1] : Fin 3 → ℕ) a * (S1x16x128.size a - 1) < S4x512x128.size a := by
  intro a; fin_cases a <;> simp <;> omega

theorem pos_row : ∀ a : Fin 3, 0 < (![1, 16, 1] : Fin 3 → ℕ) a := by decide

/-- The rows of the staging buffer that one store fills: every sixteenth, one in each chunk of the half. -/
def rowRect (o : Fin 4) (c h : Fin 2) (j : Fin 8) : Rect S4x512x128 :=
  ⟨⟨![o.val, 256 * c.val + 8 * h.val + j.val, 0], S1x16x128.size, ![1, 16, 1], inb_row o c h j⟩, pos_row⟩

/-- One store into the staging buffer. -/
def row (x2 : Vec F S32x32x256 .f32) (c : Fin 2) (o : Fin 4) (h : Fin 2) (j : Fin 8) : View.Piece (Elt F) S4x512x128 .f32 :=
  ⟨rowRect o c h j, shapeCast S1x16x128 (token (group x2 o c h) j) shapeCasts_S16x128_S1x16x128⟩

/-- A half's 64 stores, the last one first. -/
def rows (x2 : Vec F S32x32x256 .f32) (c : Fin 2) : List (View.Piece (Elt F) S4x512x128 .f32) :=
  [3, 2, 1, 0].flatMap fun o => [1, 0].flatMap fun h => [7, 6, 5, 4, 3, 2, 1, 0].map fun j => row x2 c o h j

/-- All that has been stored when half `c` reads. -/
def stored (x2 : Vec F S32x32x256 .f32) : Fin 2 → List (View.Piece (Elt F) S4x512x128 .f32)
  | 0 => rows x2 0
  | 1 => rows x2 1 ++ rows x2 0

theorem inb_tokens (o : Fin 4) (c : Fin 2) :
    ∀ a, (![o.val, 256 * c.val, 0] : Fin 3 → ℕ) a + S1x256x128.size a ≤ S4x512x128.size a := by
  intro a; fin_cases a <;> simp <;> omega

/-- Half `c`'s 256 tokens read back: features `128 o` to `128 o + 127`. -/
def tokens (x2 : Vec F S32x32x256 .f32) (c : Fin 2) (o : Fin 4) : Vec F S1x256x128 .f32 :=
  (View.whole cc0_scratch0).readCov (stored x2 c) (Rect.unit (s := S4x512x128) ![o.val, 256 * c.val, 0] S1x256x128.size (inb_tokens o c)).toLoadRect

/-! ## The mixing -/

/-- The 512 features of each token. -/
def joined (T : Fin 4 → Vec F S1x256x128 .f32) : FVec F S256x512 .f32 :=
  let p (o : Fin 4) : FVec F S256x128 .f32 := shapeCast S256x128 (T o) shapeCasts_S1x256x128_S256x128
  concatenate S256x512 1 [⟨S256x128, p 0⟩, ⟨S256x128, p 1⟩, ⟨S256x128, p 2⟩, ⟨S256x128, p 3⟩]
    concatenates_S256x128_S256x128_S256x128_S256x128_S256x512_d1

/-- A row of 512 numbers, the same for every token. -/
def wide (w : Vec F S1x512 .f32) : FVec F S256x512 .f32 :=
  broadcastTo S256x512 (shapeCast S1x512 w shapeCasts_S1x512_S1x512 : FVec F S1x512 .f32) broadcasts_S1x512_S256x512

/-- The recurrence's output with the skip term. -/
def skipped (T : Fin 4 → Vec F S1x256x128 .f32) (u : Vec F S1x256x512 .f32) (d : Vec F S1x512 .f32) : FVec F S256x512 .f32 :=
  addf (joined T) (mulf (wide d) (shapeCast S256x512 u shapeCasts_S1x256x512_S256x512 : FVec F S256x512 .f32))

/-- The gelu in its tanh form. -/
def gelu (z : FVec F S256x512 .f32) : FVec F S256x512 .f32 :=
  let k (w : BitVec 32) : FVec F S256x512 .f32 := broadcast S256x512 (Scalar.ofBits .f32 w)
  mulf (mulf (k 0x3F000000#32) z)
    (addf (k 0x3F800000#32) (tanh (mulf (k 0x3F4C422A#32) (addf z (mulf (k 0x3D372713#32) (mulf (mulf z z) z))))))

/-- The sigmoid gate. -/
def gated (y : FVec F S256x512 .f32) (w : Vec F S1x512x512 .bf16) (b : Vec F S1x512 .f32) : FVec F S256x512 .f32 :=
  mulf y (logistic (addf (matmul dot_S256x512_S512x512_S256x512_1_0_0_1_n_n none (truncf .bf16 y bitsLt_bf16_f32 : FVec F S256x512 .bf16)
    (shapeCast S512x512 w shapeCasts_S1x512x512_S512x512 : FVec F S512x512 .bf16) (constant S256x512 .f32 0x00000000#32)) (wide b)))

/-- A branch's norm. -/
def normed (y : FVec F S256x512 .f32) (g : Vec F S1x512 .f32) : FVec F S256x512 .f32 :=
  mulf (mulf y (broadcastTo S256x512 (rsqrt (addf (divf
      (shapeCast S256x1 (multiReduction .add [1] S256 (mulf y y) 0x00000000#32 reduces_S256x512_S256 (.inl rfl) rfl : FVec F S256 .f32)
        shapeCasts_S256_S256x1 : FVec F S256x1 .f32)
      (broadcast S256x1 (Scalar.ofBits .f32 0x44000000#32))) (broadcast S256x1 (Scalar.ofBits .f32 0x358637BD#32)))) broadcasts_S256x1_S256x512))
    (wide g)

/-- A row of 1024 numbers, the same for every token. -/
def wider (w : FVec F S1x1024 .f32) : FVec F S256x1024 .f32 := broadcastTo S256x1024 w broadcasts_S1x1024_S256x1024

/-- One of the six rows of the modulation. -/
def modRow (w : Vec F S1x1x1024 .f32) : FVec F S1x1024 .f32 := shapeCast S1x1024 w shapeCasts_S1x1x1024_S1x1024

/-- A branch times its half of the output projection. -/
def project (y : FVec F S256x512 .f32) (w : Vec F S1x512x1024 .bf16) : FVec F S256x1024 .f32 :=
  matmul dot_S256x512_S512x1024_S256x1024_1_0_0_1_n_n none (truncf .bf16 y bitsLt_bf16_f32 : FVec F S256x512 .bf16)
    (shapeCast S512x1024 w shapeCasts_S1x512x1024_S512x1024 : FVec F S512x1024 .bf16) (constant S256x1024 .f32 0x00000000#32)

/-- The stream with the mixed branches added, `r₂` being the modulation's third row. -/
def mixed (x : Vec F S1x256x1024 .f32) (a s : FVec F S256x512 .f32) (wa ws : Vec F S1x512x1024 .bf16) (r₂ : Vec F S1x1x1024 .f32) :
    FVec F S256x1024 .f32 :=
  addf (shapeCast S256x1024 x shapeCasts_S1x256x1024_S256x1024 : FVec F S256x1024 .f32)
    (mulf (wider (modRow r₂)) (addf (project a wa) (project s ws)))

/-! ## The feed-forward block -/

/-- The stream divided by its root mean square. -/
def scaled (x : FVec F S256x1024 .f32) : FVec F S256x1024 .f32 :=
  mulf x (broadcastTo S256x1024 (rsqrt (addf (divf
      (shapeCast S256x1 (multiReduction .add [1] S256 (mulf x x) 0x00000000#32 reduces_S256x1024_S256 (.inl rfl) rfl : FVec F S256 .f32)
        shapeCasts_S256_S256x1 : FVec F S256x1 .f32)
      (broadcast S256x1 (Scalar.ofBits .f32 0x44800000#32))) (broadcast S256x1 (Scalar.ofBits .f32 0x358637BD#32)))) broadcasts_S256x1_S256x1024)

/-- A row of 1024 numbers as stored. -/
def plain (n : Vec F S1x1024 .f32) : FVec F S1x1024 .f32 := shapeCast S1x1024 n shapeCasts_S1x1024_S1x1024

/-- The block's input: the stream normed and modulated. -/
def modulated (x : FVec F S256x1024 .f32) (n : Vec F S1x1024 .f32) (r₄ r₃ : Vec F S1x1x1024 .f32) : FVec F S256x1024 .f32 :=
  addf (mulf (scaled x) (wider (mulf (plain n) (addf (broadcast S1x1024 (Scalar.ofBits .f32 0x3F800000#32)) (modRow r₄)))))
    (wider (modRow r₃))

/-- The block's input times one of the two inner projections. -/
def inner (h : FVec F S256x1024 .f32) (w : Vec F S1x1024x2816 .bf16) : FVec F S256x2816 .f32 :=
  matmul dot_S256x1024_S1024x2816_S256x2816_1_0_0_1_n_n none (truncf .bf16 h bitsLt_bf16_f32 : FVec F S256x1024 .bf16)
    (shapeCast S1024x2816 w shapeCasts_S1x1024x2816_S1024x2816 : FVec F S1024x2816 .bf16) (constant S256x2816 .f32 0x00000000#32)

/-- The swish of the one projection times the other. -/
def swiglu (g v : FVec F S256x2816 .f32) : FVec F S256x2816 .f32 := mulf (mulf g (logistic g)) v

/-- The stream with the feed-forward block's result added. -/
def fed (x : FVec F S256x1024 .f32) (a : FVec F S256x2816 .f32) (w : Vec F S1x2816x1024 .bf16) (r₅ : Vec F S1x1x1024 .f32) :
    FVec F S256x1024 .f32 :=
  addf x (mulf (wider (modRow r₅)) (matmul dot_S256x2816_S2816x1024_S256x1024_1_0_0_1_n_n none
    (truncf .bf16 a bitsLt_bf16_f32 : FVec F S256x2816 .bf16)
    (shapeCast S2816x1024 w shapeCasts_S1x2816x1024_S2816x1024 : FVec F S2816x1024 .bf16) (constant S256x1024 .f32 0x00000000#32)))

/-! ## The block -/

theorem inb_x (c : Fin 2) : ∀ a, (![0, 256 * c.val, 0] : Fin 3 → ℕ) a + S1x256x1024.size a ≤ S1x512x1024.size a := by
  intro a; fin_cases a <;> simp <;> omega

theorem inb_u (c : Fin 2) : ∀ a, (![0, 256 * c.val, 0] : Fin 3 → ℕ) a + S1x256x512.size a ≤ S1x512x512.size a := by
  intro a; fin_cases a <;> simp <;> omega

theorem inb_mod (r : Fin 6) : ∀ a, (![0, r.val, 0] : Fin 3 → ℕ) a + S1x1x1024.size a ≤ S1x6x1024.size a := by
  intro a; fin_cases a <;> simp <;> omega

theorem inb_out (s : Fin 2) : ∀ a, (![0, 512 * s.val, 0] : Fin 3 → ℕ) a + S1x512x1024.size a ≤ S1x1024x1024.size a := by
  intro a; fin_cases a <;> simp <;> omega

theorem inb_in (s : Fin 2) : ∀ a, (![0, 0, 2816 * s.val] : Fin 3 → ℕ) a + S1x1024x2816.size a ≤ S1x1024x5632.size a := by
  intro a; fin_cases a <;> simp <;> omega

section

variable (x0 : Vec F S1x512x1024 .f32) (x1 : Vec F S1x512x512 .f32) (x2 : Vec F S32x32x256 .f32) (x3 : Vec F S1x512x512 .f32)
  (x4 : Vec F S1x6x1024 .f32) (x5 : Vec F S1x512 .f32) (x6 : Vec F S1x512x512 .bf16) (x7 x8 x9 : Vec F S1x512 .f32)
  (x10 : Vec F S1x1024x1024 .bf16) (x11 : Vec F S1x1024 .f32) (x12 : Vec F S1x1024x5632 .bf16) (x13 : Vec F S1x2816x1024 .bf16)
  (x14 : Vec F S1x1024 .f32) (c : Fin 2)

/-- Row `r` of the modulation. -/
def modAt (r : Fin 6) : Vec F S1x1x1024 .f32 := View.ld x4 (Rect.unit ![0, r.val, 0] S1x1x1024.size (inb_mod r))

/-- Half `s` of the output projection's rows. -/
def outAt (s : Fin 2) : Vec F S1x512x1024 .bf16 := View.ld x10 (Rect.unit ![0, 512 * s.val, 0] S1x512x1024.size (inb_out s))

/-- One of the two inner projections. -/
def inAt (s : Fin 2) : Vec F S1x1024x2816 .bf16 := View.ld x12 (Rect.unit ![0, 0, 2816 * s.val] S1x1024x2816.size (inb_in s))

/-- Half `c`'s gelu'd and gated recurrence branch. -/
def branch : FVec F S256x512 .f32 :=
  gated (gelu (skipped (tokens x2 c) (View.ld x3 (Rect.unit ![0, 256 * c.val, 0] S1x256x512.size (inb_u c))) x5)) x6 x7

/-- Half `c`'s stream after the mixing. -/
def mid : FVec F S256x1024 .f32 :=
  mixed (View.ld x0 (Rect.unit ![0, 256 * c.val, 0] S1x256x1024.size (inb_x c)))
    (normed (shapeCast S256x512 (View.ld x1 (Rect.unit ![0, 256 * c.val, 0] S1x256x512.size (inb_u c)) : Vec F S1x256x512 .f32)
      shapeCasts_S1x256x512_S256x512 : FVec F S256x512 .f32) x8)
    (normed (branch x2 x3 x5 x6 x7 c) x9) (outAt x10 0) (outAt x10 1) (modAt x4 2)

/-- Half `c`'s stream after the feed-forward block, from its stream `x` after the mixing. -/
def after (x : FVec F S256x1024 .f32) : FVec F S256x1024 .f32 :=
  fed x (swiglu (inner (modulated x x11 (modAt x4 4) (modAt x4 3)) (inAt x12 0)) (inner (modulated x x11 (modAt x4 4) (modAt x4 3)) (inAt x12 1)))
    x13 (modAt x4 5)

/-- Half `c`'s result. -/
def half : FVec F S1x256x1024 .f32 :=
  shapeCast S1x256x1024 (mulf (scaled (after x4 x11 x12 x13 (mid x0 x1 x2 x3 x4 x5 x6 x7 x8 x9 x10 c))) (wider (plain x14)))
    shapeCasts_S256x1024_S1x256x1024

/-- The output block of a grid point. -/
def block : FVec F S1x512x1024 .f32 :=
  View.canon (Val := Elt F) (e := .f32) [⟨Rect.unit (s := S1x512x1024) ![0, 256, 0] S1x256x1024.size (inb_x 1), half x0 x1 x2 x3 x4 x5 x6 x7 x8 x9 x10 x11 x12 x13 x14 1⟩,
    ⟨Rect.unit (s := S1x512x1024) ![0, 0, 0] S1x256x1024.size (inb_x 0), half x0 x1 x2 x3 x4 x5 x6 x7 x8 x9 x10 x11 x12 x13 x14 0⟩]

end

end Cert.Mix
-- ==== Proof.MixTokens.lean ====
/- The recurrence's output read back from the staging buffer: every store agrees with one function of the buffer's index,
   so what is read is that function. -/
module

public import proofs.«01_k».proof.Proof.MixBlock

@[expose] public section

set_option maxRecDepth 16384

noncomputable section

namespace Cert.Mix

open Cert.Kernel2Ideal Cert.Kernel2Ideal.Gen Idealize.ShloMosaic Idealize.SL.Sem

variable {F : FTy → Type} [FloatOps F] (x2 : Vec F S32x32x256 .f32)

/-- What the staging buffer holds at feature block `y 0`, token `y 1` of the point, lane `y 2`. -/
def staged (y : S4x512x128.Idx) : Elt F .f32 :=
  x2 (ix3 (n0 := 32) (n1 := 32) (n2 := 256) ⟨8 * (y 0).val + (y 2).val / 16, by have h0 : (y 0).val < 4 := (y 0).isLt; have h2 : (y 2).val < 128 := (y 2).isLt; omega⟩
    ⟨(y 1).val / 16, by have h1 : (y 1).val < 512 := (y 1).isLt; omega⟩
    ⟨16 * ((y 1).val % 16) + (y 2).val % 16, by omega⟩)

theorem group_apply (o : Fin 4) (c h : Fin 2) (g : Fin 8) (i : Fin 16) (l : Fin 128) :
    group x2 o c h g (ix2 i l) = x2 (ix3 (n0 := 32) (n1 := 32) (n2 := 256) ⟨8 * o.val + g.val, by omega⟩ ⟨16 * c.val + i.val, by omega⟩
      ⟨128 * h.val + l.val, by omega⟩) := by
  unfold group
  have e : ∀ V : Vec F S1x16x128 .f32, shapeCast S16x128 V shapeCasts_S1x16x128_S16x128 (ix2 i l) = V (ix3 0 i l) := by intro V; pointwise
  rw [e]
  show x2 _ = x2 _
  congr 1
  funext b
  match b with
  | ⟨0, _⟩ => exact Fin.ext (show 8 * o.val + g.val + 1 * 0 = 8 * o.val + g.val by omega)
  | ⟨1, _⟩ => exact Fin.ext (show 16 * c.val + 1 * i.val = 16 * c.val + i.val by omega)
  | ⟨2, _⟩ => exact Fin.ext (show 128 * h.val + 1 * l.val = 128 * h.val + l.val by omega)

theorem stored_apply (c : Fin 2) (o : Fin 4) (h : Fin 2) (j : Fin 8) (x : S1x16x128.Idx) :
    (row x2 c o h j).2 x = staged x2 ((row x2 c o h j).1.emb x) := by
  obtain ⟨a, i, l, rfl⟩ : ∃ (a : Fin 1) (i : Fin 16) (l : Fin 128), x = ix3 a i l := ⟨_, _, _, eq_ix3 x⟩
  have e : (row x2 c o h j).2 (ix3 a i l) = token (group x2 o c h) j (ix2 i l) := by
    show shapeCast S1x16x128 (token (group x2 o c h) j) shapeCasts_S16x128_S1x16x128 (ix3 a i l) = _
    generalize token (group x2 o c h) j = T
    pointwise
  rw [e, token_apply, group_apply]
  have e0 : ((row x2 c o h j).1.emb (ix3 a i l) 0).val = o.val := by
    show o.val + 1 * a.val = _; omega
  have e1 : ((row x2 c o h j).1.emb (ix3 a i l) 1).val = 256 * c.val + 8 * h.val + j.val + 16 * i.val := rfl
  have e2 : ((row x2 c o h j).1.emb (ix3 a i l) 2).val = l.val := by
    show 0 + 1 * l.val = _; omega
  unfold staged
  congr 1
  refine congr (congr (congrArg _ (Fin.ext ?_)) (Fin.ext ?_)) (Fin.ext ?_)
  · show 8 * o.val + l.val / 16 = 8 * _ + _ / 16
    rw [e0, e2]
  · show 16 * c.val + i.val = _ / 16
    rw [e1]; omega
  · show 128 * h.val + (16 * j.val + l.val % 16) = 16 * (_ % 16) + _ % 16
    rw [e1, e2]; omega

theorem mem_rows (c : Fin 2) (p : View.Piece (Elt F) S4x512x128 .f32) :
    p ∈ rows x2 c ↔ ∃ o h j, p = row x2 c o h j := by
  have h4 : ∀ o : Fin 4, o ∈ ([3, 2, 1, 0] : List (Fin 4)) := by decide
  have h2 : ∀ o : Fin 2, o ∈ ([1, 0] : List (Fin 2)) := by decide
  have h8 : ∀ o : Fin 8, o ∈ ([7, 6, 5, 4, 3, 2, 1, 0] : List (Fin 8)) := by decide
  simp only [rows, List.mem_flatMap, List.mem_map]
  constructor
  · rintro ⟨o, _, h, _, j, _, rfl⟩; exact ⟨o, h, j, rfl⟩
  · rintro ⟨o, h, j, rfl⟩; exact ⟨o, h4 o, h, h2 h, j, h8 j, rfl⟩

theorem mem_stored (c : Fin 2) (p : View.Piece (Elt F) S4x512x128 .f32) (hp : p ∈ stored x2 c) :
    ∃ c' o h j, p = row x2 c' o h j := by
  match c with
  | 0 => exact ⟨0, (mem_rows x2 0 p).mp hp⟩
  | 1 =>
    rcases List.mem_append.mp hp with hp | hp
    · exact ⟨1, (mem_rows x2 1 p).mp hp⟩
    · exact ⟨0, (mem_rows x2 0 p).mp hp⟩

theorem row_mem_stored (c : Fin 2) (o : Fin 4) (h : Fin 2) (j : Fin 8) : row x2 c o h j ∈ stored x2 c := by
  match c with
  | 0 => exact (mem_rows x2 0 _).mpr ⟨o, h, j, rfl⟩
  | 1 => exact List.mem_append_left _ ((mem_rows x2 1 _).mpr ⟨o, h, j, rfl⟩)

/-- Token `s` of half `c`, feature `128 o + l`: group `8 o + l / 16`'s entry for that token. -/
theorem tokens_apply (c : Fin 2) (o : Fin 4) (a : Fin 1) (s : Fin 256) (l : Fin 128) :
    tokens x2 c o (ix3 a s l) = x2 (ix3 (n0 := 32) (n1 := 32) (n2 := 256) ⟨8 * o.val + l.val / 16, by omega⟩ ⟨16 * c.val + s.val / 16, by omega⟩
      ⟨16 * (s.val % 16) + l.val % 16, by omega⟩) := by
  unfold tokens
  rw [View.readCov_eq_canon']
  set y : S4x512x128.Idx := ix3 (n0 := 4) (n1 := 512) (n2 := 128) o ⟨256 * c.val + s.val, by omega⟩ l with hy
  have ey : (Rect.unit (s := S4x512x128) ![o.val, 256 * c.val, 0] S1x256x128.size (inb_tokens o c)).toLoadRect.idx (ix3 a s l) = y := by
    funext b
    match b with
    | ⟨0, _⟩ => exact Fin.ext (show o.val + 1 * a.val = o.val by omega)
    | ⟨1, _⟩ => exact Fin.ext (show 256 * c.val + 1 * s.val = 256 * c.val + s.val by omega)
    | ⟨2, _⟩ => exact Fin.ext (show 0 + 1 * l.val = l.val by omega)
  show View.canon (stored x2 c) ((Rect.unit (s := S4x512x128) ![o.val, 256 * c.val, 0] S1x256x128.size (inb_tokens o c)).toLoadRect.idx (ix3 a s l)) = _
  rw [ey, View.canon_apply_of_pieces (staged x2) (stored x2 c) ?_ y ?_]
  · unfold staged
    congr 1
    refine congr (congr (congrArg _ rfl) (Fin.ext ?_)) (Fin.ext ?_)
    · show (256 * c.val + s.val) / 16 = _; simp only; omega
    · show 16 * ((256 * c.val + s.val) % 16) + l.val % 16 = _; simp only; omega
  · intro p hp x
    obtain ⟨c', o', h', j', rfl⟩ := mem_stored x2 c p hp
    exact stored_apply x2 c' o' h' j' x
  · refine ⟨_, row_mem_stored x2 c o ⟨s.val / 8 % 2, by omega⟩ ⟨s.val % 8, by omega⟩, ?_⟩
    rw [LoadRect.mem_set]
    intro b
    match b with
    | ⟨0, _⟩ => exact ⟨0, Nat.one_pos, show o.val = o.val + 1 * 0 by omega⟩
    | ⟨1, _⟩ => exact ⟨s.val / 16, (show s.val / 16 < 16 by omega),
        show 256 * c.val + s.val = 256 * c.val + 8 * (s.val / 8 % 2) + s.val % 8 + 16 * (s.val / 16) by omega⟩
    | ⟨2, _⟩ => exact ⟨l.val, l.isLt, show l.val = 0 + 1 * l.val by omega⟩

end Cert.Mix
-- ==== Proof.MixToken.lean ====
/- The mathematics that ends a layer, for one token, over the extended reals: the skip term, the gelu, the gate, the norms
   of the two branches, the output projection, and the feed-forward block with the last norm. -/
module

public import Idealize.ShloMosaic.Lib.Pointwise

@[expose] public section

noncomputable section

namespace Cert.Mix

open Idealize.ShloMosaic

/-- What one token's result depends on: the token's own rows, the sequence's six rows of modulation, the layer's weights. -/
structure Token where
  /-- the stream -/
  x : Fin 1024 → EReal
  /-- the attention's output -/
  a : Fin 512 → EReal
  /-- the recurrence's output -/
  y : Fin 512 → EReal
  /-- the recurrence's input -/
  u : Fin 512 → EReal
  /-- the modulation -/
  μ : Fin 6 → Fin 1024 → EReal
  /-- the skip term's weights -/
  d : Fin 512 → EReal
  /-- the gate's matrix and offset -/
  wg : Fin 512 → Fin 512 → EReal
  bg : Fin 512 → EReal
  /-- the gains of the two branches -/
  ga : Fin 512 → EReal
  gs : Fin 512 → EReal
  /-- the output projection -/
  wo : Fin 1024 → Fin 1024 → EReal
  /-- the second norm's gain -/
  n2 : Fin 1024 → EReal
  /-- the feed-forward block's two matrices -/
  wi : Fin 1024 → Fin 5632 → EReal
  wf : Fin 2816 → Fin 1024 → EReal
  /-- the last norm's gain -/
  fn : Fin 1024 → EReal

/-- One over a row's root mean square. -/
def invRms {n : Nat} (N : BitVec 32) (v : Fin n → EReal) : EReal :=
  Ideal.rsqrt (Ideal.div (∑ k, v k * v k) (Ideal.ofBits .f32 N) + Ideal.ofBits .f32 0x358637BD#32)

/-- The gelu in its tanh form. -/
def geluOf (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

/-- The sigmoid. -/
def sigmoid (z : EReal) : EReal := Ideal.div (Ideal.ofBits .f32 0x3F800000#32) (Ideal.ofBits .f32 0x3F800000#32 + Ideal.exp (-z))

namespace Token

variable (T : Token)

def skip (f : Fin 512) : EReal := T.y f + T.d f * T.u f

def act (f : Fin 512) : EReal := geluOf (T.skip f)

def gate (f : Fin 512) : EReal := T.act f * sigmoid ((∑ k, T.act k * T.wg k f) + T.bg f)

def attnNormed (f : Fin 512) : EReal := T.a f * invRms 0x44000000#32 T.a * T.ga f

def ssmNormed (f : Fin 512) : EReal := T.gate f * invRms 0x44000000#32 T.gate * T.gs f

/-- The stream after the mixing. -/
def mid (k : Fin 1024) : EReal :=
  T.x k + T.μ 2 k * ((∑ f : Fin 512, T.attnNormed f * T.wo ⟨f.val, by omega⟩ k) + ∑ f : Fin 512, T.ssmNormed f * T.wo ⟨512 + f.val, by omega⟩ k)

/-- The feed-forward block's input. -/
def hidden (k : Fin 1024) : EReal :=
  T.mid k * invRms 0x44800000#32 T.mid * T.n2 k * (Ideal.ofBits .f32 0x3F800000#32 + T.μ 4 k) + T.μ 3 k

def up (j : Fin 5632) : EReal := ∑ k, T.hidden k * T.wi k j

def swish (j : Fin 2816) : EReal := T.up ⟨j.val, by omega⟩ * sigmoid (T.up ⟨j.val, by omega⟩) * T.up ⟨2816 + j.val, by omega⟩

/-- The stream after the feed-forward block. -/
def last (k : Fin 1024) : EReal := T.mid k + T.μ 5 k * ∑ j, T.swish j * T.wf j k

/-- The result. -/
def result (k : Fin 1024) : EReal := T.last k * invRms 0x44800000#32 T.last * T.fn k

end Token

section

variable (x : FVec Ideal (⟨3, ![8, 4096, 1024]⟩ : Shape) .f32) (a y u : FVec Ideal (⟨3, ![8, 4096, 512]⟩ : Shape) .f32)
  (μ : FVec Ideal (⟨2, ![8, 6144]⟩ : Shape) .f32) (d : FVec Ideal (⟨2, ![4, 512]⟩ : Shape) .f32)
  (wg : FVec Ideal (⟨3, ![4, 512, 512]⟩ : Shape) .f32) (bg ga gs : FVec Ideal (⟨2, ![4, 512]⟩ : Shape) .f32) (wo : FVec Ideal (⟨3, ![4, 1024, 1024]⟩ : Shape) .f32) (n2 : FVec Ideal (⟨2, ![4, 1024]⟩ : Shape) .f32)
  (wi : FVec Ideal (⟨3, ![4, 1024, 5632]⟩ : Shape) .f32) (wf : FVec Ideal (⟨3, ![4, 2816, 1024]⟩ : Shape) .f32) (fn : FVec Ideal (⟨1, ![1024]⟩ : Shape) .f32)

/-- Token `t` of sequence `b`, read off the arguments. -/
def argToken (b : Fin 8) (t : Fin 4096) : Token where
  x k := x (ix3 b t k)
  a f := a (ix3 b t f)
  y f := y (ix3 b t f)
  u f := u (ix3 b t f)
  μ r k := μ (ix2 b ⟨1024 * r.val + k.val, by omega⟩)
  d f := d (ix2 3 f)
  wg k f := wg (ix3 3 k f)
  bg f := bg (ix2 3 f)
  ga f := ga (ix2 3 f)
  gs f := gs (ix2 3 f)
  wo f k := wo (ix3 3 f k)
  n2 k := n2 (ix2 3 k)
  wi k j := wi (ix3 3 k j)
  wf j k := wf (ix3 3 j k)
  fn k := fn (ix1 k)

end

end Cert.Mix
-- ==== Proof.MixPoint.lean ====
/- What a grid point's output block holds, element by element, over the extended reals: at token `s` and feature `k`, the
   token's result. -/
module

public import proofs.«01_k».proof.Proof.MixTokens
public import proofs.«01_k».proof.Proof.MixToken

@[expose] public section

set_option maxRecDepth 16384

noncomputable section

namespace Cert.Mix

open Cert.Kernel2Ideal Cert.Kernel2Ideal.Gen Idealize.ShloMosaic Idealize.SL.Sem

theorem joined_apply (T : Fin 4 → FVec Ideal S1x256x128 .f32) (s : Fin 256) (f : Fin 512) :
    joined (F := Ideal) T (ix2 s f) = T ⟨f.val / 128, by omega⟩ (ix3 0 s ⟨f.val % 128, by omega⟩) := by
  have at_cols : ∀ (o : Fin 4) (l : Fin 128), o.val = f.val / 128 → l.val = f.val % 128 →
      T o (ix3 0 s l) = T ⟨f.val / 128, by omega⟩ (ix3 0 s ⟨f.val % 128, by omega⟩) := by
    intro o l ho hl
    rw [show (⟨f.val / 128, by omega⟩ : Fin 4) = o from Fin.ext ho.symm, show (⟨f.val % 128, by omega⟩ : Fin 128) = l from Fin.ext hl.symm]
  pointwise [joined]
  split
  · exact at_cols 0 _ (show 0 = f.val / 128 by omega) (show f.val = f.val % 128 by omega)
  split
  · exact at_cols 1 _ (show 1 = f.val / 128 by omega) (show f.val - 128 = f.val % 128 by omega)
  split
  · exact at_cols 2 _ (show 2 = f.val / 128 by omega) (show f.val - 128 - 128 = f.val % 128 by omega)
  · exact at_cols 3 _ (show 3 = f.val / 128 by omega) (show f.val - 128 - 128 - 128 = f.val % 128 by omega)

theorem wide_apply (w : FVec Ideal S1x512 .f32) (s : Fin 256) (f : Fin 512) : wide (F := Ideal) w (ix2 s f) = w (ix2 0 f) := by
  pointwise [wide]

theorem skipped_apply (T : Fin 4 → FVec Ideal S1x256x128 .f32) (u : FVec Ideal S1x256x512 .f32) (d : FVec Ideal S1x512 .f32)
    (s : Fin 256) (f : Fin 512) : skipped (F := Ideal) T u d (ix2 s f) = joined (F := Ideal) T (ix2 s f) + d (ix2 0 f) * u (ix3 0 s f) := by
  unfold skipped
  generalize joined (F := Ideal) T = J
  pointwise [wide]

theorem gelu_apply (z : FVec Ideal S256x512 .f32) (s : Fin 256) (f : Fin 512) : gelu (F := Ideal) z (ix2 s f) = geluOf (z (ix2 s f)) := by
  pointwise [gelu, geluOf]
  rw [mul_comm (Ideal.ofBits .f32 0x3F000000#32), mul_assoc]

theorem gated_apply (y : FVec Ideal S256x512 .f32) (w : FVec Ideal S1x512x512 .bf16) (b : FVec Ideal S1x512 .f32) (s : Fin 256) (f : Fin 512) :
    gated (F := Ideal) y w b (ix2 s f) = y (ix2 s f) * sigmoid ((∑ k : Fin 512, y (ix2 s k) * w (ix3 0 k f)) + b (ix2 0 f)) := by
  pointwise [gated, wide, sigmoid]
  rfl

theorem normed_apply (y : FVec Ideal S256x512 .f32) (g : FVec Ideal S1x512 .f32) (s : Fin 256) (f : Fin 512) :
    normed (F := Ideal) y g (ix2 s f) = y (ix2 s f) * invRms 0x44000000#32 (fun k : Fin 512 => y (ix2 s k)) * g (ix2 0 f) := by
  pointwise [normed, wide, invRms]

theorem normed_cast_apply (V : FVec Ideal S1x256x512 .f32) (g : FVec Ideal S1x512 .f32) (s : Fin 256) (f : Fin 512) :
    normed (F := Ideal) (shapeCast S256x512 V shapeCasts_S1x256x512_S256x512 : FVec Ideal S256x512 .f32) g (ix2 s f)
      = V (ix3 0 s f) * invRms 0x44000000#32 (fun k : Fin 512 => V (ix3 0 s k)) * g (ix2 0 f) := by
  pointwise [normed, wide, invRms]

theorem project_apply (y : FVec Ideal S256x512 .f32) (w : FVec Ideal S1x512x1024 .bf16) (s : Fin 256) (k : Fin 1024) :
    project (F := Ideal) y w (ix2 s k) = ∑ f : Fin 512, y (ix2 s f) * w (ix3 0 f k) := by
  pointwise [project]

theorem mixed_apply (x : FVec Ideal S1x256x1024 .f32) (a b : FVec Ideal S256x512 .f32) (wa ws : FVec Ideal S1x512x1024 .bf16)
    (r : FVec Ideal S1x1x1024 .f32) (s : Fin 256) (k : Fin 1024) :
    mixed (F := Ideal) x a b wa ws r (ix2 s k) = x (ix3 0 s k) + r (ix3 0 0 k)
      * ((∑ f : Fin 512, a (ix2 s f) * wa (ix3 0 f k)) + ∑ f : Fin 512, b (ix2 s f) * ws (ix3 0 f k)) := by
  rw [← project_apply, ← project_apply]
  unfold mixed
  generalize project (F := Ideal) a wa = A
  generalize project (F := Ideal) b ws = B
  pointwise [wider, modRow]

theorem scaled_apply (x : FVec Ideal S256x1024 .f32) (s : Fin 256) (k : Fin 1024) :
    scaled (F := Ideal) x (ix2 s k) = x (ix2 s k) * invRms 0x44800000#32 (fun k : Fin 1024 => x (ix2 s k)) := by
  pointwise [scaled, invRms]

theorem modulated_apply (x : FVec Ideal S256x1024 .f32) (n : FVec Ideal S1x1024 .f32) (r₄ r₃ : FVec Ideal S1x1x1024 .f32)
    (s : Fin 256) (k : Fin 1024) : modulated (F := Ideal) x n r₄ r₃ (ix2 s k)
      = x (ix2 s k) * invRms 0x44800000#32 (fun k : Fin 1024 => x (ix2 s k)) * n (ix2 0 k) * (Ideal.ofBits .f32 0x3F800000#32 + r₄ (ix3 0 0 k))
        + r₃ (ix3 0 0 k) := by
  rw [← scaled_apply]
  unfold modulated
  generalize scaled (F := Ideal) x = X
  pointwise [wider, modRow, plain]
  rw [mul_assoc]

theorem inner_apply (h : FVec Ideal S256x1024 .f32) (w : FVec Ideal S1x1024x2816 .bf16) (s : Fin 256) (j : Fin 2816) :
    inner (F := Ideal) h w (ix2 s j) = ∑ k : Fin 1024, h (ix2 s k) * w (ix3 0 k j) := by
  pointwise [inner]

theorem swiglu_apply (g v : FVec Ideal S256x2816 .f32) (s : Fin 256) (j : Fin 2816) :
    swiglu (F := Ideal) g v (ix2 s j) = g (ix2 s j) * sigmoid (g (ix2 s j)) * v (ix2 s j) := by
  pointwise [swiglu, sigmoid]
  rfl

theorem fed_apply (x : FVec Ideal S256x1024 .f32) (a : FVec Ideal S256x2816 .f32) (w : FVec Ideal S1x2816x1024 .bf16)
    (r : FVec Ideal S1x1x1024 .f32) (s : Fin 256) (k : Fin 1024) :
    fed (F := Ideal) x a w r (ix2 s k) = x (ix2 s k) + r (ix3 0 0 k) * ∑ j : Fin 2816, a (ix2 s j) * w (ix3 0 j k) := by
  pointwise [fed, wider, modRow]

/-! ## The block -/

section

variable (x0 : FVec Ideal S1x512x1024 .f32) (x1 : FVec Ideal S1x512x512 .f32) (x2 : FVec Ideal S32x32x256 .f32)
  (x3 : FVec Ideal S1x512x512 .f32) (x4 : FVec Ideal S1x6x1024 .f32) (x5 : FVec Ideal S1x512 .f32) (x6 : FVec Ideal S1x512x512 .bf16)
  (x7 x8 x9 : FVec Ideal S1x512 .f32) (x10 : FVec Ideal S1x1024x1024 .bf16) (x11 : FVec Ideal S1x1024 .f32)
  (x12 : FVec Ideal S1x1024x5632 .bf16) (x13 : FVec Ideal S1x2816x1024 .bf16) (x14 : FVec Ideal S1x1024 .f32)

theorem ld_x (c : Fin 2) (s : Fin 256) (k : Fin 1024) : View.ld (Val := Elt Ideal) (e' := .f32) x0 (Rect.unit (s := S1x512x1024) ![0, 256 * c.val, 0] S1x256x1024.size (inb_x c)) (ix3 0 s k)
    = x0 (ix3 0 ⟨256 * c.val + s.val, by omega⟩ k) := by
  show x0 _ = x0 _
  congr 1; funext b
  match b with
  | ⟨0, _⟩ => exact Fin.ext (show 0 + 1 * 0 = 0 by omega)
  | ⟨1, _⟩ => exact Fin.ext (show 256 * c.val + 1 * s.val = 256 * c.val + s.val by omega)
  | ⟨2, _⟩ => exact Fin.ext (show 0 + 1 * k.val = k.val by omega)

theorem ld_u (c : Fin 2) (s : Fin 256) (f : Fin 512) : View.ld (Val := Elt Ideal) (e' := .f32) x1 (Rect.unit (s := S1x512x512) ![0, 256 * c.val, 0] S1x256x512.size (inb_u c)) (ix3 0 s f)
    = x1 (ix3 0 ⟨256 * c.val + s.val, by omega⟩ f) := by
  show x1 _ = x1 _
  congr 1; funext b
  match b with
  | ⟨0, _⟩ => exact Fin.ext (show 0 + 1 * 0 = 0 by omega)
  | ⟨1, _⟩ => exact Fin.ext (show 256 * c.val + 1 * s.val = 256 * c.val + s.val by omega)
  | ⟨2, _⟩ => exact Fin.ext (show 0 + 1 * f.val = f.val by omega)

theorem modAt_apply (r : Fin 6) (k : Fin 1024) : modAt (F := Ideal) x4 r (ix3 0 0 k) = x4 (ix3 0 r k) := by
  show x4 _ = x4 _
  congr 1; funext b
  match b with
  | ⟨0, _⟩ => exact Fin.ext (show 0 + 1 * 0 = 0 by omega)
  | ⟨1, _⟩ => exact Fin.ext (show r.val + 1 * 0 = r.val by omega)
  | ⟨2, _⟩ => exact Fin.ext (show 0 + 1 * k.val = k.val by omega)

theorem outAt_apply (h : Fin 2) (f : Fin 512) (k : Fin 1024) :
    outAt (F := Ideal) x10 h (ix3 0 f k) = x10 (ix3 0 ⟨512 * h.val + f.val, by omega⟩ k) := by
  show x10 _ = x10 _
  congr 1; funext b
  match b with
  | ⟨0, _⟩ => exact Fin.ext (show 0 + 1 * 0 = 0 by omega)
  | ⟨1, _⟩ => exact Fin.ext (show 512 * h.val + 1 * f.val = 512 * h.val + f.val by omega)
  | ⟨2, _⟩ => exact Fin.ext (show 0 + 1 * k.val = k.val by omega)

theorem inAt_apply (h : Fin 2) (k : Fin 1024) (j : Fin 2816) :
    inAt (F := Ideal) x12 h (ix3 0 k j) = x12 (ix3 0 k ⟨2816 * h.val + j.val, by omega⟩) := by
  show x12 _ = x12 _
  congr 1; funext b
  match b with
  | ⟨0, _⟩ => exact Fin.ext (show 0 + 1 * 0 = 0 by omega)
  | ⟨1, _⟩ => exact Fin.ext (show 0 + 1 * k.val = k.val by omega)
  | ⟨2, _⟩ => exact Fin.ext (show 2816 * h.val + 1 * j.val = 2816 * h.val + j.val by omega)

/-- Token `s` of the point, read off the fifteen blocks. -/
def tok (s : Fin 512) : Token where
  x k := x0 (ix3 0 s k)
  a f := x1 (ix3 0 s f)
  y f := x2 (ix3 ⟨f.val / 16, by omega⟩ ⟨s.val / 16, by omega⟩ ⟨16 * (s.val % 16) + f.val % 16, by omega⟩)
  u f := x3 (ix3 0 s f)
  μ r k := x4 (ix3 0 r k)
  d f := x5 (ix2 0 f)
  wg k f := x6 (ix3 0 k f)
  bg f := x7 (ix2 0 f)
  ga f := x8 (ix2 0 f)
  gs f := x9 (ix2 0 f)
  wo f k := x10 (ix3 0 f k)
  n2 k := x11 (ix2 0 k)
  wi k j := x12 (ix3 0 k j)
  wf j k := x13 (ix3 0 j k)
  fn k := x14 (ix2 0 k)

variable (c : Fin 2) (s : Fin 256)

/-- Half `c`'s token `s`. -/
def tokAt : Token := tok x0 x1 x2 x3 x4 x5 x6 x7 x8 x9 x10 x11 x12 x13 x14 ⟨256 * c.val + s.val, by omega⟩

theorem tokens_joined (f : Fin 512) : joined (F := Ideal) (tokens (F := Ideal) x2 c) (ix2 s f)
    = (tokAt x0 x1 x2 x3 x4 x5 x6 x7 x8 x9 x10 x11 x12 x13 x14 c s).y f := by
  rw [joined_apply, tokens_apply]
  show x2 _ = x2 _
  congr 1; funext b
  match b with
  | ⟨0, _⟩ => exact Fin.ext (show 8 * (f.val / 128) + f.val % 128 / 16 = f.val / 16 by omega)
  | ⟨1, _⟩ => exact Fin.ext (show 16 * c.val + s.val / 16 = (256 * c.val + s.val) / 16 by omega)
  | ⟨2, _⟩ => exact Fin.ext (show 16 * (s.val % 16) + f.val % 128 % 16 = 16 * ((256 * c.val + s.val) % 16) + f.val % 16 by omega)

theorem branch_apply (f : Fin 512) : branch (F := Ideal) x2 x3 x5 x6 x7 c (ix2 s f)
    = (tokAt x0 x1 x2 x3 x4 x5 x6 x7 x8 x9 x10 x11 x12 x13 x14 c s).gate f := by
  have act : ∀ f : Fin 512, gelu (F := Ideal) (skipped (F := Ideal) (tokens (F := Ideal) x2 c)
      (View.ld (Val := Elt Ideal) (e' := .f32) x3 (Rect.unit (s := S1x512x512) ![0, 256 * c.val, 0] S1x256x512.size (inb_u c))) x5) (ix2 s f)
      = (tokAt x0 x1 x2 x3 x4 x5 x6 x7 x8 x9 x10 x11 x12 x13 x14 c s).act f := by
    intro f
    rw [gelu_apply, skipped_apply, tokens_joined x0 x1 x2 x3 x4 x5 x6 x7 x8 x9 x10 x11 x12 x13 x14, ld_u]
    rfl
  rw [branch, gated_apply]
  simp only [act]
  rfl

theorem mid_apply (k : Fin 1024) : mid (F := Ideal) x0 x1 x2 x3 x4 x5 x6 x7 x8 x9 x10 c (ix2 s k)
    = (tokAt x0 x1 x2 x3 x4 x5 x6 x7 x8 x9 x10 x11 x12 x13 x14 c s).mid k := by
  have attn : ∀ f : Fin 512, normed (F := Ideal) (shapeCast S256x512 (View.ld (Val := Elt Ideal) (e' := .f32) x1
        (Rect.unit (s := S1x512x512) ![0, 256 * c.val, 0] S1x256x512.size (inb_u c)) : FVec Ideal S1x256x512 .f32)
        shapeCasts_S1x256x512_S256x512 : FVec Ideal S256x512 .f32) x8 (ix2 s f)
      = (tokAt x0 x1 x2 x3 x4 x5 x6 x7 x8 x9 x10 x11 x12 x13 x14 c s).attnNormed f := by
    intro f
    rw [normed_cast_apply, ld_u, funext fun k => ld_u x1 c s k]
    rfl
  have ssm : ∀ f : Fin 512, normed (F := Ideal) (branch (F := Ideal) x2 x3 x5 x6 x7 c) x9 (ix2 s f)
      = (tokAt x0 x1 x2 x3 x4 x5 x6 x7 x8 x9 x10 x11 x12 x13 x14 c s).ssmNormed f := by
    intro f
    rw [normed_apply]
    simp only [branch_apply x0 x1 x2 x3 x4 x5 x6 x7 x8 x9 x10 x11 x12 x13 x14]
    rfl
  have first : ∀ f : Fin 512, outAt (F := Ideal) x10 0 (ix3 0 f k) = x10 (ix3 0 ⟨f.val, by omega⟩ k) := by
    intro f
    rw [outAt_apply]
    exact congrArg (fun i => x10 (ix3 0 i k)) (Fin.ext (show 512 * 0 + f.val = f.val by omega))
  have second : ∀ f : Fin 512, outAt (F := Ideal) x10 1 (ix3 0 f k) = x10 (ix3 0 ⟨512 + f.val, by omega⟩ k) := by
    intro f
    rw [outAt_apply]
    exact congrArg (fun i => x10 (ix3 0 i k)) (Fin.ext (show 512 * 1 + f.val = 512 + f.val by omega))
  rw [mid, mixed_apply, ld_x, modAt_apply, Finset.sum_congr rfl fun f _ => congr (congrArg _ (attn f)) (first f),
    Finset.sum_congr rfl fun f _ => congr (congrArg _ (ssm f)) (second f)]
  rfl

theorem after_apply (k : Fin 1024) : after (F := Ideal) x4 x11 x12 x13 (mid (F := Ideal) x0 x1 x2 x3 x4 x5 x6 x7 x8 x9 x10 c) (ix2 s k)
    = (tokAt x0 x1 x2 x3 x4 x5 x6 x7 x8 x9 x10 x11 x12 x13 x14 c s).last k := by
  have hidden : ∀ k : Fin 1024, modulated (F := Ideal) (mid (F := Ideal) x0 x1 x2 x3 x4 x5 x6 x7 x8 x9 x10 c) x11 (modAt x4 4) (modAt x4 3) (ix2 s k)
      = (tokAt x0 x1 x2 x3 x4 x5 x6 x7 x8 x9 x10 x11 x12 x13 x14 c s).hidden k := by
    intro k
    rw [modulated_apply, modAt_apply, modAt_apply]
    simp only [mid_apply x0 x1 x2 x3 x4 x5 x6 x7 x8 x9 x10 x11 x12 x13 x14]
    rfl
  have up : ∀ (h : Fin 2) (j : Fin 2816), inner (F := Ideal) (modulated (F := Ideal) (mid (F := Ideal) x0 x1 x2 x3 x4 x5 x6 x7 x8 x9 x10 c) x11 (modAt x4 4) (modAt x4 3))
      (inAt x12 h) (ix2 s j) = (tokAt x0 x1 x2 x3 x4 x5 x6 x7 x8 x9 x10 x11 x12 x13 x14 c s).up ⟨2816 * h.val + j.val, by omega⟩ := by
    intro h j
    rw [inner_apply]
    simp only [hidden, inAt_apply]
    rfl
  have zeroth : ∀ j : Fin 2816, (⟨2816 * (0 : Fin 2).val + j.val, by omega⟩ : Fin 5632) = ⟨j.val, by omega⟩ := by
    intro j
    exact Fin.ext (show 2816 * 0 + j.val = j.val by omega)
  rw [after, fed_apply, modAt_apply]
  simp only [swiglu_apply, up, mid_apply x0 x1 x2 x3 x4 x5 x6 x7 x8 x9 x10 x11 x12 x13 x14, zeroth]
  rfl

theorem half_apply (k : Fin 1024) : half (F := Ideal) x0 x1 x2 x3 x4 x5 x6 x7 x8 x9 x10 x11 x12 x13 x14 c (ix3 0 s k)
    = (tokAt x0 x1 x2 x3 x4 x5 x6 x7 x8 x9 x10 x11 x12 x13 x14 c s).result k := by
  have peel : ∀ (X : FVec Ideal S256x1024 .f32), (shapeCast S1x256x1024 (mulf X (wider (plain x14))) shapeCasts_S256x1024_S1x256x1024
      : FVec Ideal S1x256x1024 .f32) (ix3 0 s k) = X (ix2 s k) * x14 (ix2 0 k) := by
    intro X
    pointwise [wider, plain]
  rw [half, peel, scaled_apply]
  simp only [after_apply x0 x1 x2 x3 x4 x5 x6 x7 x8 x9 x10 x11 x12 x13 x14]
  rfl

/-- The output block at token `s` and feature `k`. -/
theorem block_apply (s : Fin 512) (k : Fin 1024) : block (F := Ideal) x0 x1 x2 x3 x4 x5 x6 x7 x8 x9 x10 x11 x12 x13 x14 (ix3 0 s k)
    = (tok x0 x1 x2 x3 x4 x5 x6 x7 x8 x9 x10 x11 x12 x13 x14 s).result k := by
  set G : S1x512x1024.Idx → EReal := fun y => (tok x0 x1 x2 x3 x4 x5 x6 x7 x8 x9 x10 x11 x12 x13 x14 (y 1)).result (y 2)
  have piece : ∀ (c : Fin 2) (x : (Rect.unit (s := S1x512x1024) ![0, 256 * c.val, 0] S1x256x1024.size (inb_x c)).shape.Idx),
      half (F := Ideal) x0 x1 x2 x3 x4 x5 x6 x7 x8 x9 x10 x11 x12 x13 x14 c x
        = G ((Rect.unit (s := S1x512x1024) ![0, 256 * c.val, 0] S1x256x1024.size (inb_x c)).emb x) := by
    intro c x
    obtain ⟨i, s, k, rfl⟩ : ∃ (i : Fin 1) (s : Fin 256) (k : Fin 1024), x = ix3 i s k := ⟨_, _, _, eq_ix3 x⟩
    obtain rfl : i = 0 := Subsingleton.elim _ _
    rw [half_apply]
    show (tok x0 x1 x2 x3 x4 x5 x6 x7 x8 x9 x10 x11 x12 x13 x14 _).result _ = (tok x0 x1 x2 x3 x4 x5 x6 x7 x8 x9 x10 x11 x12 x13 x14 _).result _
    refine congr (congrArg _ (congrArg _ (Fin.ext ?_))) (Fin.ext ?_)
    · show 256 * c.val + s.val = 256 * c.val + 1 * s.val; omega
    · show k.val = 0 + 1 * k.val; omega
  have inside : ∀ c : Fin 2, c.val = s.val / 256 →
      (ix3 0 s k : S1x512x1024.Idx) ∈ (Rect.unit (s := S1x512x1024) ![0, 256 * c.val, 0] S1x256x1024.size (inb_x c)).set := by
    intro c hc
    rw [LoadRect.mem_set]
    intro b
    match b with
    | ⟨0, _⟩ => exact ⟨0, Nat.one_pos, show 0 = 0 + 1 * 0 by omega⟩
    | ⟨1, _⟩ => exact ⟨s.val % 256, (show s.val % 256 < 256 by omega), show s.val = 256 * c.val + 1 * (s.val % 256) by omega⟩
    | ⟨2, _⟩ => exact ⟨k.val, k.isLt, show k.val = 0 + 1 * k.val by omega⟩
  unfold block
  refine View.canon_apply_of_pieces (Val := Elt Ideal) (e := .f32) G _ ?_ _ ?_
  · intro p hp
    rcases List.mem_pair.mp hp with rfl | rfl
    · exact piece 1
    · exact piece 0
  · rcases Nat.lt_or_ge s.val 256 with h | h
    · exact ⟨_, List.mem_pair.mpr (.inr rfl), inside 0 (show 0 = s.val / 256 by omega)⟩
    · exact ⟨_, List.mem_pair.mpr (.inl rfl), inside 1 (show 1 = s.val / 256 by omega)⟩

end

end Cert.Mix
-- ==== Proof.MixRun.lean ====
/- What the run leaves in the output window at a grid point is the block of MixBlock.lean. -/
module

public import proofs.«01_k».proof.Proof.MixBlock

@[expose] public section

set_option maxRecDepth 16384

noncomputable section

namespace Cert.Mix

open Cert.Kernel2Ideal Cert.Kernel2Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- What a grid point leaves in the output window is `block` of its input blocks. -/
theorem outsAt_eq (c : Dev nD) (t : Fin cfg0.N) : outsAt0 m c t = block (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) := by
  unfold outsAt0
  frame_out
  rfl

end Cert.Mix
-- ==== Proof.MixArray.lean ====
/- What the result array of the call that ends a layer holds after the run, from the call's fifteen arguments. -/
module

public import proofs.«01_k».proof.Proof.MixPoint
public import proofs.«01_k».proof.Proof.MixRun

@[expose] public section

set_option maxRecDepth 16384

noncomputable section

namespace Cert.Mix

open Cert.Kernel2Ideal Cert.Kernel2Ideal.Gen Idealize.ShloMosaic Idealize.ShloMosaic.TcCoe Idealize.SL.Sem
open Idealize.ShloMosaic.Pipeline (Dat)

/-- The whole result array. -/
def resultMix (x : FVec Ideal S8x4096x1024 .f32) (a y u : FVec Ideal S8x4096x512 .f32) (μ : FVec Ideal S8x6144 .f32) (d : FVec Ideal S4x512 .f32)
    (wg : FVec Ideal S4x512x512 .f32) (bg ga gs : FVec Ideal S4x512 .f32) (wo : FVec Ideal S4x1024x1024 .f32) (n2 : FVec Ideal S4x1024 .f32)
    (wi : FVec Ideal S4x1024x5632 .f32) (wf : FVec Ideal S4x2816x1024 .f32) (fn : FVec Ideal S1024 .f32) : FVec Ideal S8x4096x1024 .f32 :=
  fun i => (argToken x a y u μ d wg bg ga gs wo n2 wi wf fn (i 0) (i 1)).result (i 2)

variable (m : (ℓ : Loc nD τ sig) → Buf (Elt Ideal) ℓ)

theorem idx : ∀ t : Fin cfg0.N, t.val < 64
    ∧ win0_0.index t = ![t.val / 8, t.val % 8, 0]
    ∧ win0_1.index t = ![t.val / 8, t.val % 8, 0]
    ∧ win0_2.index t = ![0, t.val, 0]
    ∧ win0_3.index t = ![t.val / 8, t.val % 8, 0]
    ∧ win0_4.index t = ![t.val / 8, 0, 0]
    ∧ win0_5.index t = ![0, 0]
    ∧ win0_6.index t = ![3, 0, 0]
    ∧ win0_7.index t = ![0, 0]
    ∧ win0_8.index t = ![0, 0]
    ∧ win0_9.index t = ![0, 0]
    ∧ win0_10.index t = ![3, 0, 0]
    ∧ win0_11.index t = ![0, 0]
    ∧ win0_12.index t = ![3, 0, 0]
    ∧ win0_13.index t = ![3, 0, 0]
    ∧ win0_14.index t = ![0, 0]
    ∧ win0_15.index t = ![t.val / 8, t.val % 8, 0] :=
  (by decide +kernel : ∀ t : Fin grid0.N, _)

/-- The sequence a grid point works on … -/
def seqOf (t : Fin cfg0.N) : Fin 8 := ⟨t.val / 8, by have := (idx t).1; omega⟩

/-- … and where in it the point's token `s` lies. -/
def posOf (t : Fin cfg0.N) (s : Fin 512) : Fin 4096 := ⟨512 * (t.val % 8) + s.val, by omega⟩

/-! ## What the arrays hold when the call begins -/

/-- The recurrence's output, group by group, in chunks of sixteen tokens. -/
theorem read_y (c : Dev nD) (g : Fin 32) (q : Fin 2048) (e : Fin 256) : V m c main_v2 (ix3 g q e)
    = m ((c : Thread nD τ).loc main_arg2) (ix3 ⟨q.val / 256, by omega⟩ ⟨q.val % 256 * 16 + e.val / 16, by omega⟩ ⟨g.val * 16 + e.val % 16, by omega⟩) := by
  entry_read
  pointwise

/-- The modulation's six rows. -/
theorem read_mod (c : Dev nD) (b : Fin 8) (r : Fin 6) (k : Fin 1024) : V m c main_v3 (ix3 b r k)
    = m ((c : Thread nD τ).loc main_arg4) (ix2 b ⟨r.val * 1024 + k.val, by omega⟩) := by
  entry_read
  pointwise

/-- The skip term's weights. -/
theorem read_d (c : Dev nD) (f : Fin 512) : V m c main_v6 (ix2 0 f) = m ((c : Thread nD τ).loc main_arg5) (ix2 3 f) := by
  entry_read
  pointwise

/-- The gate's matrices. -/
theorem read_wg (c : Dev nD) (i : Fin 4) (k f : Fin 512) : V m c main_v7 (ix3 i k f) = m ((c : Thread nD τ).loc main_arg6) (ix3 i k f) := by
  entry_read
  pointwise

/-- The gate's offset. -/
theorem read_bg (c : Dev nD) (f : Fin 512) : V m c main_v10 (ix2 0 f) = m ((c : Thread nD τ).loc main_arg7) (ix2 3 f) := by
  entry_read
  pointwise

/-- The attention branch's gain. -/
theorem read_ga (c : Dev nD) (f : Fin 512) : V m c main_v13 (ix2 0 f) = m ((c : Thread nD τ).loc main_arg8) (ix2 3 f) := by
  entry_read
  pointwise

/-- The recurrence branch's gain. -/
theorem read_gs (c : Dev nD) (f : Fin 512) : V m c main_v16 (ix2 0 f) = m ((c : Thread nD τ).loc main_arg9) (ix2 3 f) := by
  entry_read
  pointwise

/-- The output projections. -/
theorem read_wo (c : Dev nD) (i : Fin 4) (k f : Fin 1024) : V m c main_v17 (ix3 i k f) = m ((c : Thread nD τ).loc main_arg10) (ix3 i k f) := by
  entry_read
  pointwise

/-- The second norm's gain. -/
theorem read_n2 (c : Dev nD) (k : Fin 1024) : V m c main_v20 (ix2 0 k) = m ((c : Thread nD τ).loc main_arg11) (ix2 3 k) := by
  entry_read
  pointwise

/-- The inner projections. -/
theorem read_wi (c : Dev nD) (i : Fin 4) (k : Fin 1024) (j : Fin 5632) : V m c main_v21 (ix3 i k j) = m ((c : Thread nD τ).loc main_arg12) (ix3 i k j) := by
  entry_read
  pointwise

/-- The outer projections. -/
theorem read_wf (c : Dev nD) (i : Fin 4) (j : Fin 2816) (k : Fin 1024) : V m c main_v22 (ix3 i j k) = m ((c : Thread nD τ).loc main_arg13) (ix3 i j k) := by
  entry_read
  pointwise

/-- The last norm's gain. -/
theorem read_fn (c : Dev nD) (k : Fin 1024) : V m c main_v23 (ix2 0 k) = m ((c : Thread nD τ).loc main_arg14) (ix1 k) := by
  entry_read
  pointwise

/-! ## Where a grid point's blocks lie in their arrays -/

theorem emb_0 (t : Fin cfg0.N) (s : Fin 512) (k : Fin 1024) : (win0_0.blk t).view.emb (ix3 0 s k)
    = ix3 (n0 := 8) (n1 := 4096) (n2 := 1024) (seqOf t) (posOf t s) k := by
  blk_ext [idx t, seqOf, posOf]

theorem emb_1 (t : Fin cfg0.N) (s f : Fin 512) : (win0_1.blk t).view.emb (ix3 0 s f)
    = ix3 (n0 := 8) (n1 := 4096) (n2 := 512) (seqOf t) (posOf t s) f := by
  blk_ext [idx t, seqOf, posOf]

theorem emb_2 (t : Fin cfg0.N) (g q : Fin 32) (e : Fin 256) : (win0_2.blk t).view.emb (ix3 g q e)
    = ix3 (n0 := 32) (n1 := 2048) (n2 := 256) g ⟨32 * t.val + q.val, by have := (idx t).1; omega⟩ e := by
  blk_ext [idx t, seqOf, posOf]

theorem emb_3 (t : Fin cfg0.N) (s f : Fin 512) : (win0_3.blk t).view.emb (ix3 0 s f)
    = ix3 (n0 := 8) (n1 := 4096) (n2 := 512) (seqOf t) (posOf t s) f := by
  blk_ext [idx t, seqOf, posOf]

theorem emb_4 (t : Fin cfg0.N) (r : Fin 6) (k : Fin 1024) : (win0_4.blk t).view.emb (ix3 0 r k)
    = ix3 (n0 := 8) (n1 := 6) (n2 := 1024) (seqOf t) r k := by
  blk_ext [idx t, seqOf, posOf]

theorem emb_5 (t : Fin cfg0.N) (f : Fin 512) : (win0_5.blk t).view.emb (ix2 0 f)
    = ix2 (n0 := 1) (n1 := 512) 0 f := by
  blk_ext [idx t, seqOf, posOf]

theorem emb_7 (t : Fin cfg0.N) (f : Fin 512) : (win0_7.blk t).view.emb (ix2 0 f)
    = ix2 (n0 := 1) (n1 := 512) 0 f := by
  blk_ext [idx t, seqOf, posOf]

theorem emb_8 (t : Fin cfg0.N) (f : Fin 512) : (win0_8.blk t).view.emb (ix2 0 f)
    = ix2 (n0 := 1) (n1 := 512) 0 f := by
  blk_ext [idx t, seqOf, posOf]

theorem emb_9 (t : Fin cfg0.N) (f : Fin 512) : (win0_9.blk t).view.emb (ix2 0 f)
    = ix2 (n0 := 1) (n1 := 512) 0 f := by
  blk_ext [idx t, seqOf, posOf]

theorem emb_11 (t : Fin cfg0.N) (k : Fin 1024) : (win0_11.blk t).view.emb (ix2 0 k)
    = ix2 (n0 := 1) (n1 := 1024) 0 k := by
  blk_ext [idx t, seqOf, posOf]

theorem emb_14 (t : Fin cfg0.N) (k : Fin 1024) : (win0_14.blk t).view.emb (ix2 0 k)
    = ix2 (n0 := 1) (n1 := 1024) 0 k := by
  blk_ext [idx t, seqOf, posOf]

theorem emb_6 (t : Fin cfg0.N) (k f : Fin 512) : (win0_6.blk t).view.emb (ix3 0 k f)
    = ix3 (n0 := 4) (n1 := 512) (n2 := 512) 3 k f := by
  blk_ext [idx t, seqOf, posOf]

theorem emb_10 (t : Fin cfg0.N) (k f : Fin 1024) : (win0_10.blk t).view.emb (ix3 0 k f)
    = ix3 (n0 := 4) (n1 := 1024) (n2 := 1024) 3 k f := by
  blk_ext [idx t, seqOf, posOf]

theorem emb_12 (t : Fin cfg0.N) (k : Fin 1024) (j : Fin 5632) : (win0_12.blk t).view.emb (ix3 0 k j)
    = ix3 (n0 := 4) (n1 := 1024) (n2 := 5632) 3 k j := by
  blk_ext [idx t, seqOf, posOf]

theorem emb_13 (t : Fin cfg0.N) (j : Fin 2816) (k : Fin 1024) : (win0_13.blk t).view.emb (ix3 0 j k)
    = ix3 (n0 := 4) (n1 := 2816) (n2 := 1024) 3 j k := by
  blk_ext [idx t, seqOf, posOf]

theorem emb_15 (t : Fin cfg0.N) (s : Fin 512) (k : Fin 1024) : (win0_15.blk t).view.emb (ix3 0 s k)
    = ix3 (n0 := 8) (n1 := 4096) (n2 := 1024) (seqOf t) (posOf t s) k := by
  blk_ext [idx t, seqOf, posOf]

/-! ## The result -/

section

variable (c : Dev nD) (t : Fin cfg0.N)

theorem blk_x (s : Fin 512) (k : Fin 1024) : iblk m c 0 t (ix3 0 s k) = m ((c : Thread nD τ).loc main_arg0) (ix3 (seqOf t) (posOf t s) k) := by
  blk_simp [iblk]; rw [emb_0]; entry_read; rfl

theorem blk_a (s : Fin 512) (f : Fin 512) : iblk m c 1 t (ix3 0 s f) = m ((c : Thread nD τ).loc main_arg1) (ix3 (seqOf t) (posOf t s) f) := by
  blk_simp [iblk]; rw [emb_1]; entry_read; rfl

theorem blk_y (s : Fin 512) (f : Fin 512) : iblk m c 2 t (ix3 ⟨f.val / 16, by omega⟩ ⟨s.val / 16, by omega⟩ ⟨16 * (s.val % 16) + f.val % 16, by omega⟩)
    = m ((c : Thread nD τ).loc main_arg2) (ix3 (seqOf t) (posOf t s) f) := by
  have ht := (idx t).1
  blk_simp [iblk]; rw [emb_2, read_y]
  congr 1
  refine congr (congr (congrArg _ (Fin.ext ?_)) (Fin.ext ?_)) (Fin.ext ?_)
  · show (32 * t.val + s.val / 16) / 256 = t.val / 8; omega
  · show (32 * t.val + s.val / 16) % 256 * 16 + (16 * (s.val % 16) + f.val % 16) / 16 = 512 * (t.val % 8) + s.val; omega
  · show f.val / 16 * 16 + (16 * (s.val % 16) + f.val % 16) % 16 = f.val; omega

theorem blk_u (s : Fin 512) (f : Fin 512) : iblk m c 3 t (ix3 0 s f) = m ((c : Thread nD τ).loc main_arg3) (ix3 (seqOf t) (posOf t s) f) := by
  blk_simp [iblk]; rw [emb_3]; entry_read; rfl

theorem blk_μ (r : Fin 6) (k : Fin 1024) : iblk m c 4 t (ix3 0 r k)
    = m ((c : Thread nD τ).loc main_arg4) (ix2 (seqOf t) ⟨1024 * r.val + k.val, by omega⟩) := by
  blk_simp [iblk]; rw [emb_4, read_mod]
  exact congrArg (fun i => m ((c : Thread nD τ).loc main_arg4) (ix2 (seqOf t) i)) (Fin.ext (show r.val * 1024 + k.val = 1024 * r.val + k.val by omega))

theorem blk_d (f : Fin 512) : iblk m c 5 t (ix2 0 f) = m ((c : Thread nD τ).loc main_arg5) (ix2 3 f) := by
  blk_simp [iblk]; rw [emb_5, read_d]

theorem blk_wg (k f : Fin 512) : iblk m c 6 t (ix3 0 k f) = m ((c : Thread nD τ).loc main_arg6) (ix3 3 k f) := by
  blk_simp [iblk]; rw [emb_6, read_wg]

theorem blk_bg (f : Fin 512) : iblk m c 7 t (ix2 0 f) = m ((c : Thread nD τ).loc main_arg7) (ix2 3 f) := by
  blk_simp [iblk]; rw [emb_7, read_bg]

theorem blk_ga (f : Fin 512) : iblk m c 8 t (ix2 0 f) = m ((c : Thread nD τ).loc main_arg8) (ix2 3 f) := by
  blk_simp [iblk]; rw [emb_8, read_ga]

theorem blk_gs (f : Fin 512) : iblk m c 9 t (ix2 0 f) = m ((c : Thread nD τ).loc main_arg9) (ix2 3 f) := by
  blk_simp [iblk]; rw [emb_9, read_gs]

theorem blk_wo (f k : Fin 1024) : iblk m c 10 t (ix3 0 f k) = m ((c : Thread nD τ).loc main_arg10) (ix3 3 f k) := by
  blk_simp [iblk]; rw [emb_10, read_wo]

theorem blk_n2 (k : Fin 1024) : iblk m c 11 t (ix2 0 k) = m ((c : Thread nD τ).loc main_arg11) (ix2 3 k) := by
  blk_simp [iblk]; rw [emb_11, read_n2]

theorem blk_wi (k : Fin 1024) (j : Fin 5632) : iblk m c 12 t (ix3 0 k j) = m ((c : Thread nD τ).loc main_arg12) (ix3 3 k j) := by
  blk_simp [iblk]; rw [emb_12, read_wi]

theorem blk_wf (j : Fin 2816) (k : Fin 1024) : iblk m c 13 t (ix3 0 j k) = m ((c : Thread nD τ).loc main_arg13) (ix3 3 j k) := by
  blk_simp [iblk]; rw [emb_13, read_wf]

theorem blk_fn (k : Fin 1024) : iblk m c 14 t (ix2 0 k) = m ((c : Thread nD τ).loc main_arg14) (ix1 k) := by
  blk_simp [iblk]; rw [emb_14, read_fn]

end

/-- The token read off a grid point's blocks is the token read off the arguments. -/
theorem tok_eq (c : Dev nD) (t : Fin cfg0.N) (s : Fin 512) :
    tok (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s
      = argToken (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (seqOf t) (posOf t s) := by
  unfold tok argToken
  rw [Token.mk.injEq]
  exact ⟨funext (blk_x m c t s), funext (blk_a m c t s), funext (blk_y m c t s), funext (blk_u m c t s),
    funext fun r => funext (blk_μ m c t r), funext (blk_d m c t), funext fun k => funext (blk_wg m c t k), funext (blk_bg m c t), funext (blk_ga m c t), funext (blk_gs m c t),
    funext fun f => funext (blk_wo m c t f), funext (blk_n2 m c t), funext fun k => funext (blk_wi m c t k), funext fun j => funext (blk_wf m c t j), funext (blk_fn m c t)⟩

/-- The result array after the run. -/
theorem final (c : Dev nD) : (dats m 0 c).arrAt 15 (cfgs 0).N
    = resultMix (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15, outsAt_eq]
  obtain ⟨s, k, rfl⟩ : ∃ (s : Fin 512) (k : Fin 1024), y = ix3 0 s k := ⟨y 1, y 2, by
    have h0 : y 0 = (0 : Fin 1) := Subsingleton.elim (α := Fin 1) _ _
    rw [← h0]; exact eq_ix3 y⟩
  rw [block_apply, tok_eq, emb_15]
  rfl

end Cert.Mix
-- ==== Proof.MixReference.lean ====
/- What the reference of the call that ends a layer returns at an index: the token's result. -/
module

public import proofs.«01_k».proof.Proof.Gen.Reference2Ideal.Run
public import proofs.«01_k».proof.Proof.MixToken

@[expose] public section

set_option maxRecDepth 16384

noncomputable section

namespace Cert.Mix

open Cert.Reference2Ideal Cert.Reference2Ideal.Gen Idealize.ShloMosaic

/-! ## The reference's lines -/

/-- The recurrence's output with the skip term. -/
def skipR (y u : FVec Ideal S8x4096x512 .f32) (d : FVec Ideal S4x512 .f32) : FVec Ideal S8x4096x512 .f32 :=
  addf y (mulf (broadcastInDim S8x4096x512 ![0, 1, 2] bcast_S1x1x512_S8x4096x512_0_1_2 (broadcastInDim S1x1x512 ![2] bcast_S512_S1x1x512_2
    (shapeCast _ (extractStridedSlice S1x512 ![3, 0] d slices_S4x512_S1x512_3_0) shapeCasts_S1x512_S512))) u)

/-- The gelu. -/
def geluR (z : FVec Ideal S8x4096x512 .f32) : FVec Ideal S8x4096x512 .f32 :=
  mulf z (mulf (broadcastInDim S8x4096x512 ![] bcast_S_S8x4096x512 (constant S_ .f32 0x3F000000#32))
    (addf (broadcastInDim S8x4096x512 ![] bcast_S_S8x4096x512 (constant S_ .f32 0x3F800000#32))
      (Host.tanh (mulf (broadcastInDim S8x4096x512 ![] bcast_S_S8x4096x512 (constant S_ .f32 0x3F4C422A#32))
        (addf z (mulf (broadcastInDim S8x4096x512 ![] bcast_S_S8x4096x512 (constant S_ .f32 0x3D372713#32)) (mulf (mulf z z) z)))))))

/-- The sigmoid gate. -/
def gateR (z : FVec Ideal S8x4096x512 .f32) (w : FVec Ideal S4x512x512 .f32) (b : FVec Ideal S4x512 .f32) : FVec Ideal S8x4096x512 .f32 :=
  mulf z (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf
      (addf (Host.dotGeneral dot_S8x4096x512_S512x512_S8x4096x512_2_0_01_1_n_n none z
          (shapeCast _ (extractStridedSlice S1x512x512 ![3, 0, 0] w slices_S4x512x512_S1x512x512_3_0_0) shapeCasts_S1x512x512_S512x512))
        (broadcastInDim S8x4096x512 ![0, 1, 2] bcast_S1x1x512_S8x4096x512_0_1_2 (broadcastInDim S1x1x512 ![2] bcast_S512_S1x1x512_2
          (shapeCast _ (extractStridedSlice S1x512 ![3, 0] b slices_S4x512_S1x512_3_0) shapeCasts_S1x512_S512))))))))

/-- A branch's norm. -/
def normR (z : FVec Ideal S8x4096x512 .f32) (g : FVec Ideal S4x512 .f32) : FVec Ideal S8x4096x512 .f32 :=
  mulf (mulf z (broadcastInDim S8x4096x512 ![0, 1, 2] bcast_S8x4096x1_S8x4096x512_0_1_2 (Host.rsqrt (addf (Host.divf
      (broadcastInDim S8x4096x1 ![0, 1] bcast_S8x4096_S8x4096x1_0_1
        (Host.reduceAdd (mulf z z) (constant S_ .f32 0x00000000#32) reducesTo_S8x4096x512_S8x4096_d2 h_S_))
      (broadcastInDim S8x4096x1 ![] bcast_S_S8x4096x1 (constant S_ .f32 0x44000000#32)))
      (broadcastInDim S8x4096x1 ![] bcast_S_S8x4096x1 (constant S_ .f32 0x358637BD#32))))))
    (broadcastInDim S8x4096x512 ![0, 1, 2] bcast_S1x1x512_S8x4096x512_0_1_2 (broadcastInDim S1x1x512 ![2] bcast_S512_S1x1x512_2
      (shapeCast _ (extractStridedSlice S1x512 ![3, 0] g slices_S4x512_S1x512_3_0) shapeCasts_S1x512_S512)))

/-- The modulation with an axis for the tokens. -/
def modR (μ : FVec Ideal S8x6144 .f32) : FVec Ideal S8x1x6144 .f32 := broadcastInDim S8x1x6144 ![0, 2] bcast_S8x6144_S8x1x6144_0_2 μ

/-- The two branches side by side times the output projection, added to the stream. -/
def midR (x : FVec Ideal S8x4096x1024 .f32) (a s : FVec Ideal S8x4096x512 .f32) (μ : FVec Ideal S8x6144 .f32)
    (w : FVec Ideal S4x1024x1024 .f32) : FVec Ideal S8x4096x1024 .f32 :=
  addf x (mulf (broadcastInDim S8x4096x1024 ![0, 1, 2] bcast_S8x1x1024_S8x4096x1024_0_1_2
      (extractStridedSlice S8x1x1024 ![0, 0, 2048] (modR μ) slices_S8x1x6144_S8x1x1024_0_0_2048))
    (Host.dotGeneral dot_S8x4096x1024_S1024x1024_S8x4096x1024_2_0_01_1_n_n none
      (concatenate S8x4096x1024 2 [⟨S8x4096x512, a⟩, ⟨S8x4096x512, s⟩] concatenates_S8x4096x512_S8x4096x512_S8x4096x1024_d2)
      (shapeCast _ (extractStridedSlice S1x1024x1024 ![3, 0, 0] w slices_S4x1024x1024_S1x1024x1024_3_0_0) shapeCasts_S1x1024x1024_S1024x1024)))

/-- The stream divided by its root mean square. -/
def scaleR (x : FVec Ideal S8x4096x1024 .f32) : FVec Ideal S8x4096x1024 .f32 :=
  mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))))

/-- The feed-forward block's input. -/
def hiddenR (x : FVec Ideal S8x4096x1024 .f32) (n : FVec Ideal S4x1024 .f32) (μ : FVec Ideal S8x6144 .f32) : FVec Ideal S8x4096x1024 .f32 :=
  addf (mulf (mulf (scaleR x) (broadcastInDim S8x4096x1024 ![0, 1, 2] bcast_S1x1x1024_S8x4096x1024_0_1_2
      (broadcastInDim S1x1x1024 ![2] bcast_S1024_S1x1x1024_2
        (shapeCast _ (extractStridedSlice S1x1024 ![3, 0] n slices_S4x1024_S1x1024_3_0) shapeCasts_S1x1024_S1024))))
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 4096] (modR μ) slices_S8x1x6144_S8x1x1024_0_0_4096))))
    (broadcastInDim S8x4096x1024 ![0, 1, 2] bcast_S8x1x1024_S8x4096x1024_0_1_2
      (extractStridedSlice S8x1x1024 ![0, 0, 3072] (modR μ) slices_S8x1x6144_S8x1x1024_0_0_3072))

/-- The inner projections. -/
def upR (h : FVec Ideal S8x4096x1024 .f32) (w : FVec Ideal S4x1024x5632 .f32) : FVec Ideal S8x4096x5632 .f32 :=
  Host.dotGeneral dot_S8x4096x1024_S1024x5632_S8x4096x5632_2_0_01_1_n_n none h
    (shapeCast _ (extractStridedSlice S1x1024x5632 ![3, 0, 0] w slices_S4x1024x5632_S1x1024x5632_3_0_0) shapeCasts_S1x1024x5632_S1024x5632)

/-- The swish of the one times the other. -/
def swishR (v : FVec Ideal S8x4096x5632 .f32) : FVec Ideal S8x4096x2816 .f32 :=
  let g : FVec Ideal S8x4096x2816 .f32 := extractStridedSlice S8x4096x2816 ![0, 0, 0] v slices_S8x4096x5632_S8x4096x2816_0_0_0
  mulf (mulf g (Host.divf (broadcastInDim S8x4096x2816 ![] bcast_S_S8x4096x2816 (constant S_ .f32 0x3F800000#32))
      (addf (broadcastInDim S8x4096x2816 ![] bcast_S_S8x4096x2816 (constant S_ .f32 0x3F800000#32)) (Host.exp (Host.negf g)))))
    (extractStridedSlice S8x4096x2816 ![0, 0, 2816] v slices_S8x4096x5632_S8x4096x2816_0_0_2816)

/-- The stream with the feed-forward block's result. -/
def lastR (x : FVec Ideal S8x4096x1024 .f32) (μ : FVec Ideal S8x6144 .f32) (g : FVec Ideal S8x4096x2816 .f32)
    (w : FVec Ideal S4x2816x1024 .f32) : FVec Ideal S8x4096x1024 .f32 :=
  addf x (mulf (broadcastInDim S8x4096x1024 ![0, 1, 2] bcast_S8x1x1024_S8x4096x1024_0_1_2
      (extractStridedSlice S8x1x1024 ![0, 0, 5120] (modR μ) slices_S8x1x6144_S8x1x1024_0_0_5120))
    (Host.dotGeneral dot_S8x4096x2816_S2816x1024_S8x4096x1024_2_0_01_1_n_n none g
      (shapeCast _ (extractStridedSlice S1x2816x1024 ![3, 0, 0] w slices_S4x2816x1024_S1x2816x1024_3_0_0) shapeCasts_S1x2816x1024_S2816x1024)))

/-- The last norm. -/
def finalR (x : FVec Ideal S8x4096x1024 .f32) (g : FVec Ideal S1024 .f32) : FVec Ideal S8x4096x1024 .f32 :=
  mulf (scaleR x) (broadcastInDim S8x4096x1024 ![0, 1, 2] bcast_S1x1x1024_S8x4096x1024_0_1_2 (broadcastInDim S1x1x1024 ![2] bcast_S1024_S1x1x1024_2 g))

/-! ## The lines at an index -/

theorem skipR_apply (y u : FVec Ideal S8x4096x512 .f32) (d : FVec Ideal S4x512 .f32) (b : Fin 8) (t : Fin 4096) (f : Fin 512) :
    skipR y u d (ix3 b t f) = y (ix3 b t f) + d (ix2 3 f) * u (ix3 b t f) := by
  pointwise [skipR]

theorem geluR_apply (z : FVec Ideal S8x4096x512 .f32) (b : Fin 8) (t : Fin 4096) (f : Fin 512) : geluR z (ix3 b t f) = geluOf (z (ix3 b t f)) := by
  pointwise [geluR, geluOf]

theorem gateR_apply (z : FVec Ideal S8x4096x512 .f32) (w : FVec Ideal S4x512x512 .f32) (β : FVec Ideal S4x512 .f32) (b : Fin 8) (t : Fin 4096)
    (f : Fin 512) : gateR z w β (ix3 b t f)
      = z (ix3 b t f) * sigmoid ((∑ k : Fin 512, z (ix3 b t k) * w (ix3 3 k f)) + β (ix2 3 f)) := by
  pointwise [gateR, sigmoid]

theorem normR_apply (z : FVec Ideal S8x4096x512 .f32) (g : FVec Ideal S4x512 .f32) (b : Fin 8) (t : Fin 4096) (f : Fin 512) :
    normR z g (ix3 b t f) = z (ix3 b t f) * invRms 0x44000000#32 (fun k : Fin 512 => z (ix3 b t k)) * g (ix2 3 f) := by
  pointwise [normR, invRms]

/-- A sum over both branches' features is the sum of the two sums. -/
theorem sum_halves (p : Fin 1024 → EReal) :
    ∑ k, p k = (∑ f : Fin 512, p ⟨f.val, by omega⟩) + ∑ f : Fin 512, p ⟨512 + f.val, by omega⟩ := Fin.sum_univ_add (a := 512) (b := 512) p

theorem midR_apply (x : FVec Ideal S8x4096x1024 .f32) (a s : FVec Ideal S8x4096x512 .f32) (μ : FVec Ideal S8x6144 .f32)
    (w : FVec Ideal S4x1024x1024 .f32) (b : Fin 8) (t : Fin 4096) (k : Fin 1024) :
    midR x a s μ w (ix3 b t k) = x (ix3 b t k) + μ (ix2 b ⟨2048 + k.val, by omega⟩)
      * ((∑ f : Fin 512, a (ix3 b t f) * w (ix3 3 ⟨f.val, by omega⟩ k)) + ∑ f : Fin 512, s (ix3 b t f) * w (ix3 3 ⟨512 + f.val, by omega⟩ k)) := by
  have joined : ∀ f : Fin 1024, (concatenate S8x4096x1024 2 [⟨S8x4096x512, a⟩, ⟨S8x4096x512, s⟩]
      concatenates_S8x4096x512_S8x4096x512_S8x4096x1024_d2 : FVec Ideal S8x4096x1024 .f32) (ix3 b t f)
      = if h : f.val < 512 then a (ix3 b t ⟨f.val, h⟩) else s (ix3 b t ⟨f.val - 512, by omega⟩) := by
    intro f
    pointwise
  unfold midR
  generalize (concatenate S8x4096x1024 2 [⟨S8x4096x512, a⟩, ⟨S8x4096x512, s⟩]
      concatenates_S8x4096x512_S8x4096x512_S8x4096x1024_d2 : FVec Ideal S8x4096x1024 .f32) = Z at joined
  have e : (∑ f : Fin 1024, Z (ix3 b t f) * w (ix3 3 f k))
      = (∑ f : Fin 512, a (ix3 b t f) * w (ix3 3 ⟨f.val, by omega⟩ k)) + ∑ f : Fin 512, s (ix3 b t f) * w (ix3 3 ⟨512 + f.val, by omega⟩ k) := by
    rw [sum_halves]
    refine congr (congrArg _ (Finset.sum_congr rfl fun f _ => ?_)) (Finset.sum_congr rfl fun f _ => ?_)
    · rw [joined, dif_pos f.isLt]
    · rw [joined, dif_neg (show ¬ 512 + f.val < 512 by omega)]
      exact congrArg (fun i => s (ix3 b t i) * _) (Fin.ext (show 512 + f.val - 512 = f.val by omega))
  rw [← e]
  pointwise [modR]

theorem scaleR_apply (x : FVec Ideal S8x4096x1024 .f32) (b : Fin 8) (t : Fin 4096) (k : Fin 1024) :
    scaleR x (ix3 b t k) = x (ix3 b t k) * invRms 0x44800000#32 (fun k : Fin 1024 => x (ix3 b t k)) := by
  pointwise [scaleR, invRms]

theorem hiddenR_apply (x : FVec Ideal S8x4096x1024 .f32) (n : FVec Ideal S4x1024 .f32) (μ : FVec Ideal S8x6144 .f32) (b : Fin 8) (t : Fin 4096)
    (k : Fin 1024) : hiddenR x n μ (ix3 b t k)
      = x (ix3 b t k) * invRms 0x44800000#32 (fun k : Fin 1024 => x (ix3 b t k)) * n (ix2 3 k)
        * (Ideal.ofBits .f32 0x3F800000#32 + μ (ix2 b ⟨4096 + k.val, by omega⟩)) + μ (ix2 b ⟨3072 + k.val, by omega⟩) := by
  rw [← scaleR_apply]
  unfold hiddenR
  generalize scaleR x = X
  pointwise [modR]

theorem upR_apply (h : FVec Ideal S8x4096x1024 .f32) (w : FVec Ideal S4x1024x5632 .f32) (b : Fin 8) (t : Fin 4096) (j : Fin 5632) :
    upR h w (ix3 b t j) = ∑ k : Fin 1024, h (ix3 b t k) * w (ix3 3 k j) := by
  pointwise [upR]

theorem swishR_apply (v : FVec Ideal S8x4096x5632 .f32) (b : Fin 8) (t : Fin 4096) (j : Fin 2816) :
    swishR v (ix3 b t j) = v (ix3 b t ⟨j.val, by omega⟩) * sigmoid (v (ix3 b t ⟨j.val, by omega⟩)) * v (ix3 b t ⟨2816 + j.val, by omega⟩) := by
  pointwise [swishR, sigmoid]

theorem lastR_apply (x : FVec Ideal S8x4096x1024 .f32) (μ : FVec Ideal S8x6144 .f32) (g : FVec Ideal S8x4096x2816 .f32)
    (w : FVec Ideal S4x2816x1024 .f32) (b : Fin 8) (t : Fin 4096) (k : Fin 1024) :
    lastR x μ g w (ix3 b t k) = x (ix3 b t k) + μ (ix2 b ⟨5120 + k.val, by omega⟩) * ∑ j : Fin 2816, g (ix3 b t j) * w (ix3 3 j k) := by
  pointwise [lastR, modR]

theorem finalR_apply (x : FVec Ideal S8x4096x1024 .f32) (g : FVec Ideal S1024 .f32) (b : Fin 8) (t : Fin 4096) (k : Fin 1024) :
    finalR x g (ix3 b t k) = x (ix3 b t k) * invRms 0x44800000#32 (fun k : Fin 1024 => x (ix3 b t k)) * g (ix1 k) := by
  rw [← scaleR_apply]
  unfold finalR
  generalize scaleR x = X
  pointwise

/-! ## The result -/

section

variable (x : FVec Ideal S8x4096x1024 .f32) (a y u : FVec Ideal S8x4096x512 .f32) (μ : FVec Ideal S8x6144 .f32) (d : FVec Ideal S4x512 .f32)
  (wg : FVec Ideal S4x512x512 .f32) (bg ga gs : FVec Ideal S4x512 .f32) (wo : FVec Ideal S4x1024x1024 .f32) (n2 : FVec Ideal S4x1024 .f32)
  (wi : FVec Ideal S4x1024x5632 .f32) (wf : FVec Ideal S4x2816x1024 .f32) (fn : FVec Ideal S1024 .f32)

/-- The reference's stream after the mixing. -/
def referenceMid : FVec Ideal S8x4096x1024 .f32 := midR x (normR a ga) (normR (gateR (geluR (skipR y u d)) wg bg) gs) μ wo

/-- The reference's stream after the feed-forward block. -/
def referenceLast : FVec Ideal S8x4096x1024 .f32 :=
  lastR (referenceMid x a y u μ d wg bg ga gs wo) μ (swishR (upR (hiddenR (referenceMid x a y u μ d wg bg ga gs wo) n2 μ) wi)) wf

/-- The reference's result. -/
def referenceMix : FVec Ideal S8x4096x1024 .f32 := finalR (referenceLast x a y u μ d wg bg ga gs wo n2 wi wf) fn

theorem referenceMid_apply (b : Fin 8) (t : Fin 4096) (k : Fin 1024) : referenceMid x a y u μ d wg bg ga gs wo (ix3 b t k)
    = (argToken x a y u μ d wg bg ga gs wo n2 wi wf fn b t).mid k := by
  have act : ∀ f : Fin 512, geluR (skipR y u d) (ix3 b t f) = (argToken x a y u μ d wg bg ga gs wo n2 wi wf fn b t).act f := by
    intro f
    rw [geluR_apply, skipR_apply]
    rfl
  have gate : ∀ f : Fin 512, gateR (geluR (skipR y u d)) wg bg (ix3 b t f) = (argToken x a y u μ d wg bg ga gs wo n2 wi wf fn b t).gate f := by
    intro f
    rw [gateR_apply]
    simp only [act]
    rfl
  have ssm : ∀ f : Fin 512, normR (gateR (geluR (skipR y u d)) wg bg) gs (ix3 b t f)
      = (argToken x a y u μ d wg bg ga gs wo n2 wi wf fn b t).ssmNormed f := by
    intro f
    rw [normR_apply]
    simp only [gate]
    rfl
  rw [referenceMid, midR_apply]
  simp only [ssm, normR_apply]
  rfl

theorem referenceLast_apply (b : Fin 8) (t : Fin 4096) (k : Fin 1024) : referenceLast x a y u μ d wg bg ga gs wo n2 wi wf (ix3 b t k)
    = (argToken x a y u μ d wg bg ga gs wo n2 wi wf fn b t).last k := by
  have hidden : ∀ k : Fin 1024, hiddenR (referenceMid x a y u μ d wg bg ga gs wo) n2 μ (ix3 b t k)
      = (argToken x a y u μ d wg bg ga gs wo n2 wi wf fn b t).hidden k := by
    intro k
    rw [hiddenR_apply]
    simp only [referenceMid_apply x a y u μ d wg bg ga gs wo n2 wi wf fn]
    rfl
  have up : ∀ j : Fin 5632, upR (hiddenR (referenceMid x a y u μ d wg bg ga gs wo) n2 μ) wi (ix3 b t j)
      = (argToken x a y u μ d wg bg ga gs wo n2 wi wf fn b t).up j := by
    intro j
    rw [upR_apply]
    simp only [hidden]
    rfl
  rw [referenceLast, lastR_apply]
  simp only [swishR_apply, up, referenceMid_apply x a y u μ d wg bg ga gs wo n2 wi wf fn]
  rfl

theorem referenceMix_apply (b : Fin 8) (t : Fin 4096) (k : Fin 1024) : referenceMix x a y u μ d wg bg ga gs wo n2 wi wf fn (ix3 b t k)
    = (argToken x a y u μ d wg bg ga gs wo n2 wi wf fn b t).result k := by
  rw [referenceMix, finalR_apply]
  simp only [referenceLast_apply x a y u μ d wg bg ga gs wo n2 wi wf fn]
  rfl

end

end Cert.Mix
-- ==== Proof.MixEquation.lean ====
/- The result of the call that ends a layer is the reference's, at every token. -/
module

public import proofs.«01_k».proof.Proof.MixArray
public import proofs.«01_k».proof.Proof.MixReference

@[expose] public section

set_option maxRecDepth 16384

noncomputable section

namespace Cert.Mix

open Idealize.ShloMosaic

/-- The reference's array is what the call leaves in its result. -/
theorem referenceMix_eq_final (m : (ℓ : Loc Cert.Kernel2Ideal.nD Cert.Kernel2Ideal.τ Cert.Kernel2Ideal.sig) → Buf (Elt Ideal) ℓ)
    (c : Dev Cert.Kernel2Ideal.nD) :
    referenceMix (m (c.tc.loc Cert.Kernel2Ideal.main_arg0)) (m (c.tc.loc Cert.Kernel2Ideal.main_arg1)) (m (c.tc.loc Cert.Kernel2Ideal.main_arg2))
      (m (c.tc.loc Cert.Kernel2Ideal.main_arg3)) (m (c.tc.loc Cert.Kernel2Ideal.main_arg4)) (m (c.tc.loc Cert.Kernel2Ideal.main_arg5))
      (m (c.tc.loc Cert.Kernel2Ideal.main_arg6)) (m (c.tc.loc Cert.Kernel2Ideal.main_arg7)) (m (c.tc.loc Cert.Kernel2Ideal.main_arg8))
      (m (c.tc.loc Cert.Kernel2Ideal.main_arg9)) (m (c.tc.loc Cert.Kernel2Ideal.main_arg10)) (m (c.tc.loc Cert.Kernel2Ideal.main_arg11))
      (m (c.tc.loc Cert.Kernel2Ideal.main_arg12)) (m (c.tc.loc Cert.Kernel2Ideal.main_arg13)) (m (c.tc.loc Cert.Kernel2Ideal.main_arg14))
      = (Cert.Kernel2Ideal.Gen.dats m 0 c).arrAt 15 Cert.Kernel2Ideal.cfg0.N := by
  refine Eq.trans (funext fun i => ?_) (final m c).symm
  obtain ⟨b, t, k, rfl⟩ : ∃ (b : Fin 8) (t : Fin 4096) (k : Fin 1024), i = ix3 b t k := ⟨i 0, i 1, i 2, eq_ix3 i⟩
  exact referenceMix_apply _ _ _ _ _ _ _ _ _ _ _ _ _ _ _ b t k

end Cert.Mix
-- ==== Proof.MixReferenceRun.lean ====
/- The reference of the call that ends a layer runs, and returns at every token what the token's result is. -/
module

public import proofs.«01_k».proof.Proof.MixReference
public import Idealize.ShloMosaic.Adequacy
public import Idealize.ShloMosaic.Init
public import Idealize.ShloMosaic.Lib.Claim

@[expose] public section

set_option maxRecDepth 16384

noncomputable section

namespace Cert.Mix

open Cert.Reference2Ideal Cert.Reference2Ideal.Gen Idealize.ShloMosaic Idealize.ShloMosaic.TcCoe Idealize.SL.Sem

/-- The reference's run in the names of its lines. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = referenceMix (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  Cert.Reference2Ideal.Value.run (F := Ideal) m ρ

end Cert.Mix
-- ==== Proof.InFrame.lean ====
/- The in-projection, at bit patterns: its idealization has the same text, so the run found for the one is the other's. -/
module

public import proofs.«01_k».proof.Defs
public import proofs.«01_k».proof.Proof.Gen.Kernel3
public import proofs.«01_k».proof.Proof.Gen.Kernel3Ideal.Value

@[expose] public section

set_option maxRecDepth 16384

noncomputable section

namespace Cert.Inproj

open Idealize.ShloMosaic Idealize.SL.Sem

set_option maxHeartbeats 4000000 in
/-- The kernel and its idealization have the same text, so the same bodies … -/
theorem bodies_eq : Cert.Kernel3.defs₀ (F := Bits) = Cert.Kernel3Ideal.defs₀ (F := Bits) := by
  refine congrArg Defs.onTc (funext fun ℓ => funext fun a => ?_)
  match ℓ, a with
  | ⟨0, _⟩, (t, s) => rfl
  | ⟨_ + 1, h⟩, _ => exact absurd h (Nat.not_lt.2 (Nat.le_add_left _ _))

set_option maxHeartbeats 4000000 in
theorem defs_eq : Cert.Kernel3.defs (F := Bits) = Cert.Kernel3Ideal.defs (F := Bits) :=
  congrArg (Pipeline.defs Cert.Kernel3Ideal.pcfgs) bodies_eq

set_option maxHeartbeats 4000000 in
/-- … and the same run: the kernel's at bit patterns. -/
theorem frame_kernel : Cert.quiescent_Kernel3 := by
  intro m ρ _
  rw [defs_eq]
  exact Cert.Kernel3Ideal.Gen.frame (F := Bits) m ρ

end Cert.Inproj
-- ==== Proof.InBlock.lean ====
/- One grid point of the in-projection: the five output blocks as functions of the point's nine input blocks.
   A point holds 512 tokens of one sequence and works in two halves of 256.  For each half it norms and modulates the
   stream, multiplies it by the in-projection, norms the heads of the queries and keys and turns them by their position,
   transposes the values above rows of ones, and lays the recurrence's input out twice: token by token, and, read back from a
   staging buffer in strides of sixteen, group by group in chunks of sixteen tokens. -/
module

public import proofs.«01_k».proof.Proof.MixGranule
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

/-! ## The projection -/

/-- The stream divided by its root mean square. -/
def scaled (x : FVec F S256x1024 .f32) : FVec F S256x1024 .f32 :=
  mulf x (broadcastTo S256x1024 (rsqrt (addf (divf
      (shapeCast S256x1 (multiReduction .add [1] S256 (mulf x x) 0x00000000#32 reduces_S256x1024_S256 (.inl rfl) rfl : FVec F S256 .f32)
        shapeCasts_S256_S256x1 : FVec F S256x1 .f32)
      (broadcast S256x1 (Scalar.ofBits .f32 0x44800000#32))) (broadcast S256x1 (Scalar.ofBits .f32 0x358637BD#32)))) broadcasts_S256x1_S256x1024)

/-- A row of 1024 numbers, the same for every token. -/
def wider (w : FVec F S1x1024 .f32) : FVec F S256x1024 .f32 := broadcastTo S256x1024 w broadcasts_S1x1024_S256x1024

/-- One of the six rows of the modulation. -/
def modRow (w : Vec F S1x1x1024 .f32) : FVec F S1x1024 .f32 := shapeCast S1x1024 w shapeCasts_S1x1x1024_S1x1024

/-- The stream normed and modulated. -/
def modulated (x : FVec F S256x1024 .f32) (n : Vec F S1x1024 .f32) (r₁ r₀ : Vec F S1x1x1024 .f32) : FVec F S256x1024 .f32 :=
  addf (mulf (scaled x) (wider (mulf (shapeCast S1x1024 n shapeCasts_S1x1024_S1x1024 : FVec F S1x1024 .f32)
    (addf (broadcast S1x1024 (Scalar.ofBits .f32 0x3F800000#32)) (modRow r₁))))) (wider (modRow r₀))

/-- The stream times the in-projection. -/
def projected (h : FVec F S256x1024 .f32) (w : Vec F S1x1024x1280 .bf16) : FVec F S256x1280 .f32 :=
  matmul dot_S256x1024_S1024x1280_S256x1280_1_0_0_1_n_n none (truncf .bf16 h bitsLt_bf16_f32 : FVec F S256x1024 .bf16)
    (shapeCast S1024x1280 w shapeCasts_S1x1024x1280_S1024x1280 : FVec F S1024x1280 .bf16) (constant S256x1280 .f32 0x00000000#32)

theorem slices_tile (p : Fin 6) : S256x1280.Slices ![0, 128 * p.val] S256x128 := by fin_cases p <;> decide

/-- Two heads' columns. -/
def tile (z : FVec F S256x1280 .f32) (p : Fin 6) : FVec F S256x128 .f32 := extractStridedSlice S256x128 ![0, 128 * p.val] z (slices_tile p)

/-! ## Two heads normed and turned -/

/-- Where a lane lies in the first half of its head. -/
def firstHalf : IVec S256x128 1 :=
  cmpi .eq (andi (iota .tc S256x128 32 [1] iota_S256x128_d1_w32) (broadcast S256x128 32#32)) (broadcast S256x128 0#32)

/-- Two heads normed: `seg` averages the squares of a head. -/
def headNormed (z : FVec F S256x128 .f32) (g : Vec F S1x128 .f32) (seg : Vec F S128x128 .bf16) : FVec F S256x128 .f32 :=
  mulf (mulf z (rsqrt (addf (matmul dot_S256x128_S128x128_S256x128_1_0_0_1_n_n none (truncf .bf16 (mulf z z) bitsLt_bf16_f32 : FVec F S256x128 .bf16)
      (shapeCast S128x128 seg shapeCasts_S128x128_S128x128 : FVec F S128x128 .bf16) (constant S256x128 .f32 0x00000000#32))
    (broadcast S256x128 (Scalar.ofBits .f32 0x358637BD#32)))))
    (broadcastTo S256x128 (shapeCast S1x128 g shapeCasts_S1x128_S1x128 : FVec F S1x128 .f32) broadcasts_S1x128_S256x128)

/-- Each lane's partner, half a head away. -/
def partner (y : FVec F S256x128 .f32) : FVec F S256x128 .f32 :=
  select firstHalf (dynamicRotate 1 96#32 none y rotates_S256x128_d1) (dynamicRotate 1 32#32 none y rotates_S256x128_d1)

/-- The turn by the position. -/
def roped (y : FVec F S256x128 .f32) (cs sn : Vec F S256x128 .f32) : FVec F S256x128 .bf16 :=
  truncf .bf16 (addf (mulf y (shapeCast S256x128 cs shapeCasts_S256x128_S256x128 : FVec F S256x128 .f32))
    (mulf (partner y) (shapeCast S256x128 sn shapeCasts_S256x128_S256x128 : FVec F S256x128 .f32))) bitsLt_bf16_f32

/-! ## The blocks -/

theorem inb_x (c : Fin 2) : ∀ a, (![0, 256 * c.val, 0] : Fin 3 → ℕ) a + S1x256x1024.size a ≤ S1x512x1024.size a := by
  intro a; fin_cases a <;> simp <;> omega

theorem inb_mod (r : Fin 6) : ∀ a, (![0, r.val, 0] : Fin 3 → ℕ) a + S1x1x1024.size a ≤ S1x6x1024.size a := by
  intro a; fin_cases a <;> simp <;> omega

theorem inb_table (c : Fin 2) : ∀ a, (![256 * c.val, 0] : Fin 2 → ℕ) a + S256x128.size a ≤ S512x128.size a := by
  intro a; fin_cases a <;> simp <;> omega

theorem inb_gain (p : Fin 4) : ∀ a, (![0, 128 * p.val] : Fin 2 → ℕ) a + S1x128.size a ≤ S1x512.size a := by
  intro a; fin_cases a <;> simp <;> omega

theorem inb_q (c : Fin 2) (p : Fin 4) : ∀ a, (![0, 256 * c.val, 128 * p.val] : Fin 3 → ℕ) a + S1x256x128.size a ≤ S1x512x512.size a := by
  intro a; fin_cases a <;> simp <;> omega

theorem inb_k (c g : Fin 2) : ∀ a, (![0, g.val, 256 * c.val, 0] : Fin 4 → ℕ) a + S1x1x256x64.size a ≤ S1x2x512x64.size a := by
  intro a; fin_cases a <;> simp <;> omega

theorem inb_v (c g : Fin 2) : ∀ a, (![0, g.val, 0, 256 * c.val] : Fin 4 → ℕ) a + S1x1x64x256.size a ≤ S1x2x80x512.size a := by
  intro a; fin_cases a <;> simp <;> omega

theorem inb_o (c g : Fin 2) : ∀ a, (![0, g.val, 64, 256 * c.val] : Fin 4 → ℕ) a + S1x1x16x256.size a ≤ S1x2x80x512.size a := by
  intro a; fin_cases a <;> simp <;> omega

theorem inb_u (c : Fin 2) : ∀ a, (![0, 256 * c.val, 0] : Fin 3 → ℕ) a + S1x256x512.size a ≤ S1x512x512.size a := by
  intro a; fin_cases a <;> simp <;> omega

theorem inb_s (o : Fin 4) (c : Fin 2) : ∀ a, (![o.val, 256 * c.val, 0] : Fin 3 → ℕ) a + S1x256x128.size a ≤ S4x512x128.size a := by
  intro a; fin_cases a <;> simp <;> omega

theorem inb_l (o : Fin 4) (c h : Fin 2) (j : Fin 8) :
    ∀ a, S1x16x128.size a = 0 ∨ (![o.val, 256 * c.val + 8 * h.val + j.val, 0] : Fin 3 → ℕ) a
      + (![1, 16, 1] : Fin 3 → ℕ) a * (S1x16x128.size a - 1) < S4x512x128.size a := by
  intro a; fin_cases a <;> simp <;> omega

theorem inb_c (o : Fin 4) (c h : Fin 2) (g : Fin 8) :
    ∀ a, (![8 * o.val + g.val, 16 * c.val, 128 * h.val] : Fin 3 → ℕ) a + S1x16x128.size a ≤ S32x32x256.size a := by
  intro a; fin_cases a <;> simp <;> omega

theorem slices_head (g : Fin 2) : S256x128.Slices ![0, 64 * g.val] S256x64 := by fin_cases g <;> decide

theorem slices_value (g : Fin 2) : S128x256.Slices ![64 * g.val, 0] S64x256 := by fin_cases g <;> decide

theorem slices_feature (o : Fin 4) : S256x512.Slices ![0, 128 * o.val] S256x128 := by fin_cases o <;> decide

section

variable (x0 : Vec F S1x512x1024 .f32) (x1 : Vec F S1x6x1024 .f32) (x2 : Vec F S1x1024 .f32) (x3 : Vec F S1x1024x1280 .bf16)
  (x4 : Vec F S1x512 .f32) (x5 : Vec F S1x128 .f32) (x6 x7 : Vec F S512x128 .f32) (x8 : Vec F S128x128 .bf16) (c : Fin 2)

/-- Row `r` of the modulation. -/
def modAt (r : Fin 6) : Vec F S1x1x1024 .f32 := View.ld x1 (Rect.unit ![0, r.val, 0] S1x1x1024.size (inb_mod r))

/-- Half `c`'s tokens times the in-projection. -/
def zed : FVec F S256x1280 .f32 :=
  projected (modulated (shapeCast S256x1024 (View.ld x0 (Rect.unit ![0, 256 * c.val, 0] S1x256x1024.size (inb_x c)) : Vec F S1x256x1024 .f32)
    shapeCasts_S1x256x1024_S256x1024 : FVec F S256x1024 .f32) x2 (modAt x1 1) (modAt x1 0)) x3

/-- A table of positions at half `c`'s tokens. -/
def table (x : Vec F S512x128 .f32) : Vec F S256x128 .f32 := View.ld x (Rect.unit ![256 * c.val, 0] S256x128.size (inb_table c))

/-- Half `c`'s queries of heads `2 p` and `2 p + 1`. -/
def queries (p : Fin 4) : FVec F S256x128 .bf16 :=
  roped (headNormed (tile (zed x0 x1 x2 x3 c) ⟨p.val, by omega⟩) (View.ld x4 (Rect.unit ![0, 128 * p.val] S1x128.size (inb_gain p))) x8)
    (table c x6) (table c x7)

/-- Half `c`'s keys. -/
def keys : FVec F S256x128 .bf16 := roped (headNormed (tile (zed x0 x1 x2 x3 c) 4) x5 x8) (table c x6) (table c x7)

/-- Half `c`'s values, transposed. -/
def values : FVec F S128x256 .bf16 :=
  truncf .bf16 (transpose S128x256 [1, 0] (tile (zed x0 x1 x2 x3 c) 5) transposes_S256x128_p1_0_S128x256) bitsLt_bf16_f32

/-- Half `c`'s input to the recurrence. -/
def inputs : FVec F S256x512 .f32 := extractStridedSlice S256x512 ![0, 768] (zed x0 x1 x2 x3 c) slices_S256x1280_o0_768_S256x512

def qPiece (p : Fin 4) : View.Piece (Elt F) S1x512x512 .bf16 :=
  ⟨Rect.unit (s := S1x512x512) ![0, 256 * c.val, 128 * p.val] S1x256x128.size (inb_q c p),
    shapeCast S1x256x128 (queries x0 x1 x2 x3 x4 x6 x7 x8 c p) shapeCasts_S256x128_S1x256x128⟩

def kPiece (g : Fin 2) : View.Piece (Elt F) S1x2x512x64 .bf16 :=
  ⟨Rect.unit (s := S1x2x512x64) ![0, g.val, 256 * c.val, 0] S1x1x256x64.size (inb_k c g),
    shapeCast S1x1x256x64 (extractStridedSlice S256x64 ![0, 64 * g.val] (keys x0 x1 x2 x3 x5 x6 x7 x8 c) (slices_head g) : FVec F S256x64 .bf16)
      shapeCasts_S256x64_S1x1x256x64⟩

def vPiece (g : Fin 2) : View.Piece (Elt F) S1x2x80x512 .bf16 :=
  ⟨Rect.unit (s := S1x2x80x512) ![0, g.val, 0, 256 * c.val] S1x1x64x256.size (inb_v c g),
    shapeCast S1x1x64x256 (extractStridedSlice S64x256 ![64 * g.val, 0] (values x0 x1 x2 x3 c) (slices_value g) : FVec F S64x256 .bf16)
      shapeCasts_S64x256_S1x1x64x256⟩

/-- The rows of ones below the values. -/
def onePiece (g : Fin 2) : View.Piece (Elt F) S1x2x80x512 .bf16 :=
  ⟨Rect.unit (s := S1x2x80x512) ![0, g.val, 64, 256 * c.val] S1x1x16x256.size (inb_o c g),
    shapeCast S1x1x16x256 (broadcast S16x256 (Scalar.ofBits .bf16 0x3F80#16) : FVec F S16x256 .bf16) shapeCasts_S16x256_S1x1x16x256⟩

def uPiece : View.Piece (Elt F) S1x512x512 .f32 :=
  ⟨Rect.unit (s := S1x512x512) ![0, 256 * c.val, 0] S1x256x512.size (inb_u c),
    shapeCast S1x256x512 (inputs x0 x1 x2 x3 c) shapeCasts_S256x512_S1x256x512⟩

/-- One store into the staging buffer: 128 features of half `c`'s tokens. -/
def sPiece (o : Fin 4) : View.Piece (Elt F) S4x512x128 .f32 :=
  ⟨Rect.unit (s := S4x512x128) ![o.val, 256 * c.val, 0] S1x256x128.size (inb_s o c),
    shapeCast S1x256x128 (extractStridedSlice S256x128 ![0, 128 * o.val] (inputs x0 x1 x2 x3 c) (slices_feature o) : FVec F S256x128 .f32)
      shapeCasts_S256x128_S1x256x128⟩

/-- All that has been stored when half `c` reads the staging buffer. -/
def staged : Fin 2 → List (View.Piece (Elt F) S4x512x128 .f32)
  | 0 => [3, 2, 1, 0].map (sPiece x0 x1 x2 x3 0)
  | 1 => [3, 2, 1, 0].map (sPiece x0 x1 x2 x3 1) ++ [3, 2, 1, 0].map (sPiece x0 x1 x2 x3 0)

/-- Token `8 h + j` of each of half `c`'s chunks: features `128 o` to `128 o + 127`. -/
def strided (o : Fin 4) (h : Fin 2) (j : Fin 8) : FVec F S16x128 .f32 :=
  shapeCast S16x128 ((View.whole cc0_scratch0).readCov (staged x0 x1 x2 x3 c)
    ⟨![o.val, 256 * c.val + 8 * h.val + j.val, 0], S1x16x128.size, ![1, 16, 1], inb_l o c h j⟩ : Vec F S1x16x128 .f32) shapeCasts_S1x16x128_S16x128

/-- Group `8 o + g`'s table: half `c`'s sixteen chunks, tokens `8 h` to `8 h + 7` of each. -/
def cPiece (o : Fin 4) (h : Fin 2) (g : Fin 8) : View.Piece (Elt F) S32x32x256 .bf16 :=
  ⟨Rect.unit (s := S32x32x256) ![8 * o.val + g.val, 16 * c.val, 128 * h.val] S1x16x128.size (inb_c o c h g),
    shapeCast S1x16x128 (truncf .bf16 (Cert.Mix.token (strided x0 x1 x2 x3 c o h) g) bitsLt_bf16_f32 : FVec F S16x128 .bf16) shapeCasts_S16x128_S1x16x128⟩

/-- The blocks: the pieces stored, the last one first. -/
def qPieces : List (View.Piece (Elt F) S1x512x512 .bf16) :=
  [1, 0].flatMap fun c => [3, 2, 1, 0].map (qPiece x0 x1 x2 x3 x4 x6 x7 x8 c)

def kPieces : List (View.Piece (Elt F) S1x2x512x64 .bf16) := [1, 0].flatMap fun c => [1, 0].map (kPiece x0 x1 x2 x3 x5 x6 x7 x8 c)

def vPieces : List (View.Piece (Elt F) S1x2x80x512 .bf16) :=
  [1, 0].flatMap fun c => [1, 0].flatMap fun g => [onePiece c g, vPiece x0 x1 x2 x3 c g]

def uPieces : List (View.Piece (Elt F) S1x512x512 .f32) := [1, 0].map (uPiece x0 x1 x2 x3)

def cPieces : List (View.Piece (Elt F) S32x32x256 .bf16) :=
  [1, 0].flatMap fun c => [3, 2, 1, 0].flatMap fun o => [1, 0].flatMap fun h => [7, 6, 5, 4, 3, 2, 1, 0].map fun g => cPiece x0 x1 x2 x3 c o h g

def qBlock : Vec F S1x512x512 .bf16 := View.canon (Val := Elt F) (e := .bf16) (qPieces x0 x1 x2 x3 x4 x6 x7 x8)

def kBlock : Vec F S1x2x512x64 .bf16 := View.canon (Val := Elt F) (e := .bf16) (kPieces x0 x1 x2 x3 x5 x6 x7 x8)

def vBlock : Vec F S1x2x80x512 .bf16 := View.canon (Val := Elt F) (e := .bf16) (vPieces x0 x1 x2 x3)

def uBlock : Vec F S1x512x512 .f32 := View.canon (Val := Elt F) (e := .f32) (uPieces x0 x1 x2 x3)

def cBlock : Vec F S32x32x256 .bf16 := View.canon (Val := Elt F) (e := .bf16) (cPieces x0 x1 x2 x3)

end

end Cert.Inproj
-- ==== Proof.InToken.lean ====
/- The mathematics of the in-projection, for one token, over the extended reals: the norm and the modulation, the
   projection, each head's norm, and the turn by the token's position.  The same turn as two heads side by side compute it,
   each head's even places before its odd ones, its mean of squares a product with a table, its pairs half a head apart. -/
module

public import proofs.«01_k».proof.Proof.MixToken
public import proofs.«01_k».proof.Proof.Softmax

@[expose] public section

noncomputable section

namespace Cert.Inproj

open Idealize.ShloMosaic Cert.Mix

/-- What one token's results depend on. -/
structure Token where
  /-- the stream -/
  x : Fin 1024 → EReal
  /-- the modulation -/
  μ : Fin 6 → Fin 1024 → EReal
  /-- the first norm's gain -/
  n1 : Fin 1024 → EReal
  /-- the in-projection -/
  w : Fin 1024 → Fin 1280 → EReal
  /-- the gains of the queries' and the keys' heads -/
  gq : Fin 64 → EReal
  gk : Fin 64 → EReal
  /-- the cosines and sines of the token's angles -/
  cs : Fin 32 → EReal
  sn : Fin 32 → EReal

/-- A head normed. -/
def normOf (v g : Fin 64 → EReal) (d : Fin 64) : EReal := v d * invRms 0x42800000#32 v * g d

/-- A head's pairs turned, the pairs' first parts before their second parts. -/
def turnOf (cs sn : Fin 32 → EReal) (n : Fin 64 → EReal) (e : Fin 64) : EReal :=
  if h : e.val < 32 then n ⟨2 * e.val, by omega⟩ * cs ⟨e.val, h⟩ - n ⟨2 * e.val + 1, by omega⟩ * sn ⟨e.val, h⟩
  else n ⟨2 * (e.val - 32), by omega⟩ * sn ⟨e.val - 32, by omega⟩ + n ⟨2 * (e.val - 32) + 1, by omega⟩ * cs ⟨e.val - 32, by omega⟩

/-- The stream normed and modulated. -/
def hiddenOf (x : Fin 1024 → EReal) (μ : Fin 6 → Fin 1024 → EReal) (n1 : Fin 1024 → EReal) (k : Fin 1024) : EReal :=
  x k * invRms 0x44800000#32 x * n1 k * (Ideal.ofBits .f32 0x3F800000#32 + μ 1 k) + μ 0 k

namespace Token

variable (T : Token)

/-- The projection. -/
def z (j : Fin 1280) : EReal := ∑ k, hiddenOf T.x T.μ T.n1 k * T.w k j

/-- The queries, head after head. -/
def q (f : Fin 512) : EReal :=
  turnOf T.cs T.sn (normOf (fun d => T.z ⟨64 * (f.val / 64) + d.val, by omega⟩) T.gq) ⟨f.val % 64, by omega⟩

/-- The keys of head `g`. -/
def k (g : Fin 2) (e : Fin 64) : EReal :=
  turnOf T.cs T.sn (normOf (fun d => T.z ⟨512 + 64 * g.val + d.val, by omega⟩) T.gk) e

/-- The values of head `g`, and ones below. -/
def v (g : Fin 2) (r : Fin 80) : EReal := if h : r.val < 64 then T.z ⟨640 + 64 * g.val + r.val, by omega⟩ else 1

/-- The recurrence's input. -/
def u (f : Fin 512) : EReal := T.z ⟨768 + f.val, by omega⟩

end Token

/-! ## Two heads side by side -/

/-- The place in its head that lies at `e` once the even places come first. -/
def place (e : Fin 64) : Fin 64 := ⟨e.val % 32 * 2 + e.val / 32, by omega⟩

/-- The lane half a head away. -/
def partnerOf (l : Fin 128) : Fin 128 := if l.val / 32 % 2 = 0 then ⟨(l.val + 32) % 128, by omega⟩ else ⟨(l.val + 96) % 128, by omega⟩

/-- Two heads normed, the squares' means read off a product with `seg`. -/
def lanesNorm (zz g : Fin 128 → EReal) (seg : Fin 128 → Fin 128 → EReal) (l : Fin 128) : EReal :=
  zz l * Ideal.rsqrt ((∑ l' : Fin 128, zz l' * zz l' * seg l' l) + Ideal.ofBits .f32 0x358637BD#32) * g l

/-- Two heads normed and turned. -/
def lanesTurn (zz g cs sn : Fin 128 → EReal) (seg : Fin 128 → Fin 128 → EReal) (l : Fin 128) : EReal :=
  lanesNorm zz g seg l * cs l + lanesNorm zz g seg (partnerOf l) * sn l

/-- The table that averages over a head. -/
def segOf (l' l : Fin 128) : EReal := if l'.val / 64 = l.val / 64 then Ideal.ofBits .f32 0x3C800000#32 else 0

theorem place_bijective : Function.Bijective place := by decide

/-- A sum of squares over a head, times a sixty-fourth, is the sum of squares over sixty-four. -/
theorem sum_sixtyfourth (v : Fin 64 → EReal) : (∑ d, v d * v d * Ideal.ofBits .f32 0x3C800000#32)
    = Ideal.div (∑ d, v d * v d) (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Cert.Attention.div_real _ _ (by norm_num), show ((64 : ℝ)⁻¹) = 1 / 64 by norm_num]
  have c0 : (0 : EReal) ≤ ((1 / 64 : ℝ) : EReal) := by exact_mod_cast (by norm_num : (0 : ℝ) ≤ 1 / 64)
  induction (Finset.univ : Finset (Fin 64)) using Finset.induction_on with
  | empty => simp
  | insert a s ha ih =>
    rw [Finset.sum_insert ha, Finset.sum_insert ha, ih, EReal.right_distrib_of_nonneg_of_ne_top c0 (EReal.coe_ne_top _)]

/-- The mean of squares at a lane is its head's. -/
theorem segSum (zz : Fin 128 → EReal) (z : Fin 2 → Fin 64 → EReal) (hz : ∀ (h : Fin 2) (e : Fin 64), zz ⟨64 * h.val + e.val, by omega⟩ = z h (place e))
    (h : Fin 2) (e : Fin 64) : (∑ l' : Fin 128, zz l' * zz l' * segOf l' ⟨64 * h.val + e.val, by omega⟩)
      = Ideal.div (∑ d, z h d * z h d) (Ideal.ofBits .f32 0x42800000#32) := by
  rw [← sum_sixtyfourth, ← Equiv.sum_comp (Equiv.ofBijective place place_bijective)]
  have split : ∀ p : Fin 128 → EReal, ∑ l, p l = (∑ e : Fin 64, p ⟨e.val, by omega⟩) + ∑ e : Fin 64, p ⟨64 + e.val, by omega⟩ :=
    fun p => Fin.sum_univ_add (a := 64) (b := 64) p
  have at0 : ∀ e : Fin 64, zz ⟨e.val, by omega⟩ = z 0 (place e) := fun e => (congrArg zz (Fin.ext (show e.val = 64 * 0 + e.val by omega))).trans (hz 0 e)
  have at1 : ∀ e : Fin 64, zz ⟨64 + e.val, by omega⟩ = z 1 (place e) := fun e => (congrArg zz (Fin.ext (show 64 + e.val = 64 * 1 + e.val by omega))).trans (hz 1 e)
  have seg0 : ∀ (e' : Fin 64), segOf ⟨e'.val, by omega⟩ ⟨64 * h.val + e.val, by omega⟩ = if h = 0 then Ideal.ofBits .f32 0x3C800000#32 else 0 := by
    intro e'
    refine if_congr ⟨fun p => Fin.ext ?_, ?_⟩ rfl rfl
    · have : e'.val / 64 = (64 * h.val + e.val) / 64 := p
      show h.val = 0; omega
    · rintro rfl
      show e'.val / 64 = (64 * 0 + e.val) / 64; omega
  have seg1 : ∀ (e' : Fin 64), segOf ⟨64 + e'.val, by omega⟩ ⟨64 * h.val + e.val, by omega⟩ = if h = 1 then Ideal.ofBits .f32 0x3C800000#32 else 0 := by
    intro e'
    refine if_congr ⟨fun p => Fin.ext ?_, ?_⟩ rfl rfl
    · have : (64 + e'.val) / 64 = (64 * h.val + e.val) / 64 := p
      show h.val = 1; omega
    · rintro rfl
      show (64 + e'.val) / 64 = (64 * 1 + e.val) / 64; omega
  rw [split]
  simp only [at0, at1, seg0, seg1]
  match h with
  | 0 => simp
  | 1 => simp

/-- The pair of place `e`. -/
def half (e : Fin 64) : Fin 32 := ⟨e.val % 32, by omega⟩

section

variable (zz g cs sn : Fin 128 → EReal) (z : Fin 2 → Fin 64 → EReal) (γ : Fin 64 → EReal) (C S : Fin 32 → EReal)
  (hz : ∀ (h : Fin 2) (e : Fin 64), zz ⟨64 * h.val + e.val, by omega⟩ = z h (place e))
  (hg : ∀ (h : Fin 2) (e : Fin 64), g ⟨64 * h.val + e.val, by omega⟩ = γ (place e))
  (hc : ∀ (h : Fin 2) (e : Fin 64), cs ⟨64 * h.val + e.val, by omega⟩ = C (half e))
  (hs : ∀ (h : Fin 2) (e : Fin 64), sn ⟨64 * h.val + e.val, by omega⟩ = if e.val < 32 then - S (half e) else S (half e))

include hz hg in
theorem lanesNorm_eq (h : Fin 2) (e : Fin 64) : lanesNorm zz g segOf ⟨64 * h.val + e.val, by omega⟩ = normOf (z h) γ (place e) := by
  rw [lanesNorm, segSum zz z hz, hz, hg]
  rfl

include hz hg hc hs in
/-- Two heads' lanes turned are the heads' pairs turned. -/
theorem lanesTurn_eq (h : Fin 2) (e : Fin 64) : lanesTurn zz g cs sn segOf ⟨64 * h.val + e.val, by omega⟩ = turnOf C S (normOf (z h) γ) e := by
  have part : ∀ e' : Fin 64, partnerOf ⟨64 * h.val + e.val, by omega⟩ = ⟨64 * h.val + e'.val, by omega⟩ →
      lanesTurn zz g cs sn segOf ⟨64 * h.val + e.val, by omega⟩ = normOf (z h) γ (place e) * C (half e)
        + normOf (z h) γ (place e') * (if e.val < 32 then - S (half e) else S (half e)) := by
    intro e' p
    rw [lanesTurn, p, lanesNorm_eq zz g z γ hz hg, lanesNorm_eq zz g z γ hz hg, hc, hs]
  rcases Nat.lt_or_ge e.val 32 with he | he
  · rw [part ⟨e.val + 32, by omega⟩ (by
      rw [partnerOf, if_pos (show (64 * h.val + e.val) / 32 % 2 = 0 by omega)]
      exact Fin.ext (show (64 * h.val + e.val + 32) % 128 = 64 * h.val + (e.val + 32) by omega)), turnOf, dif_pos he, if_pos he,
      mul_neg, ← sub_eq_add_neg]
    rw [show place e = ⟨2 * e.val, by omega⟩ from Fin.ext (show e.val % 32 * 2 + e.val / 32 = 2 * e.val by omega),
      show place ⟨e.val + 32, by omega⟩ = ⟨2 * e.val + 1, by omega⟩ from
        Fin.ext (show (e.val + 32) % 32 * 2 + (e.val + 32) / 32 = 2 * e.val + 1 by omega),
      show half e = ⟨e.val, he⟩ from Fin.ext (show e.val % 32 = e.val by omega)]
  · rw [part ⟨e.val - 32, by omega⟩ (by
      rw [partnerOf, if_neg (show ¬ (64 * h.val + e.val) / 32 % 2 = 0 by omega)]
      exact Fin.ext (show (64 * h.val + e.val + 96) % 128 = 64 * h.val + (e.val - 32) by omega)), turnOf, dif_neg (by omega), if_neg (by omega), add_comm]
    rw [show place e = ⟨2 * (e.val - 32) + 1, by omega⟩ from Fin.ext (show e.val % 32 * 2 + e.val / 32 = 2 * (e.val - 32) + 1 by omega),
      show place ⟨e.val - 32, by omega⟩ = ⟨2 * (e.val - 32), by omega⟩ from
        Fin.ext (show (e.val - 32) % 32 * 2 + (e.val - 32) / 32 = 2 * (e.val - 32) by omega),
      show half e = ⟨e.val - 32, by omega⟩ from Fin.ext (show e.val % 32 = e.val - 32 by omega)]

end

/-! ## The token of the call's arguments -/

/-- The angle of pair `p` at position `t`: sixteen frequencies of the position's row, sixteen of its column. -/
def angle (t : Fin 4096) (p : Fin 32) : EReal :=
  (if p.val < 16 then (FloatOps.sitofp (F := Ideal) .f32 (BitVec.ofNat 32 (t.val / 64)) : EReal) else (FloatOps.sitofp (F := Ideal) .f32 (BitVec.ofNat 32 (t.val % 64)) : EReal))
    * Ideal.div 1 (Ideal.pow (Ideal.ofBits .f32 0x461C4000#32) (Ideal.div
        (Ideal.ofBits .f32 0x40000000#32 * (FloatOps.sitofp (F := Ideal) .f32 (BitVec.ofNat 32 (p.val % 16)) : EReal)) (Ideal.ofBits .f32 0x42000000#32)))

/-- The first sixteen pairs turn by the row … -/
theorem angle_row (t : Fin 4096) (p : Fin 32) (a : ℕ) (h : p.val < 16) (ha : p.val = a) :
    angle t p = (FloatOps.sitofp (F := Ideal) .f32 (BitVec.ofNat 32 (t.val / 64)) : EReal)
      * Ideal.div 1 (Ideal.pow (Ideal.ofBits .f32 0x461C4000#32) (Ideal.div
        (Ideal.ofBits .f32 0x40000000#32 * (FloatOps.sitofp (F := Ideal) .f32 (BitVec.ofNat 32 a) : EReal)) (Ideal.ofBits .f32 0x42000000#32))) := by
  unfold angle
  rw [if_pos h, show p.val % 16 = a by omega]

/-- … and the last sixteen by the column. -/
theorem angle_col (t : Fin 4096) (p : Fin 32) (a : ℕ) (h : ¬ p.val < 16) (ha : p.val - 16 = a) :
    angle t p = (FloatOps.sitofp (F := Ideal) .f32 (BitVec.ofNat 32 (t.val % 64)) : EReal)
      * Ideal.div 1 (Ideal.pow (Ideal.ofBits .f32 0x461C4000#32) (Ideal.div
        (Ideal.ofBits .f32 0x40000000#32 * (FloatOps.sitofp (F := Ideal) .f32 (BitVec.ofNat 32 a) : EReal)) (Ideal.ofBits .f32 0x42000000#32))) := by
  unfold angle
  rw [if_neg h, show p.val % 16 = a by omega]

/-- Token `t` of sequence `b`, in the first layer. -/
def argToken (x : FVec Ideal ⟨3, ![8, 4096, 1024]⟩ .f32) (μ : FVec Ideal ⟨2, ![8, 6144]⟩ .f32) (n1 : FVec Ideal ⟨2, ![4, 1024]⟩ .f32)
    (w : FVec Ideal ⟨3, ![4, 1024, 1280]⟩ .f32) (gq gk : FVec Ideal ⟨2, ![4, 64]⟩ .f32) (b : Fin 8) (t : Fin 4096) : Token where
  x k := x (ix3 b t k)
  μ r k := μ (ix2 b ⟨1024 * r.val + k.val, by omega⟩)
  n1 k := n1 (ix2 0 k)
  w k j := w (ix3 0 k j)
  gq d := gq (ix2 0 d)
  gk d := gk (ix2 0 d)
  cs p := Ideal.cos (angle t p)
  sn p := Ideal.sin (angle t p)

end Cert.Inproj
-- ==== Proof.InPoint.lean ====
/- What a grid point's output blocks of the in-projection hold, element by element, over the extended reals. -/
module

public import proofs.«01_k».proof.Proof.InBlock
public import proofs.«01_k».proof.Proof.InToken

@[expose] public section

set_option maxRecDepth 16384

noncomputable section

namespace Cert.Inproj

open Cert.Kernel3Ideal Cert.Kernel3Ideal.Gen Idealize.ShloMosaic Idealize.SL.Sem
open Cert.Mix (invRms)

/-! ## The steps -/

theorem scaled_apply (x : FVec Ideal S256x1024 .f32) (s : Fin 256) (k : Fin 1024) :
    scaled (F := Ideal) x (ix2 s k) = x (ix2 s k) * invRms 0x44800000#32 (fun k : Fin 1024 => x (ix2 s k)) := by
  pointwise [scaled, invRms]

theorem modulated_apply (x : FVec Ideal S256x1024 .f32) (n : FVec Ideal S1x1024 .f32) (r₁ r₀ : FVec Ideal S1x1x1024 .f32)
    (s : Fin 256) (k : Fin 1024) : modulated (F := Ideal) x n r₁ r₀ (ix2 s k)
      = x (ix2 s k) * invRms 0x44800000#32 (fun k : Fin 1024 => x (ix2 s k)) * n (ix2 0 k) * (Ideal.ofBits .f32 0x3F800000#32 + r₁ (ix3 0 0 k))
        + r₀ (ix3 0 0 k) := by
  rw [← scaled_apply]
  unfold modulated
  generalize scaled (F := Ideal) x = X
  pointwise [wider, modRow]
  rw [mul_assoc]

theorem projected_apply (h : FVec Ideal S256x1024 .f32) (w : FVec Ideal S1x1024x1280 .bf16) (s : Fin 256) (j : Fin 1280) :
    projected (F := Ideal) h w (ix2 s j) = ∑ k : Fin 1024, h (ix2 s k) * w (ix3 0 k j) := by
  pointwise [projected]

theorem tile_apply (z : FVec Ideal S256x1280 .f32) (p : Fin 6) (s : Fin 256) (l : Fin 128) :
    tile (F := Ideal) z p (ix2 s l) = z (ix2 s ⟨128 * p.val + l.val, by omega⟩) := by
  show z _ = z _
  congr 1; funext b
  match b with
  | ⟨0, _⟩ => exact Fin.ext (show 0 + s.val = s.val by omega)
  | ⟨1, _⟩ => exact Fin.ext (show 128 * p.val + l.val = 128 * p.val + l.val by omega)

theorem firstHalf_word : ∀ l : Fin 128, Scalar.cmpi .eq (BitVec.ofNat 32 l.val &&& 32#32) 0#32 = if l.val / 32 % 2 = 0 then 1#1 else 0#1 := by
  decide +kernel

theorem firstHalf_apply (s : Fin 256) (l : Fin 128) : firstHalf (ix2 s l) = if l.val / 32 % 2 = 0 then 1#1 else 0#1 := by
  rw [← firstHalf_word]
  pointwise [firstHalf]
  first | done | rfl

theorem partner_apply (y : FVec Ideal S256x128 .f32) (s : Fin 256) (l : Fin 128) :
    partner (F := Ideal) y (ix2 s l) = y (ix2 s (partnerOf l)) := by
  show Scalar.select (firstHalf (ix2 s l)) (dynamicRotate 1 96#32 none y rotates_S256x128_d1 (ix2 s l))
    (dynamicRotate 1 32#32 none y rotates_S256x128_d1 (ix2 s l)) = _
  rw [firstHalf_apply]
  unfold partnerOf
  split
  · show dynamicRotate 1 96#32 none y rotates_S256x128_d1 (ix2 s l) = _
    pointwise
    exact congrArg (fun i => y (ix2 s i)) (Fin.ext (show (l.val + 128 - 96) % 128 = (l.val + 32) % 128 by omega))
  · show dynamicRotate 1 32#32 none y rotates_S256x128_d1 (ix2 s l) = _
    pointwise
    exact congrArg (fun i => y (ix2 s i)) (Fin.ext (show (l.val + 128 - 32) % 128 = (l.val + 96) % 128 by omega))

theorem headNormed_apply (z : FVec Ideal S256x128 .f32) (g : FVec Ideal S1x128 .f32) (seg : FVec Ideal S128x128 .bf16) (s : Fin 256) (l : Fin 128) :
    headNormed (F := Ideal) z g seg (ix2 s l) = lanesNorm (fun l => z (ix2 s l)) (fun l => g (ix2 0 l)) (fun a b => seg (ix2 a b)) l := by
  pointwise [headNormed, lanesNorm]

theorem roped_apply (y : FVec Ideal S256x128 .f32) (cs sn : FVec Ideal S256x128 .f32) (s : Fin 256) (l : Fin 128) :
    roped (F := Ideal) y cs sn (ix2 s l) = y (ix2 s l) * cs (ix2 s l) + y (ix2 s (partnerOf l)) * sn (ix2 s l) := by
  rw [← partner_apply y s l]
  unfold roped
  generalize partner (F := Ideal) y = Y
  pointwise

/-! ## The blocks -/

section

variable (x0 : FVec Ideal S1x512x1024 .f32) (x1 : FVec Ideal S1x6x1024 .f32) (x2 : FVec Ideal S1x1024 .f32) (x3 : FVec Ideal S1x1024x1280 .bf16)
  (x4 : FVec Ideal S1x512 .f32) (x5 : FVec Ideal S1x128 .f32) (x6 x7 : FVec Ideal S512x128 .f32) (x8 : FVec Ideal S128x128 .bf16)

/-- The block's token `s` times the block's in-projection, column `j`. -/
def zOf (s : Fin 512) (j : Fin 1280) : EReal :=
  ∑ k : Fin 1024, hiddenOf (fun k => x0 (ix3 0 s k)) (fun r k => x1 (ix3 0 r k)) (fun k => x2 (ix2 0 k)) k * x3 (ix3 0 k j)

theorem ld_x (c : Fin 2) (s : Fin 256) (k : Fin 1024) : View.ld (Val := Elt Ideal) (e' := .f32) x0 (Rect.unit (s := S1x512x1024) ![0, 256 * c.val, 0] S1x256x1024.size (inb_x c)) (ix3 0 s k)
    = x0 (ix3 0 ⟨256 * c.val + s.val, by omega⟩ k) := by
  show x0 _ = x0 _
  congr 1; funext b
  match b with
  | ⟨0, _⟩ => exact Fin.ext (show 0 + 1 * 0 = 0 by omega)
  | ⟨1, _⟩ => exact Fin.ext (show 256 * c.val + 1 * s.val = 256 * c.val + s.val by omega)
  | ⟨2, _⟩ => exact Fin.ext (show 0 + 1 * k.val = k.val by omega)

theorem modAt_apply (r : Fin 6) (k : Fin 1024) : modAt (F := Ideal) x1 r (ix3 0 0 k) = x1 (ix3 0 r k) := by
  show x1 _ = x1 _
  congr 1; funext b
  match b with
  | ⟨0, _⟩ => exact Fin.ext (show 0 + 1 * 0 = 0 by omega)
  | ⟨1, _⟩ => exact Fin.ext (show r.val + 1 * 0 = r.val by omega)
  | ⟨2, _⟩ => exact Fin.ext (show 0 + 1 * k.val = k.val by omega)

theorem table_apply (x : FVec Ideal S512x128 .f32) (c : Fin 2) (s : Fin 256) (l : Fin 128) :
    table (F := Ideal) c x (ix2 s l) = x (ix2 ⟨256 * c.val + s.val, by omega⟩ l) := by
  show x _ = x _
  congr 1; funext b
  match b with
  | ⟨0, _⟩ => exact Fin.ext (show 256 * c.val + 1 * s.val = 256 * c.val + s.val by omega)
  | ⟨1, _⟩ => exact Fin.ext (show 0 + 1 * l.val = l.val by omega)

theorem gain_apply (p : Fin 4) (l : Fin 128) : View.ld (Val := Elt Ideal) (e' := .f32) x4 (Rect.unit (s := S1x512) ![0, 128 * p.val] S1x128.size (inb_gain p)) (ix2 0 l)
    = x4 (ix2 0 ⟨128 * p.val + l.val, by omega⟩) := by
  show x4 _ = x4 _
  congr 1; funext b
  match b with
  | ⟨0, _⟩ => exact Fin.ext (show 0 + 1 * 0 = 0 by omega)
  | ⟨1, _⟩ => exact Fin.ext (show 128 * p.val + 1 * l.val = 128 * p.val + l.val by omega)

theorem zed_apply (c : Fin 2) (s : Fin 256) (j : Fin 1280) : zed (F := Ideal) x0 x1 x2 x3 c (ix2 s j) = zOf x0 x1 x2 x3 ⟨256 * c.val + s.val, by omega⟩ j := by
  have e : ∀ (X : FVec Ideal S1x256x1024 .f32) (s : Fin 256) (k : Fin 1024), (shapeCast S256x1024 X shapeCasts_S1x256x1024_S256x1024 : FVec Ideal S256x1024 .f32) (ix2 s k) = X (ix3 0 s k) := by
    intro X s k; pointwise
  unfold zed
  rw [projected_apply]
  unfold zOf
  refine Finset.sum_congr rfl fun k _ => congrArg (· * _) ?_
  rw [modulated_apply, modAt_apply, modAt_apply]
  simp only [e, ld_x x0 c]
  rfl

theorem inputs_apply (c : Fin 2) (s : Fin 256) (f : Fin 512) :
    inputs (F := Ideal) x0 x1 x2 x3 c (ix2 s f) = zOf x0 x1 x2 x3 ⟨256 * c.val + s.val, by omega⟩ ⟨768 + f.val, by omega⟩ := by
  rw [← zed_apply]
  unfold inputs
  generalize zed (F := Ideal) x0 x1 x2 x3 c = Z
  pointwise

theorem queries_apply (c : Fin 2) (p : Fin 4) (s : Fin 256) (l : Fin 128) :
    queries (F := Ideal) x0 x1 x2 x3 x4 x6 x7 x8 c p (ix2 s l)
      = lanesTurn (fun l => zOf x0 x1 x2 x3 ⟨256 * c.val + s.val, by omega⟩ ⟨128 * p.val + l.val, by omega⟩)
          (fun l => x4 (ix2 0 ⟨128 * p.val + l.val, by omega⟩)) (fun l => x6 (ix2 ⟨256 * c.val + s.val, by omega⟩ l))
          (fun l => x7 (ix2 ⟨256 * c.val + s.val, by omega⟩ l)) (fun a b => x8 (ix2 a b)) l := by
  unfold queries
  rw [roped_apply, headNormed_apply, headNormed_apply]
  simp only [tile_apply, zed_apply, table_apply, gain_apply x4 p]
  rfl

theorem keys_apply (c : Fin 2) (s : Fin 256) (l : Fin 128) :
    keys (F := Ideal) x0 x1 x2 x3 x5 x6 x7 x8 c (ix2 s l)
      = lanesTurn (fun l => zOf x0 x1 x2 x3 ⟨256 * c.val + s.val, by omega⟩ ⟨512 + l.val, by omega⟩)
          (fun l => x5 (ix2 0 l)) (fun l => x6 (ix2 ⟨256 * c.val + s.val, by omega⟩ l))
          (fun l => x7 (ix2 ⟨256 * c.val + s.val, by omega⟩ l)) (fun a b => x8 (ix2 a b)) l := by
  unfold keys
  rw [roped_apply, headNormed_apply, headNormed_apply]
  simp only [tile_apply, zed_apply, table_apply]
  rfl

theorem values_apply (c : Fin 2) (l : Fin 128) (s : Fin 256) :
    values (F := Ideal) x0 x1 x2 x3 c (ix2 l s) = zOf x0 x1 x2 x3 ⟨256 * c.val + s.val, by omega⟩ ⟨640 + l.val, by omega⟩ := by
  have e : values (F := Ideal) x0 x1 x2 x3 c (ix2 l s) = tile (F := Ideal) (zed (F := Ideal) x0 x1 x2 x3 c) 5 (ix2 s l) := by
    unfold values
    generalize tile (F := Ideal) (zed (F := Ideal) x0 x1 x2 x3 c) 5 = Z
    pointwise
  rw [e, tile_apply, zed_apply]
  rfl

/-- The queries at token `s`, feature `f`. -/
def qOf (s : Fin 512) (f : Fin 512) : EReal :=
  lanesTurn (fun l => zOf x0 x1 x2 x3 s ⟨128 * (f.val / 128) + l.val, by omega⟩) (fun l => x4 (ix2 0 ⟨128 * (f.val / 128) + l.val, by omega⟩))
    (fun l => x6 (ix2 s l)) (fun l => x7 (ix2 s l)) (fun a b => x8 (ix2 a b)) ⟨f.val % 128, by omega⟩

/-- The keys of head `g` at token `s`, place `e`. -/
def kOf (g : Fin 2) (s : Fin 512) (e : Fin 64) : EReal :=
  lanesTurn (fun l => zOf x0 x1 x2 x3 s ⟨512 + l.val, by omega⟩) (fun l => x5 (ix2 0 l))
    (fun l => x6 (ix2 s l)) (fun l => x7 (ix2 s l)) (fun a b => x8 (ix2 a b)) ⟨64 * g.val + e.val, by omega⟩

/-- Row `r` of head `g`'s values above ones. -/
def vOf (g : Fin 2) (r : Fin 80) (s : Fin 512) : EReal :=
  if h : r.val < 64 then zOf x0 x1 x2 x3 s ⟨640 + 64 * g.val + r.val, by omega⟩ else Ideal.ofBits .bf16 0x3F80#16

def uOf (s : Fin 512) (f : Fin 512) : EReal := zOf x0 x1 x2 x3 s ⟨768 + f.val, by omega⟩

theorem mem2 (c : Fin 2) : c ∈ ([1, 0] : List (Fin 2)) := by revert c; decide

theorem mem4 (c : Fin 4) : c ∈ ([3, 2, 1, 0] : List (Fin 4)) := by revert c; decide

theorem mem8 (c : Fin 8) : c ∈ ([7, 6, 5, 4, 3, 2, 1, 0] : List (Fin 8)) := by revert c; decide

theorem qBlock_apply (s f : Fin 512) : qBlock (F := Ideal) x0 x1 x2 x3 x4 x6 x7 x8 (ix3 0 s f) = qOf x0 x1 x2 x3 x4 x6 x7 x8 s f := by
  unfold qBlock qPieces
  let G : S1x512x512.Idx → EReal := fun y => qOf x0 x1 x2 x3 x4 x6 x7 x8 (y 1) (y 2)
  change _ = G (ix3 0 s f)
  refine View.canon_apply_of_pieces (Val := Elt Ideal) (e := .bf16) G _ ?_ _ ?_
  · intro P hp x
    simp only [List.mem_flatMap, List.mem_map] at hp
    obtain ⟨c, _, p, _, rfl⟩ := hp
    obtain ⟨i, s, l, rfl⟩ : ∃ (i : Fin 1) (s : Fin 256) (l : Fin 128), x = ix3 i s l := ⟨_, _, _, eq_ix3 x⟩
    have e : (qPiece (F := Ideal) x0 x1 x2 x3 x4 x6 x7 x8 c p).2 (ix3 i s l) = queries (F := Ideal) x0 x1 x2 x3 x4 x6 x7 x8 c p (ix2 s l) := by
      show shapeCast S1x256x128 (queries (F := Ideal) x0 x1 x2 x3 x4 x6 x7 x8 c p) shapeCasts_S256x128_S1x256x128 (ix3 i s l) = _
      generalize queries (F := Ideal) x0 x1 x2 x3 x4 x6 x7 x8 c p = Q
      pointwise
    rw [e, queries_apply]
    show _ = qOf x0 x1 x2 x3 x4 x6 x7 x8 ⟨256 * c.val + 1 * s.val, _⟩ ⟨128 * p.val + 1 * l.val, _⟩
    unfold qOf
    simp only [one_mul, show (128 * p.val + l.val) / 128 = p.val by omega, show (128 * p.val + l.val) % 128 = l.val by omega]
  · refine ⟨qPiece (F := Ideal) x0 x1 x2 x3 x4 x6 x7 x8 ⟨s.val / 256, by omega⟩ ⟨f.val / 128, by omega⟩, ?_, ?_⟩
    · simp only [List.mem_flatMap, List.mem_map]
      exact ⟨_, mem2 _, _, mem4 _, rfl⟩
    rw [LoadRect.mem_set]; intro b
    match b with
    | ⟨0, _⟩ => exact ⟨0, Nat.one_pos, show 0 = 0 + 1 * 0 by omega⟩
    | ⟨1, _⟩ => exact ⟨s.val % 256, (show s.val % 256 < 256 by omega), show s.val = 256 * (s.val / 256) + 1 * (s.val % 256) by omega⟩
    | ⟨2, _⟩ => exact ⟨f.val % 128, (show f.val % 128 < 128 by omega), show f.val = 128 * (f.val / 128) + 1 * (f.val % 128) by omega⟩

theorem kBlock_apply (g : Fin 2) (s : Fin 512) (e : Fin 64) :
    kBlock (F := Ideal) x0 x1 x2 x3 x5 x6 x7 x8 (ix4 0 g s e) = kOf x0 x1 x2 x3 x5 x6 x7 x8 g s e := by
  unfold kBlock kPieces
  let G : S1x2x512x64.Idx → EReal := fun y => kOf x0 x1 x2 x3 x5 x6 x7 x8 (y 1) (y 2) (y 3)
  change _ = G (ix4 0 g s e)
  refine View.canon_apply_of_pieces (Val := Elt Ideal) (e := .bf16) G _ ?_ _ ?_
  · intro P hp x
    simp only [List.mem_flatMap, List.mem_map] at hp
    obtain ⟨c, _, g, _, rfl⟩ := hp
    obtain ⟨i, j, s, l, rfl⟩ : ∃ (i j : Fin 1) (s : Fin 256) (l : Fin 64), x = ix4 i j s l := ⟨_, _, _, _, eq_ix4 x⟩
    have e : (kPiece (F := Ideal) x0 x1 x2 x3 x5 x6 x7 x8 c g).2 (ix4 i j s l) = keys (F := Ideal) x0 x1 x2 x3 x5 x6 x7 x8 c (ix2 s ⟨64 * g.val + l.val, by omega⟩) := by
      show shapeCast S1x1x256x64 (extractStridedSlice S256x64 ![0, 64 * g.val] (keys (F := Ideal) x0 x1 x2 x3 x5 x6 x7 x8 c) (slices_head g) : FVec Ideal S256x64 .bf16)
        shapeCasts_S256x64_S1x1x256x64 (ix4 i j s l) = _
      generalize keys (F := Ideal) x0 x1 x2 x3 x5 x6 x7 x8 c = Q
      have r : ∀ X : FVec Ideal S256x64 .bf16, shapeCast S1x1x256x64 X shapeCasts_S256x64_S1x1x256x64 (ix4 i j s l) = X (ix2 s l) := by intro X; pointwise
      rw [r]
      show Q _ = Q _
      congr 1; funext b
      match b with
      | ⟨0, _⟩ => exact Fin.ext (show 0 + s.val = s.val by omega)
      | ⟨1, _⟩ => rfl
    rw [e, keys_apply]
    show _ = kOf x0 x1 x2 x3 x5 x6 x7 x8 ⟨g.val + 1 * j.val, _⟩ ⟨256 * c.val + 1 * s.val, _⟩ ⟨0 + 1 * l.val, _⟩
    unfold kOf
    simp only [one_mul, zero_add, show g.val + j.val = g.val by omega]
  · refine ⟨kPiece (F := Ideal) x0 x1 x2 x3 x5 x6 x7 x8 ⟨s.val / 256, by omega⟩ g, ?_, ?_⟩
    · simp only [List.mem_flatMap, List.mem_map]
      exact ⟨_, mem2 _, _, mem2 _, rfl⟩
    rw [LoadRect.mem_set]; intro b
    match b with
    | ⟨0, _⟩ => exact ⟨0, Nat.one_pos, show 0 = 0 + 1 * 0 by omega⟩
    | ⟨1, _⟩ => exact ⟨0, Nat.one_pos, show g.val = g.val + 1 * 0 by omega⟩
    | ⟨2, _⟩ => exact ⟨s.val % 256, (show s.val % 256 < 256 by omega), show s.val = 256 * (s.val / 256) + 1 * (s.val % 256) by omega⟩
    | ⟨3, _⟩ => exact ⟨e.val, e.isLt, show e.val = 0 + 1 * e.val by omega⟩

theorem vBlock_apply (g : Fin 2) (r : Fin 80) (s : Fin 512) : vBlock (F := Ideal) x0 x1 x2 x3 (ix4 0 g r s) = vOf x0 x1 x2 x3 g r s := by
  unfold vBlock vPieces
  let G : S1x2x80x512.Idx → EReal := fun y => vOf x0 x1 x2 x3 (y 1) (y 2) (y 3)
  change _ = G (ix4 0 g r s)
  refine View.canon_apply_of_pieces (Val := Elt Ideal) (e := .bf16) G _ ?_ _ ?_
  · intro P hp x
    simp only [List.mem_flatMap, List.mem_pair] at hp
    obtain ⟨c, _, g, _, rfl | rfl⟩ := hp
    · obtain ⟨i, j, r, s, rfl⟩ : ∃ (i j : Fin 1) (r : Fin 16) (s : Fin 256), x = ix4 i j r s := ⟨_, _, _, _, eq_ix4 x⟩
      have e : (onePiece (F := Ideal) c g).2 (ix4 i j r s) = Ideal.ofBits .bf16 0x3F80#16 := by
        show shapeCast S1x1x16x256 (broadcast S16x256 (Scalar.ofBits (F := Ideal) .bf16 0x3F80#16) : FVec Ideal S16x256 .bf16) shapeCasts_S16x256_S1x1x16x256 (ix4 i j r s) = _
        pointwise
        first | done | rfl
      rw [e]
      show _ = vOf x0 x1 x2 x3 ⟨g.val + 1 * j.val, _⟩ ⟨64 + 1 * r.val, _⟩ ⟨256 * c.val + 1 * s.val, _⟩
      unfold vOf
      rw [dif_neg (by simp only; omega)]
    · obtain ⟨i, j, r, s, rfl⟩ : ∃ (i j : Fin 1) (r : Fin 64) (s : Fin 256), x = ix4 i j r s := ⟨_, _, _, _, eq_ix4 x⟩
      have e : (vPiece (F := Ideal) x0 x1 x2 x3 c g).2 (ix4 i j r s) = values (F := Ideal) x0 x1 x2 x3 c (ix2 ⟨64 * g.val + r.val, by omega⟩ s) := by
        show shapeCast S1x1x64x256 (extractStridedSlice S64x256 ![64 * g.val, 0] (values (F := Ideal) x0 x1 x2 x3 c) (slices_value g) : FVec Ideal S64x256 .bf16)
          shapeCasts_S64x256_S1x1x64x256 (ix4 i j r s) = _
        generalize values (F := Ideal) x0 x1 x2 x3 c = Q
        have r' : ∀ X : FVec Ideal S64x256 .bf16, shapeCast S1x1x64x256 X shapeCasts_S64x256_S1x1x64x256 (ix4 i j r s) = X (ix2 r s) := by intro X; pointwise
        rw [r']
        show Q _ = Q _
        congr 1; funext b
        match b with
        | ⟨0, _⟩ => rfl
        | ⟨1, _⟩ => exact Fin.ext (show 0 + s.val = s.val by omega)
      rw [e, values_apply]
      show _ = vOf x0 x1 x2 x3 ⟨g.val + 1 * j.val, _⟩ ⟨0 + 1 * r.val, _⟩ ⟨256 * c.val + 1 * s.val, _⟩
      unfold vOf
      rw [dif_pos (by simp only; omega)]
      congr 1
      · exact Fin.ext (show 256 * c.val + s.val = 256 * c.val + 1 * s.val by omega)
      · exact Fin.ext (show 640 + (64 * g.val + r.val) = 640 + 64 * (g.val + 1 * j.val) + (0 + 1 * r.val) by omega)
  · rcases Nat.lt_or_ge r.val 64 with hr | hr
    · refine ⟨vPiece (F := Ideal) x0 x1 x2 x3 ⟨s.val / 256, by omega⟩ g, ?_, ?_⟩
      · exact List.mem_flatMap.mpr ⟨_, mem2 _, List.mem_flatMap.mpr ⟨_, mem2 _, List.mem_pair.mpr (.inr rfl)⟩⟩
      rw [LoadRect.mem_set]; intro b
      match b with
      | ⟨0, _⟩ => exact ⟨0, Nat.one_pos, show 0 = 0 + 1 * 0 by omega⟩
      | ⟨1, _⟩ => exact ⟨0, Nat.one_pos, show g.val = g.val + 1 * 0 by omega⟩
      | ⟨2, _⟩ => exact ⟨r.val, hr, show r.val = 0 + 1 * r.val by omega⟩
      | ⟨3, _⟩ => exact ⟨s.val % 256, (show s.val % 256 < 256 by omega), show s.val = 256 * (s.val / 256) + 1 * (s.val % 256) by omega⟩
    · refine ⟨onePiece (F := Ideal) ⟨s.val / 256, by omega⟩ g, ?_, ?_⟩
      · exact List.mem_flatMap.mpr ⟨_, mem2 _, List.mem_flatMap.mpr ⟨_, mem2 _, List.mem_pair.mpr (.inl rfl)⟩⟩
      rw [LoadRect.mem_set]; intro b
      match b with
      | ⟨0, _⟩ => exact ⟨0, Nat.one_pos, show 0 = 0 + 1 * 0 by omega⟩
      | ⟨1, _⟩ => exact ⟨0, Nat.one_pos, show g.val = g.val + 1 * 0 by omega⟩
      | ⟨2, _⟩ => exact ⟨r.val - 64, (show r.val - 64 < 16 by omega), show r.val = 64 + 1 * (r.val - 64) by omega⟩
      | ⟨3, _⟩ => exact ⟨s.val % 256, (show s.val % 256 < 256 by omega), show s.val = 256 * (s.val / 256) + 1 * (s.val % 256) by omega⟩

theorem uBlock_apply (s f : Fin 512) : uBlock (F := Ideal) x0 x1 x2 x3 (ix3 0 s f) = uOf x0 x1 x2 x3 s f := by
  unfold uBlock uPieces
  let G : S1x512x512.Idx → EReal := fun y => uOf x0 x1 x2 x3 (y 1) (y 2)
  change _ = G (ix3 0 s f)
  refine View.canon_apply_of_pieces (Val := Elt Ideal) (e := .f32) G _ ?_ _ ?_
  · intro P hp x
    simp only [List.mem_map] at hp
    obtain ⟨c, _, rfl⟩ := hp
    obtain ⟨i, s, l, rfl⟩ : ∃ (i : Fin 1) (s : Fin 256) (l : Fin 512), x = ix3 i s l := ⟨_, _, _, eq_ix3 x⟩
    have e : (uPiece (F := Ideal) x0 x1 x2 x3 c).2 (ix3 i s l) = inputs (F := Ideal) x0 x1 x2 x3 c (ix2 s l) := by
      show shapeCast S1x256x512 (inputs (F := Ideal) x0 x1 x2 x3 c) shapeCasts_S256x512_S1x256x512 (ix3 i s l) = _
      generalize inputs (F := Ideal) x0 x1 x2 x3 c = Q
      pointwise
    rw [e, inputs_apply]
    show _ = uOf x0 x1 x2 x3 ⟨256 * c.val + 1 * s.val, _⟩ ⟨0 + 1 * l.val, _⟩
    unfold uOf
    simp only [one_mul, zero_add]
  · refine ⟨uPiece (F := Ideal) x0 x1 x2 x3 ⟨s.val / 256, by omega⟩, List.mem_map.mpr ⟨_, mem2 _, rfl⟩, ?_⟩
    rw [LoadRect.mem_set]; intro b
    match b with
    | ⟨0, _⟩ => exact ⟨0, Nat.one_pos, show 0 = 0 + 1 * 0 by omega⟩
    | ⟨1, _⟩ => exact ⟨s.val % 256, (show s.val % 256 < 256 by omega), show s.val = 256 * (s.val / 256) + 1 * (s.val % 256) by omega⟩
    | ⟨2, _⟩ => exact ⟨f.val, f.isLt, show f.val = 0 + 1 * f.val by omega⟩

/-! ## The chunks, read back from the staging buffer -/

/-- What the staging buffer holds. -/
def stagedOf (y : S4x512x128.Idx) : EReal :=
  zOf x0 x1 x2 x3 (y 1) ⟨768 + 128 * (y 0).val + (y 2).val, by
    have h0 : (y 0).val < 4 := (y 0).isLt
    have h2 : (y 2).val < 128 := (y 2).isLt
    omega⟩

theorem sPiece_apply (c : Fin 2) (o : Fin 4) (x : S1x256x128.Idx) :
    (sPiece (F := Ideal) x0 x1 x2 x3 c o).2 x = stagedOf x0 x1 x2 x3 ((sPiece (F := Ideal) x0 x1 x2 x3 c o).1.emb x) := by
  obtain ⟨i, s, l, rfl⟩ : ∃ (i : Fin 1) (s : Fin 256) (l : Fin 128), x = ix3 i s l := ⟨_, _, _, eq_ix3 x⟩
  have e : (sPiece (F := Ideal) x0 x1 x2 x3 c o).2 (ix3 i s l) = inputs (F := Ideal) x0 x1 x2 x3 c (ix2 s ⟨128 * o.val + l.val, by omega⟩) := by
    show shapeCast S1x256x128 (extractStridedSlice S256x128 ![0, 128 * o.val] (inputs (F := Ideal) x0 x1 x2 x3 c) (slices_feature o) : FVec Ideal S256x128 .f32)
      shapeCasts_S256x128_S1x256x128 (ix3 i s l) = _
    generalize inputs (F := Ideal) x0 x1 x2 x3 c = Q
    have r : ∀ X : FVec Ideal S256x128 .f32, shapeCast S1x256x128 X shapeCasts_S256x128_S1x256x128 (ix3 i s l) = X (ix2 s l) := by intro X; pointwise
    rw [r]
    show Q _ = Q _
    congr 1; funext b
    match b with
    | ⟨0, _⟩ => exact Fin.ext (show 0 + s.val = s.val by omega)
    | ⟨1, _⟩ => rfl
  rw [e, inputs_apply]
  show _ = zOf x0 x1 x2 x3 ⟨256 * c.val + 1 * s.val, _⟩ ⟨768 + 128 * (o.val + 1 * i.val) + (0 + 1 * l.val), _⟩
  congr 1
  · exact Fin.ext (show 256 * c.val + s.val = 256 * c.val + 1 * s.val by omega)
  · exact Fin.ext (show 768 + (128 * o.val + l.val) = 768 + 128 * (o.val + 1 * i.val) + (0 + 1 * l.val) by omega)

theorem mem_staged (c : Fin 2) (P : View.Piece (Elt Ideal) S4x512x128 .f32) (hp : P ∈ staged (F := Ideal) x0 x1 x2 x3 c) :
    ∃ c' o, P = sPiece (F := Ideal) x0 x1 x2 x3 c' o := by
  match c with
  | 0 => obtain ⟨o, _, rfl⟩ := List.mem_map.mp hp; exact ⟨0, o, rfl⟩
  | 1 =>
    rcases List.mem_append.mp hp with hp | hp
    · obtain ⟨o, _, rfl⟩ := List.mem_map.mp hp; exact ⟨1, o, rfl⟩
    · obtain ⟨o, _, rfl⟩ := List.mem_map.mp hp; exact ⟨0, o, rfl⟩

theorem sPiece_mem (c : Fin 2) (o : Fin 4) : sPiece (F := Ideal) x0 x1 x2 x3 c o ∈ staged (F := Ideal) x0 x1 x2 x3 c := by
  match c with
  | 0 => exact List.mem_map.mpr ⟨o, mem4 o, rfl⟩
  | 1 => exact List.mem_append_left _ (List.mem_map.mpr ⟨o, mem4 o, rfl⟩)

/-- Token `8 h + j` of chunk `i`. -/
theorem strided_apply (c : Fin 2) (o : Fin 4) (h : Fin 2) (j : Fin 8) (i : Fin 16) (l : Fin 128) :
    strided (F := Ideal) x0 x1 x2 x3 c o h j (ix2 i l)
      = zOf x0 x1 x2 x3 ⟨256 * c.val + 8 * h.val + j.val + 16 * i.val, by omega⟩ ⟨768 + 128 * o.val + l.val, by omega⟩ := by
  unfold strided
  have r : ∀ X : FVec Ideal S1x16x128 .f32, shapeCast S16x128 X shapeCasts_S1x16x128_S16x128 (ix2 i l) = X (ix3 0 i l) := by intro X; pointwise
  rw [r, View.readCov_eq_canon']
  set y : S4x512x128.Idx := ix3 (n0 := 4) (n1 := 512) (n2 := 128) o ⟨256 * c.val + 8 * h.val + j.val + 16 * i.val, by omega⟩ l with hy
  set R : LoadRect S4x512x128 := ⟨![o.val, 256 * c.val + 8 * h.val + j.val, 0], S1x16x128.size, ![1, 16, 1], inb_l o c h j⟩ with hR
  have ey : R.idx (ix3 0 i l) = y := by
    funext b
    match b with
    | ⟨0, _⟩ => exact Fin.ext (show o.val + 1 * 0 = o.val by omega)
    | ⟨1, _⟩ => rfl
    | ⟨2, _⟩ => exact Fin.ext (show 0 + 1 * l.val = l.val by omega)
  show View.canon (staged (F := Ideal) x0 x1 x2 x3 c) (R.idx (ix3 0 i l)) = _
  rw [ey, View.canon_apply_of_pieces (Val := Elt Ideal) (e := .f32) (stagedOf x0 x1 x2 x3) (staged (F := Ideal) x0 x1 x2 x3 c) ?_ y ?_]
  · rfl
  · intro P hp x
    obtain ⟨c', o', rfl⟩ := mem_staged x0 x1 x2 x3 c P hp
    exact sPiece_apply x0 x1 x2 x3 c' o' x
  · refine ⟨_, sPiece_mem x0 x1 x2 x3 c o, ?_⟩
    rw [LoadRect.mem_set]; intro b
    match b with
    | ⟨0, _⟩ => exact ⟨0, Nat.one_pos, show o.val = o.val + 1 * 0 by omega⟩
    | ⟨1, _⟩ => exact ⟨8 * h.val + j.val + 16 * i.val, (show 8 * h.val + j.val + 16 * i.val < 256 by omega),
        show 256 * c.val + 8 * h.val + j.val + 16 * i.val = 256 * c.val + 1 * (8 * h.val + j.val + 16 * i.val) by omega⟩
    | ⟨2, _⟩ => exact ⟨l.val, l.isLt, show l.val = 0 + 1 * l.val by omega⟩

/-- Group `g`'s chunk `q`: token `e / 16` of it, feature `e % 16` of the group. -/
def cOf (g q : Fin 32) (e : Fin 256) : EReal :=
  zOf x0 x1 x2 x3 ⟨16 * q.val + e.val / 16, by omega⟩ ⟨768 + 16 * g.val + e.val % 16, by omega⟩

theorem cBlock_apply (g q : Fin 32) (e : Fin 256) : cBlock (F := Ideal) x0 x1 x2 x3 (ix3 g q e) = cOf x0 x1 x2 x3 g q e := by
  unfold cBlock cPieces
  let G : S32x32x256.Idx → EReal := fun y => cOf x0 x1 x2 x3 (y 0) (y 1) (y 2)
  change _ = G (ix3 g q e)
  refine View.canon_apply_of_pieces (Val := Elt Ideal) (e := .bf16) G _ ?_ _ ?_
  · intro P hp x
    simp only [List.mem_flatMap, List.mem_map] at hp
    obtain ⟨c, _, o, _, h, _, g, _, rfl⟩ := hp
    obtain ⟨a, i, l, rfl⟩ : ∃ (a : Fin 1) (i : Fin 16) (l : Fin 128), x = ix3 a i l := ⟨_, _, _, eq_ix3 x⟩
    have e : (cPiece (F := Ideal) x0 x1 x2 x3 c o h g).2 (ix3 a i l) = Cert.Mix.token (F := Ideal) (strided (F := Ideal) x0 x1 x2 x3 c o h) g (ix2 i l) := by
      show shapeCast S1x16x128 (truncf .bf16 (Cert.Mix.token (F := Ideal) (strided (F := Ideal) x0 x1 x2 x3 c o h) g) bitsLt_bf16_f32 : FVec Ideal S16x128 .bf16)
        shapeCasts_S16x128_S1x16x128 (ix3 a i l) = _
      generalize Cert.Mix.token (F := Ideal) (strided (F := Ideal) x0 x1 x2 x3 c o h) g = Q
      pointwise
    rw [e, Cert.Mix.token_apply, strided_apply]
    show _ = zOf x0 x1 x2 x3 ⟨16 * (16 * c.val + 1 * i.val) + (128 * h.val + 1 * l.val) / 16, _⟩
      ⟨768 + 16 * (8 * o.val + g.val + 1 * a.val) + (128 * h.val + 1 * l.val) % 16, _⟩
    congr 1
    · exact Fin.ext (show 256 * c.val + 8 * h.val + l.val / 16 + 16 * i.val = 16 * (16 * c.val + 1 * i.val) + (128 * h.val + 1 * l.val) / 16 by omega)
    · exact Fin.ext (show 768 + 128 * o.val + (16 * g.val + l.val % 16) = 768 + 16 * (8 * o.val + g.val + 1 * a.val) + (128 * h.val + 1 * l.val) % 16 by omega)
  · refine ⟨cPiece (F := Ideal) x0 x1 x2 x3 ⟨q.val / 16, by omega⟩ ⟨g.val / 8, by omega⟩ ⟨e.val / 128, by omega⟩ ⟨g.val % 8, by omega⟩, ?_, ?_⟩
    · simp only [List.mem_flatMap, List.mem_map]
      exact ⟨_, mem2 _, _, mem4 _, _, mem2 _, _, mem8 _, rfl⟩
    rw [LoadRect.mem_set]; intro b
    match b with
    | ⟨0, _⟩ => exact ⟨0, Nat.one_pos, show g.val = 8 * (g.val / 8) + g.val % 8 + 1 * 0 by omega⟩
    | ⟨1, _⟩ => exact ⟨q.val % 16, (show q.val % 16 < 16 by omega), show q.val = 16 * (q.val / 16) + 1 * (q.val % 16) by omega⟩
    | ⟨2, _⟩ => exact ⟨e.val % 128, (show e.val % 128 < 128 by omega), show e.val = 128 * (e.val / 128) + 1 * (e.val % 128) by omega⟩

end

end Cert.Inproj
-- ==== Proof.InReads.lean ====
/- What the arrays of the in-projection's call hold when it begins, from the call's six arguments: the in-projection with each
   head's even columns before its odd ones, the heads' gains the same way, the tables of cosines and sines by position, and the
   table that averages over a head. -/
module

public import proofs.«01_k».proof.Proof.InToken
public import proofs.«01_k».proof.Proof.Gen.Kernel3Ideal.Value
public import Idealize.ShloMosaic.Lib.Pipeline.ValueKit

@[expose] public section

set_option maxRecDepth 16384

noncomputable section

namespace Cert.Inproj

open Cert.Kernel3Ideal Cert.Kernel3Ideal.Gen Idealize.ShloMosaic Idealize.ShloMosaic.TcCoe Idealize.SL.Sem

variable (m : (ℓ : Loc nD τ sig) → Buf (Elt Ideal) ℓ) (c : Dev nD)

set_option maxHeartbeats 2000000 in
theorem read_mod (b : Fin 8) (r : Fin 6) (k : Fin 1024) : V m c main_v71 (ix3 b r k)
    = m ((c : Thread nD τ).loc main_arg1) (ix2 b ⟨r.val * 1024 + k.val, by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

set_option maxHeartbeats 2000000 in
theorem read_n1 (k : Fin 1024) : V m c main_v74 (ix2 0 k) = m ((c : Thread nD τ).loc main_arg2) (ix2 0 k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

set_option maxHeartbeats 2000000 in
theorem read_w (i : Fin 4) (k : Fin 1024) (j : Fin 1280) : V m c main_v6 (ix3 i k j)
    = if h : j.val < 640 then m ((c : Thread nD τ).loc main_arg3) (ix3 i k ⟨j.val / 64 * 64 + j.val % 32 * 2 + j.val / 32 % 2, by omega⟩)
      else m ((c : Thread nD τ).loc main_arg3) (ix3 i k ⟨640 + (j.val - 640), by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise

set_option maxHeartbeats 2000000 in
theorem read_gq (j : Fin 512) : V m c main_v76 (ix2 0 j)
    = m ((c : Thread nD τ).loc main_arg4) (ix2 0 ⟨j.val % 64 % 32 * 2 + j.val % 64 / 32, by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

set_option maxHeartbeats 2000000 in
theorem read_gk (j : Fin 128) : V m c main_v78 (ix2 0 j)
    = m ((c : Thread nD τ).loc main_arg5) (ix2 0 ⟨j.val % 64 % 32 * 2 + j.val % 64 / 32, by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise

set_option maxHeartbeats 2000000 in
theorem read_cos (t : Fin 4096) (l : Fin 128) : V m c main_v55 (ix2 t l) = Ideal.cos (angle t ⟨l.val % 32, by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise
  after_results_simp
  pointwise
  split_ifs with h1 h2 h2
  · rw [angle_row t ⟨l.val % 32, by omega⟩ (l.val % 64) (show l.val % 32 < 16 by omega) (show l.val % 32 = l.val % 64 by omega)]
  · rw [angle_col t ⟨l.val % 32, by omega⟩ (l.val % 64 - 16) (show ¬ l.val % 32 < 16 by omega) (show l.val % 32 - 16 = l.val % 64 - 16 by omega)]
  · rw [angle_row t ⟨l.val % 32, by omega⟩ (l.val % 64 - 32) (show l.val % 32 < 16 by omega) (show l.val % 32 = l.val % 64 - 32 by omega)]
  · rw [angle_col t ⟨l.val % 32, by omega⟩ (l.val % 64 - 32 - 16) (show ¬ l.val % 32 < 16 by omega) (show l.val % 32 - 16 = l.val % 64 - 32 - 16 by omega)]

set_option maxHeartbeats 2000000 in
theorem read_sin (t : Fin 4096) (l : Fin 128) : V m c main_v60 (ix2 t l)
    = if l.val % 64 < 32 then - Ideal.sin (angle t ⟨l.val % 32, by omega⟩) else Ideal.sin (angle t ⟨l.val % 32, by omega⟩) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  after_results_simp
  pointwise
  after_results_simp
  pointwise
  split_ifs with h1 h2 h2
  · exact congrArg (fun a : EReal => - Ideal.sin a) (angle_row t ⟨l.val % 32, by omega⟩ (l.val % 64) (show l.val % 32 < 16 by omega) (show l.val % 32 = l.val % 64 by omega)).symm
  · exact congrArg (fun a : EReal => - Ideal.sin a) (angle_col t ⟨l.val % 32, by omega⟩ (l.val % 64 - 16) (show ¬ l.val % 32 < 16 by omega) (show l.val % 32 - 16 = l.val % 64 - 16 by omega)).symm
  · exact congrArg Ideal.sin (angle_row t ⟨l.val % 32, by omega⟩ (l.val % 64 - 32) (show l.val % 32 < 16 by omega) (show l.val % 32 = l.val % 64 - 32 by omega)).symm
  · exact congrArg Ideal.sin (angle_col t ⟨l.val % 32, by omega⟩ (l.val % 64 - 32 - 16) (show ¬ l.val % 32 < 16 by omega) (show l.val % 32 - 16 = l.val % 64 - 32 - 16 by omega)).symm

/-- A lane's head, as the call's host code computes it: a division rounded down. -/
def headWord (t : Fin 128) : BitVec 32 :=
  Scalar.select
    (IntOp.andi
      (IntOp.cmpi CmpIPredicate.ne (if BitVec.ofNat 32 t.val = 0 then 0 else if (BitVec.ofNat 32 t.val).msb = true then -1 else 1 : BitVec 32)
        (if (64#32 : BitVec 32) = 0 then 0 else if BitVec.msb 64#32 = true then -1 else 1 : BitVec 32))
      (IntOp.cmpi CmpIPredicate.ne (IntOp.remsi ArithUnit.host (BitVec.ofNat 32 t.val) 64#32) 0#32))
    (IntOp.subi (IntOp.divsi ArithUnit.host (BitVec.ofNat 32 t.val) 64#32) 1#32)
    (IntOp.divsi ArithUnit.host (BitVec.ofNat 32 t.val) 64#32)

theorem headWord_eq : ∀ t : Fin 128, headWord t = BitVec.ofNat 32 (t.val / 64) := by decide +kernel

theorem same_head : ∀ a b : Fin 2, IntOp.cmpi CmpIPredicate.eq (BitVec.ofNat 32 a.val) (BitVec.ofNat 32 b.val) = if a = b then 1#1 else 0#1 := by
  decide +kernel

set_option maxHeartbeats 2000000 in
theorem read_seg (t l : Fin 128) : V m c main_v70 (ix2 t l) = segOf t l := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp
  pointwise
  show Scalar.select (IntOp.cmpi CmpIPredicate.eq (headWord t) (headWord l)) (Ideal.ofBits .f32 0x3C800000#32) (0 : EReal) = segOf t l
  rw [headWord_eq, headWord_eq]
  rw [same_head ⟨t.val / 64, by omega⟩ ⟨l.val / 64, by omega⟩]
  unfold segOf
  by_cases h : t.val / 64 = l.val / 64
  · rw [if_pos (Fin.ext h), if_pos h]; rfl
  · rw [if_neg (fun e => h (congrArg Fin.val e)), if_neg h]; rfl

end Cert.Inproj
-- ==== Proof.InRunQ.lean ====
/- What the run leaves in the window of the queries at a grid point is the block of InBlock.lean. -/
module

public import proofs.«01_k».proof.Proof.InBlock

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- The queries that a grid point leaves. -/
theorem outs_q (c : Dev nD) (t : Fin cfg0.N) : (outsAt0 m c t).1 = qBlock (iblk m c 0 t) (iblk m c 1 t) (iblk m c 2 t) (iblk m c 3 t)
    (iblk m c 4 t) (iblk m c 6 t) (iblk m c 7 t) (iblk m c 8 t) := by
  unfold outsAt0
  frame_out
  rfl

end Cert.Inproj
-- ==== Proof.InRunK.lean ====
/- What the run leaves in the window of the keys at a grid point is the block of InBlock.lean. -/
module

public import proofs.«01_k».proof.Proof.InBlock

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- The keys that a grid point leaves. -/
theorem outs_k (c : Dev nD) (t : Fin cfg0.N) : (outsAt0 m c t).2.1 = kBlock (iblk m c 0 t) (iblk m c 1 t) (iblk m c 2 t) (iblk m c 3 t)
    (iblk m c 5 t) (iblk m c 6 t) (iblk m c 7 t) (iblk m c 8 t) := by
  unfold outsAt0
  frame_out
  rfl

end Cert.Inproj
-- ==== Proof.InRunV.lean ====
/- What the run leaves in the window of the values at a grid point is the block of InBlock.lean. -/
module

public import proofs.«01_k».proof.Proof.InBlock

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- The values that a grid point leaves. -/
theorem outs_v (c : Dev nD) (t : Fin cfg0.N) : (outsAt0 m c t).2.2.1 = vBlock (iblk m c 0 t) (iblk m c 1 t) (iblk m c 2 t) (iblk m c 3 t) := by
  unfold outsAt0
  frame_out
  rfl

end Cert.Inproj
-- ==== Proof.InRunU.lean ====
/- What the run leaves in the window of the recurrence's input at a grid point is the block of InBlock.lean. -/
module

public import proofs.«01_k».proof.Proof.InBlock

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- The recurrence's input that a grid point leaves. -/
theorem outs_u (c : Dev nD) (t : Fin cfg0.N) : (outsAt0 m c t).2.2.2.1 = uBlock (iblk m c 0 t) (iblk m c 1 t) (iblk m c 2 t) (iblk m c 3 t) := by
  unfold outsAt0
  frame_out
  rfl

end Cert.Inproj
-- ==== Proof.InRunC.lean ====
/- What the run leaves in the window of the recurrence's input in chunks at a grid point is the block of InBlock.lean. -/
module

public import proofs.«01_k».proof.Proof.InBlock

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxHeartbeats 20000000 in
/-- The recurrence's input in chunks that a grid point leaves. -/
theorem outs_c (c : Dev nD) (t : Fin cfg0.N) : (outsAt0 m c t).2.2.2.2 = cBlock (iblk m c 0 t) (iblk m c 1 t) (iblk m c 2 t) (iblk m c 3 t) := by
  unfold outsAt0
  frame_out
  sl_kernel_rfl

end Cert.Inproj
-- ==== Proof.InArray.lean ====
/- What the five result arrays of the in-projection's call hold after the run, from the call's six arguments. -/
module

public import proofs.«01_k».proof.Proof.InPoint
public import proofs.«01_k».proof.Proof.InReads
public import proofs.«01_k».proof.Proof.InRunQ
public import proofs.«01_k».proof.Proof.InRunK
public import proofs.«01_k».proof.Proof.InRunV
public import proofs.«01_k».proof.Proof.InRunU
public import proofs.«01_k».proof.Proof.InRunC

@[expose] public section

set_option maxRecDepth 16384

noncomputable section

namespace Cert.Inproj

open Cert.Kernel3Ideal Cert.Kernel3Ideal.Gen Idealize.ShloMosaic Idealize.ShloMosaic.TcCoe Idealize.SL.Sem
open Idealize.ShloMosaic.Pipeline (Dat)

/-! ## The whole result arrays -/

section

variable (x : FVec Ideal S8x4096x1024 .f32) (μ : FVec Ideal S8x6144 .f32) (n1 : FVec Ideal S4x1024 .f32) (w : FVec Ideal S4x1024x1280 .f32)
  (gq gk : FVec Ideal S4x64 .f32)

def resultQ : FVec Ideal S8x4096x512 .bf16 := fun i => (argToken x μ n1 w gq gk (i 0) (i 1)).q (i 2)

def resultK : FVec Ideal S8x2x4096x64 .bf16 := fun i => (argToken x μ n1 w gq gk (i 0) (i 2)).k (i 1) (i 3)

def resultV : FVec Ideal S8x2x80x4096 .bf16 := fun i => (argToken x μ n1 w gq gk (i 0) (i 3)).v (i 1) (i 2)

def resultU : FVec Ideal S8x4096x512 .f32 := fun i => (argToken x μ n1 w gq gk (i 0) (i 1)).u (i 2)

/-- Group `g`'s chunk `q` of sixteen tokens. -/
def chunk (g : Fin 32) (q : Fin 2048) (e : Fin 256) : EReal :=
  (argToken x μ n1 w gq gk ⟨q.val / 256, by omega⟩ ⟨q.val % 256 * 16 + e.val / 16, by omega⟩).u ⟨g.val * 16 + e.val % 16, by omega⟩

def resultC : FVec Ideal S32x2048x256 .bf16 := fun i => chunk x μ n1 w gq gk (i 0) (i 1) (i 2)

end

/-! ## Where a grid point's blocks lie -/

theorem idx : ∀ t : Fin cfg0.N, t.val < 64
    ∧ win0_0.index t = ![t.val / 8, t.val % 8, 0]
    ∧ win0_1.index t = ![t.val / 8, 0, 0]
    ∧ win0_2.index t = ![0, 0]
    ∧ win0_3.index t = ![0, 0, 0]
    ∧ win0_4.index t = ![0, 0]
    ∧ win0_5.index t = ![0, 0]
    ∧ win0_6.index t = ![t.val % 8, 0]
    ∧ win0_7.index t = ![t.val % 8, 0]
    ∧ win0_8.index t = ![0, 0]
    ∧ win0_9.index t = ![t.val / 8, t.val % 8, 0]
    ∧ win0_10.index t = ![t.val / 8, 0, t.val % 8, 0]
    ∧ win0_11.index t = ![t.val / 8, 0, 0, t.val % 8]
    ∧ win0_12.index t = ![t.val / 8, t.val % 8, 0]
    ∧ win0_13.index t = ![0, t.val, 0] :=
  (by decide +kernel : ∀ t : Fin grid0.N, _)

/-- The sequence a grid point works on … -/
def seqOf (t : Fin cfg0.N) : Fin 8 := ⟨t.val / 8, by have := (idx t).1; omega⟩

/-- … and where in it the point's token `s` lies. -/
def posOf (t : Fin cfg0.N) (s : Fin 512) : Fin 4096 := ⟨512 * (t.val % 8) + s.val, by omega⟩

theorem emb_0 (t : Fin cfg0.N) (s : Fin 512) (k : Fin 1024) : (win0_0.blk t).view.emb (ix3 0 s k)
    = ix3 (n0 := 8) (n1 := 4096) (n2 := 1024) (seqOf t) (posOf t s) k := by
  blk_ext [idx t, seqOf, posOf]

theorem emb_1 (t : Fin cfg0.N) (r : Fin 6) (k : Fin 1024) : (win0_1.blk t).view.emb (ix3 0 r k)
    = ix3 (n0 := 8) (n1 := 6) (n2 := 1024) (seqOf t) r k := by
  blk_ext [idx t, seqOf, posOf]

theorem emb_2 (t : Fin cfg0.N) (k : Fin 1024) : (win0_2.blk t).view.emb (ix2 0 k) = ix2 (n0 := 1) (n1 := 1024) 0 k := by
  blk_ext [idx t, seqOf, posOf]

theorem emb_3 (t : Fin cfg0.N) (k : Fin 1024) (j : Fin 1280) : (win0_3.blk t).view.emb (ix3 0 k j)
    = ix3 (n0 := 4) (n1 := 1024) (n2 := 1280) 0 k j := by
  blk_ext [idx t, seqOf, posOf]

theorem emb_4 (t : Fin cfg0.N) (f : Fin 512) : (win0_4.blk t).view.emb (ix2 0 f) = ix2 (n0 := 1) (n1 := 512) 0 f := by
  blk_ext [idx t, seqOf, posOf]

theorem emb_5 (t : Fin cfg0.N) (f : Fin 128) : (win0_5.blk t).view.emb (ix2 0 f) = ix2 (n0 := 1) (n1 := 128) 0 f := by
  blk_ext [idx t, seqOf, posOf]

theorem emb_6 (t : Fin cfg0.N) (s : Fin 512) (l : Fin 128) : (win0_6.blk t).view.emb (ix2 s l) = ix2 (n0 := 4096) (n1 := 128) (posOf t s) l := by
  blk_ext [idx t, seqOf, posOf]

theorem emb_7 (t : Fin cfg0.N) (s : Fin 512) (l : Fin 128) : (win0_7.blk t).view.emb (ix2 s l) = ix2 (n0 := 4096) (n1 := 128) (posOf t s) l := by
  blk_ext [idx t, seqOf, posOf]

theorem emb_8 (t : Fin cfg0.N) (a l : Fin 128) : (win0_8.blk t).view.emb (ix2 a l) = ix2 (n0 := 128) (n1 := 128) a l := by
  blk_ext [idx t, seqOf, posOf]

theorem emb_9 (t : Fin cfg0.N) (s f : Fin 512) : (win0_9.blk t).view.emb (ix3 0 s f)
    = ix3 (n0 := 8) (n1 := 4096) (n2 := 512) (seqOf t) (posOf t s) f := by
  blk_ext [idx t, seqOf, posOf]

theorem emb_10 (t : Fin cfg0.N) (g : Fin 2) (s : Fin 512) (e : Fin 64) : (win0_10.blk t).view.emb (ix4 0 g s e)
    = ix4 (n0 := 8) (n1 := 2) (n2 := 4096) (n3 := 64) (seqOf t) g (posOf t s) e := by
  blk_ext [idx t, seqOf, posOf]

theorem emb_11 (t : Fin cfg0.N) (g : Fin 2) (r : Fin 80) (s : Fin 512) : (win0_11.blk t).view.emb (ix4 0 g r s)
    = ix4 (n0 := 8) (n1 := 2) (n2 := 80) (n3 := 4096) (seqOf t) g r (posOf t s) := by
  blk_ext [idx t, seqOf, posOf]

theorem emb_12 (t : Fin cfg0.N) (s f : Fin 512) : (win0_12.blk t).view.emb (ix3 0 s f)
    = ix3 (n0 := 8) (n1 := 4096) (n2 := 512) (seqOf t) (posOf t s) f := by
  blk_ext [idx t, seqOf, posOf]

theorem emb_13 (t : Fin cfg0.N) (g q : Fin 32) (e : Fin 256) : (win0_13.blk t).view.emb (ix3 g q e)
    = ix3 (n0 := 32) (n1 := 2048) (n2 := 256) g ⟨32 * t.val + q.val, by have := (idx t).1; omega⟩ e := by
  blk_ext [idx t, seqOf, posOf]

/-! ## The blocks' entries -/

variable (m : (ℓ : Loc nD τ sig) → Buf (Elt Ideal) ℓ) (c : Dev nD) (t : Fin cfg0.N)

/-- The token a grid point's token `s` is. -/
def ptok (s : Fin 512) : Token :=
  argToken (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (seqOf t) (posOf t s)

set_option maxHeartbeats 1000000 in
theorem read_x (b : Fin 8) (s : Fin 4096) (k : Fin 1024) : V m c main_arg0 (ix3 b s k) = m ((c : Thread nD τ).loc main_arg0) (ix3 b s k) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.ternary, StableHlo.TRef.toBuf, StableHlo.TRef.ofBuf, cast_eq]
  after_results_simp

theorem blk_x (s : Fin 512) (k : Fin 1024) : iblk m c 0 t (ix3 0 s k) = (ptok m c t s).x k := by
  blk_simp [iblk]; rw [emb_0, read_x]; rfl

theorem blk_μ (s : Fin 512) (r : Fin 6) (k : Fin 1024) : iblk m c 1 t (ix3 0 r k) = (ptok m c t s).μ r k := by
  blk_simp [iblk]; rw [emb_1, read_mod]
  exact congrArg (fun i => m ((c : Thread nD τ).loc main_arg1) (ix2 (seqOf t) i)) (Fin.ext (show r.val * 1024 + k.val = 1024 * r.val + k.val by omega))

theorem blk_n1 (s : Fin 512) (k : Fin 1024) : iblk m c 2 t (ix2 0 k) = (ptok m c t s).n1 k := by
  blk_simp [iblk]; rw [emb_2, read_n1]; rfl

/-- The queries' and keys' columns are in their heads' order, even places first. -/
theorem blk_w (s : Fin 512) (k : Fin 1024) (h : Fin 10) (e : Fin 64) : iblk m c 3 t (ix3 0 k ⟨64 * h.val + e.val, by omega⟩)
    = (ptok m c t s).w k ⟨64 * h.val + (place e).val, by omega⟩ := by
  blk_simp [iblk]; rw [emb_3, read_w, dif_pos (show 64 * h.val + e.val < 640 by omega)]
  exact congrArg (fun i => m ((c : Thread nD τ).loc main_arg3) (ix3 0 k i)) (Fin.ext
    (show (64 * h.val + e.val) / 64 * 64 + (64 * h.val + e.val) % 32 * 2 + (64 * h.val + e.val) / 32 % 2 = 64 * h.val + (e.val % 32 * 2 + e.val / 32) by omega))

theorem blk_w' (s : Fin 512) (k : Fin 1024) (j : Fin 1280) (hj : 640 ≤ j.val) : iblk m c 3 t (ix3 0 k j) = (ptok m c t s).w k j := by
  blk_simp [iblk]; rw [emb_3, read_w, dif_neg (by omega)]
  exact congrArg (fun i => m ((c : Thread nD τ).loc main_arg3) (ix3 0 k i)) (Fin.ext (show 640 + (j.val - 640) = j.val by omega))

theorem blk_gq (s : Fin 512) (f : Fin 512) : iblk m c 4 t (ix2 0 f) = (ptok m c t s).gq (place ⟨f.val % 64, by omega⟩) := by
  blk_simp [iblk]; rw [emb_4, read_gq]; rfl

theorem blk_gk (s : Fin 512) (f : Fin 128) : iblk m c 5 t (ix2 0 f) = (ptok m c t s).gk (place ⟨f.val % 64, by omega⟩) := by
  blk_simp [iblk]; rw [emb_5, read_gk]; rfl

theorem blk_cs (s : Fin 512) (l : Fin 128) : iblk m c 6 t (ix2 s l) = (ptok m c t s).cs ⟨l.val % 32, by omega⟩ := by
  blk_simp [iblk]; rw [emb_6, read_cos]; rfl

theorem blk_sn (s : Fin 512) (l : Fin 128) : iblk m c 7 t (ix2 s l)
    = if l.val % 64 < 32 then - (ptok m c t s).sn ⟨l.val % 32, by omega⟩ else (ptok m c t s).sn ⟨l.val % 32, by omega⟩ := by
  blk_simp [iblk]; rw [emb_7, read_sin]; rfl

theorem blk_seg : (fun a b : Fin 128 => iblk m c 8 t (ix2 a b)) = segOf := by
  funext a b
  blk_simp [iblk]; rw [emb_8, read_seg]

/-! ## The blocks' results -/

theorem zOf_eq (s : Fin 512) (j : Fin 1280) : zOf (iblk m c 0 t) (iblk m c 1 t) (iblk m c 2 t) (iblk m c 3 t) s j
    = ∑ k, hiddenOf (ptok m c t s).x (ptok m c t s).μ (ptok m c t s).n1 k * iblk m c 3 t (ix3 0 k j) := by
  unfold zOf
  rw [show (fun k => iblk m c 0 t (ix3 0 s k)) = (ptok m c t s).x from funext (blk_x m c t s),
    show (fun r k => iblk m c 1 t (ix3 0 r k)) = (ptok m c t s).μ from funext fun r => funext (blk_μ m c t s r),
    show (fun k => iblk m c 2 t (ix2 0 k)) = (ptok m c t s).n1 from funext (blk_n1 m c t s)]

theorem zOf_head (s : Fin 512) (h : Fin 10) (e : Fin 64) :
    zOf (iblk m c 0 t) (iblk m c 1 t) (iblk m c 2 t) (iblk m c 3 t) s ⟨64 * h.val + e.val, by omega⟩
      = (ptok m c t s).z ⟨64 * h.val + (place e).val, by omega⟩ := by
  rw [zOf_eq]
  exact Finset.sum_congr rfl fun k _ => congrArg (_ * ·) (blk_w m c t s k h e)

theorem zOf_rest (s : Fin 512) (j : Fin 1280) (hj : 640 ≤ j.val) :
    zOf (iblk m c 0 t) (iblk m c 1 t) (iblk m c 2 t) (iblk m c 3 t) s j = (ptok m c t s).z j := by
  rw [zOf_eq]
  exact Finset.sum_congr rfl fun k _ => congrArg (_ * ·) (blk_w' m c t s k j hj)

/-- The turn of heads `2 o` and `2 o + 1`, as the blocks have it. -/
theorem turn_eq (s : Fin 512) (o : Fin 5) (g : Fin 128 → EReal) (γ : Fin 64 → EReal)
    (hg : ∀ l : Fin 128, g l = γ (place ⟨l.val % 64, by omega⟩)) (h : Fin 2) (e : Fin 64) :
    lanesTurn (fun l => zOf (iblk m c 0 t) (iblk m c 1 t) (iblk m c 2 t) (iblk m c 3 t) s ⟨128 * o.val + l.val, by omega⟩) g
        (fun l => iblk m c 6 t (ix2 s l)) (fun l => iblk m c 7 t (ix2 s l)) (fun a b => iblk m c 8 t (ix2 a b)) ⟨64 * h.val + e.val, by omega⟩
      = turnOf (ptok m c t s).cs (ptok m c t s).sn
          (normOf (fun d => (ptok m c t s).z ⟨64 * (2 * o.val + h.val) + d.val, by omega⟩) γ) e := by
  rw [blk_seg]
  refine lanesTurn_eq _ _ _ _ (fun h d => (ptok m c t s).z ⟨64 * (2 * o.val + h.val) + d.val, by omega⟩) γ
    (ptok m c t s).cs (ptok m c t s).sn ?_ ?_ ?_ ?_ h e
  · intro h e
    rw [← zOf_head m c t s ⟨2 * o.val + h.val, by omega⟩ e]
    exact congrArg _ (Fin.ext (show 128 * o.val + (64 * h.val + e.val) = 64 * (2 * o.val + h.val) + e.val by omega))
  · intro h e
    rw [hg]
    exact congrArg (fun i => γ (place i)) (Fin.ext (show (64 * h.val + e.val) % 64 = e.val by omega))
  · intro h e
    exact (blk_cs m c t s _).trans (congrArg (ptok m c t s).cs (Fin.ext (show (64 * h.val + e.val) % 32 = e.val % 32 by omega)))
  · intro h e
    refine (blk_sn m c t s _).trans ?_
    rw [show (⟨(⟨64 * h.val + e.val, by omega⟩ : Fin 128).val % 32, by omega⟩ : Fin 32) = half e from
      Fin.ext (show (64 * h.val + e.val) % 32 = e.val % 32 by omega)]
    exact if_congr (show (64 * h.val + e.val) % 64 < 32 ↔ e.val < 32 by omega) rfl rfl

theorem qOf_eq (s f : Fin 512) : qOf (iblk m c 0 t) (iblk m c 1 t) (iblk m c 2 t) (iblk m c 3 t) (iblk m c 4 t) (iblk m c 6 t) (iblk m c 7 t) (iblk m c 8 t) s f
    = (ptok m c t s).q f := by
  have e := turn_eq m c t s ⟨f.val / 128, by omega⟩ (fun l => iblk m c 4 t (ix2 0 ⟨128 * (f.val / 128) + l.val, by omega⟩)) (ptok m c t s).gq
    (fun l => (blk_gq m c t s _).trans (congrArg (fun i => (ptok m c t s).gq (place i)) (Fin.ext (show (128 * (f.val / 128) + l.val) % 64 = l.val % 64 by omega))))
    ⟨f.val % 128 / 64, by omega⟩ ⟨f.val % 64, by omega⟩
  have i : (⟨64 * (f.val % 128 / 64) + f.val % 64, by omega⟩ : Fin 128) = ⟨f.val % 128, by omega⟩ :=
    Fin.ext (show 64 * (f.val % 128 / 64) + f.val % 64 = f.val % 128 by omega)
  refine (congrArg _ i.symm).trans (e.trans ?_)
  unfold Token.q
  simp only [show 2 * (f.val / 128) + f.val % 128 / 64 = f.val / 64 by omega]

theorem kOf_eq (g : Fin 2) (s : Fin 512) (e : Fin 64) :
    kOf (iblk m c 0 t) (iblk m c 1 t) (iblk m c 2 t) (iblk m c 3 t) (iblk m c 5 t) (iblk m c 6 t) (iblk m c 7 t) (iblk m c 8 t) g s e
      = (ptok m c t s).k g e := by
  refine (turn_eq m c t s 4 (fun l => iblk m c 5 t (ix2 0 l)) (ptok m c t s).gk (blk_gk m c t s) g e).trans ?_
  unfold Token.k
  simp only [show ((4 : Fin 5).val) = 4 from rfl, show 64 * (2 * 4 + g.val) = 512 + 64 * g.val by omega]

theorem one_bits : Ideal.ofBits .bf16 0x3F80#16 = 1 := by
  simp [Ideal.ofBits, Ideal.ieee]
  norm_cast
  norm_num

theorem vOf_eq (g : Fin 2) (r : Fin 80) (s : Fin 512) :
    vOf (iblk m c 0 t) (iblk m c 1 t) (iblk m c 2 t) (iblk m c 3 t) g r s = (ptok m c t s).v g r := by
  unfold vOf Token.v
  split
  · exact zOf_rest m c t s _ (show 640 ≤ 640 + 64 * g.val + r.val by omega)
  · exact one_bits

theorem uOf_eq (s f : Fin 512) : uOf (iblk m c 0 t) (iblk m c 1 t) (iblk m c 2 t) (iblk m c 3 t) s f = (ptok m c t s).u f :=
  zOf_rest m c t s _ (show 640 ≤ 768 + f.val by omega)

theorem cOf_eq (g q : Fin 32) (e : Fin 256) : cOf (iblk m c 0 t) (iblk m c 1 t) (iblk m c 2 t) (iblk m c 3 t) g q e
    = (ptok m c t ⟨16 * q.val + e.val / 16, by omega⟩).u ⟨g.val * 16 + e.val % 16, by omega⟩ := by
  unfold cOf
  rw [zOf_rest m c t _ _ (show 640 ≤ 768 + 16 * g.val + e.val % 16 by omega)]
  exact congrArg _ (Fin.ext (show 768 + 16 * g.val + e.val % 16 = 768 + (g.val * 16 + e.val % 16) by omega))

/-! ## The arrays -/

theorem final_q : (dats m 0 c).arrAt 9 (cfgs 0).N
    = resultQ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9, outs_q]
  obtain ⟨s, f, rfl⟩ : ∃ (s f : Fin 512), y = ix3 0 s f := ⟨y 1, y 2, by
    have h0 : y 0 = (0 : Fin 1) := Subsingleton.elim (α := Fin 1) _ _
    rw [← h0]; exact eq_ix3 y⟩
  rw [qBlock_apply, qOf_eq, emb_9]
  rfl

theorem final_k : (dats m 0 c).arrAt 10 (cfgs 0).N
    = resultK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10, outs_k]
  obtain ⟨g, s, e, rfl⟩ : ∃ (g : Fin 2) (s : Fin 512) (e : Fin 64), y = ix4 0 g s e := ⟨y 1, y 2, y 3, by
    have h0 : y 0 = (0 : Fin 1) := Subsingleton.elim (α := Fin 1) _ _
    rw [← h0]; exact eq_ix4 y⟩
  rw [kBlock_apply, kOf_eq, emb_10]
  rfl

theorem final_v : (dats m 0 c).arrAt 11 (cfgs 0).N
    = resultV (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11, outs_v]
  obtain ⟨g, r, s, rfl⟩ : ∃ (g : Fin 2) (r : Fin 80) (s : Fin 512), y = ix4 0 g r s := ⟨y 1, y 2, y 3, by
    have h0 : y 0 = (0 : Fin 1) := Subsingleton.elim (α := Fin 1) _ _
    rw [← h0]; exact eq_ix4 y⟩
  rw [vBlock_apply, vOf_eq, emb_11]
  rfl

theorem final_u : (dats m 0 c).arrAt 12 (cfgs 0).N
    = resultU (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12, outs_u]
  obtain ⟨s, f, rfl⟩ : ∃ (s f : Fin 512), y = ix3 0 s f := ⟨y 1, y 2, by
    have h0 : y 0 = (0 : Fin 1) := Subsingleton.elim (α := Fin 1) _ _
    rw [← h0]; exact eq_ix3 y⟩
  rw [uBlock_apply, uOf_eq, emb_12]
  rfl

theorem final_c : (dats m 0 c).arrAt 13 (cfgs 0).N
    = resultC (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 13 _ (by decide +kernel) fun t _ y => ?_
  blk_simp
  rw [after0_13, outs_c]
  obtain ⟨g, q, e, rfl⟩ : ∃ (g q : Fin 32) (e : Fin 256), y = ix3 g q e := ⟨y 0, y 1, y 2, eq_ix3 y⟩
  rw [cBlock_apply, cOf_eq, emb_13]
  have ht := (idx t).1
  unfold ptok
  rw [show seqOf t = ⟨(32 * t.val + q.val) / 256, by omega⟩ from Fin.ext (show t.val / 8 = (32 * t.val + q.val) / 256 by omega),
    show posOf t ⟨16 * q.val + e.val / 16, by omega⟩ = ⟨(32 * t.val + q.val) % 256 * 16 + e.val / 16, by omega⟩ from
      Fin.ext (show 512 * (t.val % 8) + (16 * q.val + e.val / 16) = (32 * t.val + q.val) % 256 * 16 + e.val / 16 by omega)]
  rfl

end Cert.Inproj
-- ==== Proof.InReference.lean ====
/- What the in-projection's reference returns at an index: the token's queries, keys, values and recurrence input. -/
module

public import proofs.«01_k».proof.Proof.Gen.Reference3Ideal.Run
public import proofs.«01_k».proof.Proof.InArray

@[expose] public section

set_option maxRecDepth 16384

noncomputable section

namespace Cert.Inproj

open Cert.Reference3Ideal Cert.Reference3Ideal.Gen Idealize.ShloMosaic
open Cert.Mix (invRms)

/-! ## The reference's lines -/

/-- The rotary angles. -/
def anglesR : FVec Ideal S4096x32 .f32 :=
  let freq : FVec Ideal S16 .f32 := Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
        (mulf (broadcastInDim S16 ![] bcast_S_S16 (constant S_ .f32 0x40000000#32)) (sitofp .f32 (iotaInDim S16 32 0))))
        (broadcastInDim S16 ![] bcast_S_S16 (constant S_ .f32 0x42000000#32))))
  let wide : FVec Ideal S4096x16 .f32 := broadcastInDim S4096x16 ![0, 1] bcast_S1x16_S4096x16_0_1 (broadcastInDim S1x16 ![1] bcast_S16_S1x16_1 freq)
  let rows : FVec Ideal S4096 .f32 := shapeCast _ (broadcastInDim S64x64 ![0] bcast_S64_S64x64_0 (sitofp (F := Ideal) .f32 (iotaInDim S64 32 0)) : FVec Ideal S64x64 .f32) shapeCasts_S64x64_S4096
  let cols : FVec Ideal S4096 .f32 := shapeCast _ (broadcastInDim S64x64 ![0, 1] bcast_S1x64_S64x64_0_1
    (shapeCast _ (sitofp (F := Ideal) .f32 (iotaInDim S64 32 0) : FVec Ideal S64 .f32) shapeCasts_S64_S1x64 : FVec Ideal S1x64 .f32) : FVec Ideal S64x64 .f32) shapeCasts_S64x64_S4096
  concatenate S4096x32 1
    [⟨S4096x16, mulf (broadcastInDim S4096x16 ![0, 1] bcast_S4096x1_S4096x16_0_1 (broadcastInDim S4096x1 ![0] bcast_S4096_S4096x1_0 rows)) wide⟩,
     ⟨S4096x16, mulf (broadcastInDim S4096x16 ![0, 1] bcast_S4096x1_S4096x16_0_1 (broadcastInDim S4096x1 ![0] bcast_S4096_S4096x1_0 cols)) wide⟩]
    concatenates_S4096x16_S4096x16_S4096x32_d1

/-- The modulation with an axis for the tokens. -/
def modR (μ : FVec Ideal S8x6144 .f32) : FVec Ideal S8x1x6144 .f32 := broadcastInDim S8x1x6144 ![0, 2] bcast_S8x6144_S8x1x6144_0_2 μ

/-- The stream divided by its root mean square. -/
def scaleR (x : FVec Ideal S8x4096x1024 .f32) : FVec Ideal S8x4096x1024 .f32 :=
  mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))))

/-- The stream normed and modulated. -/
def hiddenR (x : FVec Ideal S8x4096x1024 .f32) (n : FVec Ideal S4x1024 .f32) (μ : FVec Ideal S8x6144 .f32) : FVec Ideal S8x4096x1024 .f32 :=
  addf (mulf (mulf (scaleR x) (broadcastInDim S8x4096x1024 ![0, 1, 2] bcast_S1x1x1024_S8x4096x1024_0_1_2
      (broadcastInDim S1x1x1024 ![2] bcast_S1024_S1x1x1024_2
        (shapeCast _ (extractStridedSlice S1x1024 ![0, 0] n slices_S4x1024_S1x1024_0_0) shapeCasts_S1x1024_S1024))))
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 1024] (modR μ) slices_S8x1x6144_S8x1x1024_0_0_1024))))
    (broadcastInDim S8x4096x1024 ![0, 1, 2] bcast_S8x1x1024_S8x4096x1024_0_1_2
      (extractStridedSlice S8x1x1024 ![0, 0, 0] (modR μ) slices_S8x1x6144_S8x1x1024_0_0_0))

/-- The projection. -/
def projR (h : FVec Ideal S8x4096x1024 .f32) (w : FVec Ideal S4x1024x1280 .f32) : FVec Ideal S8x4096x1280 .f32 :=
  Host.dotGeneral dot_S8x4096x1024_S1024x1280_S8x4096x1280_2_0_01_1_n_n none h
    (shapeCast _ (extractStridedSlice S1x1024x1280 ![0, 0, 0] w slices_S4x1024x1280_S1x1024x1280_0_0_0) shapeCasts_S1x1024x1280_S1024x1280)

/-- The queries' heads. -/
def headsQ (z : FVec Ideal S8x4096x1280 .f32) : FVec Ideal S8x4096x8x64 .f32 :=
  shapeCast _ (extractStridedSlice S8x4096x512 ![0, 0, 0] z slices_S8x4096x1280_S8x4096x512_0_0_0) shapeCasts_S8x4096x512_S8x4096x8x64

/-- The keys' heads. -/
def headsK (z : FVec Ideal S8x4096x1280 .f32) : FVec Ideal S8x4096x2x64 .f32 :=
  shapeCast _ (extractStridedSlice S8x4096x128 ![0, 0, 512] z slices_S8x4096x1280_S8x4096x128_0_0_512) shapeCasts_S8x4096x128_S8x4096x2x64

/-- A head norm's gain. -/
def gainR (g : FVec Ideal S4x64 .f32) : FVec Ideal S1x1x1x64 .f32 := broadcastInDim S1x1x1x64 ![3] bcast_S64_S1x1x1x64_3
  (shapeCast _ (extractStridedSlice S1x64 ![0, 0] g slices_S4x64_S1x64_0_0) shapeCasts_S1x64_S64)

/-- The queries' norm. -/
def normQ (v : FVec Ideal S8x4096x8x64 .f32) (g : FVec Ideal S4x64 .f32) : FVec Ideal S8x4096x8x64 .f32 :=
  mulf (mulf v (broadcastInDim S8x4096x8x64 ![0, 1, 2, 3] bcast_S8x4096x8x1_S8x4096x8x64_0_1_2_3 (Host.rsqrt (addf (Host.divf
      (broadcastInDim S8x4096x8x1 ![0, 1, 2] bcast_S8x4096x8_S8x4096x8x1_0_1_2
        (Host.reduceAdd (mulf v v) (constant S_ .f32 0x00000000#32) reducesTo_S8x4096x8x64_S8x4096x8_d3 h_S_))
      (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x1x64_S8x4096x8x64_0_1_2_3 (gainR g))

/-- The keys' norm. -/
def normK (v : FVec Ideal S8x4096x2x64 .f32) (g : FVec Ideal S4x64 .f32) : FVec Ideal S8x4096x2x64 .f32 :=
  mulf (mulf v (broadcastInDim S8x4096x2x64 ![0, 1, 2, 3] bcast_S8x4096x2x1_S8x4096x2x64_0_1_2_3 (Host.rsqrt (addf (Host.divf
      (broadcastInDim S8x4096x2x1 ![0, 1, 2] bcast_S8x4096x2_S8x4096x2x1_0_1_2
        (Host.reduceAdd (mulf v v) (constant S_ .f32 0x00000000#32) reducesTo_S8x4096x2x64_S8x4096x2_d3 h_S_))
      (broadcastInDim S8x4096x2x1 ![] bcast_S_S8x4096x2x1 (constant S_ .f32 0x42800000#32)))
      (broadcastInDim S8x4096x2x1 ![] bcast_S_S8x4096x2x1 (constant S_ .f32 0x358637BD#32))))))
    (broadcastInDim S8x4096x2x64 ![0, 1, 2, 3] bcast_S1x1x1x64_S8x4096x2x64_0_1_2_3 (gainR g))

/-- A table of the angles with axes for the sequences and heads. -/
def tableR (a : FVec Ideal S4096x32 .f32) : FVec Ideal S1x4096x1x32 .f32 := broadcastInDim S1x4096x1x32 ![1, 3] bcast_S4096x32_S1x4096x1x32_1_3 a

/-- The first and the second parts of the queries' pairs. -/
def partQ0 (v : FVec Ideal S8x4096x8x64 .f32) : FVec Ideal S8x4096x8x32 .f32 :=
  shapeCast _ (extractStridedSlice S8x4096x8x32x1 ![0, 0, 0, 0, 0] (shapeCast _ v shapeCasts_S8x4096x8x64_S8x4096x8x32x2 : FVec Ideal S8x4096x8x32x2 .f32)
    slices_S8x4096x8x32x2_S8x4096x8x32x1_0_0_0_0_0) shapeCasts_S8x4096x8x32x1_S8x4096x8x32
def partQ1 (v : FVec Ideal S8x4096x8x64 .f32) : FVec Ideal S8x4096x8x32 .f32 :=
  shapeCast _ (extractStridedSlice S8x4096x8x32x1 ![0, 0, 0, 0, 1] (shapeCast _ v shapeCasts_S8x4096x8x64_S8x4096x8x32x2 : FVec Ideal S8x4096x8x32x2 .f32)
    slices_S8x4096x8x32x2_S8x4096x8x32x1_0_0_0_0_1) shapeCasts_S8x4096x8x32x1_S8x4096x8x32

/-- The first and the second parts of the keys' pairs. -/
def partK0 (v : FVec Ideal S8x4096x2x64 .f32) : FVec Ideal S8x4096x2x32 .f32 :=
  shapeCast _ (extractStridedSlice S8x4096x2x32x1 ![0, 0, 0, 0, 0] (shapeCast _ v shapeCasts_S8x4096x2x64_S8x4096x2x32x2 : FVec Ideal S8x4096x2x32x2 .f32)
    slices_S8x4096x2x32x2_S8x4096x2x32x1_0_0_0_0_0) shapeCasts_S8x4096x2x32x1_S8x4096x2x32
def partK1 (v : FVec Ideal S8x4096x2x64 .f32) : FVec Ideal S8x4096x2x32 .f32 :=
  shapeCast _ (extractStridedSlice S8x4096x2x32x1 ![0, 0, 0, 0, 1] (shapeCast _ v shapeCasts_S8x4096x2x64_S8x4096x2x32x2 : FVec Ideal S8x4096x2x32x2 .f32)
    slices_S8x4096x2x32x2_S8x4096x2x32x1_0_0_0_0_1) shapeCasts_S8x4096x2x32x1_S8x4096x2x32

/-- The queries' pairs `v`, `w` turned by the angles with cosines `c` and sines `s`. -/
def turnQ0 (v w : FVec Ideal S8x4096x8x32 .f32) (c s : FVec Ideal S4096x32 .f32) : FVec Ideal S8x4096x8x32 .f32 :=
  subf (mulf v (broadcastInDim S8x4096x8x32 ![0, 1, 2, 3] bcast_S1x4096x1x32_S8x4096x8x32_0_1_2_3 (tableR c)))
    (mulf w (broadcastInDim S8x4096x8x32 ![0, 1, 2, 3] bcast_S1x4096x1x32_S8x4096x8x32_0_1_2_3 (tableR s)))
def turnQ1 (v w : FVec Ideal S8x4096x8x32 .f32) (c s : FVec Ideal S4096x32 .f32) : FVec Ideal S8x4096x8x32 .f32 :=
  addf (mulf v (broadcastInDim S8x4096x8x32 ![0, 1, 2, 3] bcast_S1x4096x1x32_S8x4096x8x32_0_1_2_3 (tableR s)))
    (mulf w (broadcastInDim S8x4096x8x32 ![0, 1, 2, 3] bcast_S1x4096x1x32_S8x4096x8x32_0_1_2_3 (tableR c)))

/-- The keys' pairs turned. -/
def turnK0 (v w : FVec Ideal S8x4096x2x32 .f32) (c s : FVec Ideal S4096x32 .f32) : FVec Ideal S8x4096x2x32 .f32 :=
  subf (mulf v (broadcastInDim S8x4096x2x32 ![0, 1, 2, 3] bcast_S1x4096x1x32_S8x4096x2x32_0_1_2_3 (tableR c)))
    (mulf w (broadcastInDim S8x4096x2x32 ![0, 1, 2, 3] bcast_S1x4096x1x32_S8x4096x2x32_0_1_2_3 (tableR s)))
def turnK1 (v w : FVec Ideal S8x4096x2x32 .f32) (c s : FVec Ideal S4096x32 .f32) : FVec Ideal S8x4096x2x32 .f32 :=
  addf (mulf v (broadcastInDim S8x4096x2x32 ![0, 1, 2, 3] bcast_S1x4096x1x32_S8x4096x2x32_0_1_2_3 (tableR s)))
    (mulf w (broadcastInDim S8x4096x2x32 ![0, 1, 2, 3] bcast_S1x4096x1x32_S8x4096x2x32_0_1_2_3 (tableR c)))

/-- The queries' pairs as a head again. -/
def pairsQ (v w : FVec Ideal S8x4096x8x32 .f32) : FVec Ideal S8x4096x8x64 .f32 :=
  shapeCast _ (concatenate S8x4096x8x32x2 4
    [⟨S8x4096x8x32x1, broadcastInDim S8x4096x8x32x1 ![0, 1, 2, 3] bcast_S8x4096x8x32_S8x4096x8x32x1_0_1_2_3 v⟩,
     ⟨S8x4096x8x32x1, broadcastInDim S8x4096x8x32x1 ![0, 1, 2, 3] bcast_S8x4096x8x32_S8x4096x8x32x1_0_1_2_3 w⟩]
    concatenates_S8x4096x8x32x1_S8x4096x8x32x1_S8x4096x8x32x2_d4 : FVec Ideal S8x4096x8x32x2 .f32) shapeCasts_S8x4096x8x32x2_S8x4096x8x64

/-- The keys' pairs as a head again. -/
def pairsK (v w : FVec Ideal S8x4096x2x32 .f32) : FVec Ideal S8x4096x2x64 .f32 :=
  shapeCast _ (concatenate S8x4096x2x32x2 4
    [⟨S8x4096x2x32x1, broadcastInDim S8x4096x2x32x1 ![0, 1, 2, 3] bcast_S8x4096x2x32_S8x4096x2x32x1_0_1_2_3 v⟩,
     ⟨S8x4096x2x32x1, broadcastInDim S8x4096x2x32x1 ![0, 1, 2, 3] bcast_S8x4096x2x32_S8x4096x2x32x1_0_1_2_3 w⟩]
    concatenates_S8x4096x2x32x1_S8x4096x2x32x1_S8x4096x2x32x2_d4 : FVec Ideal S8x4096x2x32x2 .f32) shapeCasts_S8x4096x2x32x2_S8x4096x2x64

/-- The queries as the attention takes them: even places first, head after head. -/
def laidQ (v : FVec Ideal S8x4096x8x64 .f32) : FVec Ideal S8x4096x512 .bf16 :=
  truncf .bf16 (shapeCast _ (shapeCast _ (transpose S8x4096x8x2x32 [0, 1, 2, 4, 3]
    (shapeCast _ v shapeCasts_S8x4096x8x64_S8x4096x8x32x2 : FVec Ideal S8x4096x8x32x2 .f32) transposes_S8x4096x8x32x2_S8x4096x8x2x32_0_1_2_4_3)
    shapeCasts_S8x4096x8x2x32_S8x4096x8x64 : FVec Ideal S8x4096x8x64 .f32) shapeCasts_S8x4096x8x64_S8x4096x512) bitsLt_bf16_f32

/-- The keys as the attention takes them. -/
def laidK (v : FVec Ideal S8x4096x2x64 .f32) : FVec Ideal S8x2x4096x64 .bf16 :=
  truncf .bf16 (transpose S8x2x4096x64 [0, 2, 1, 3] (shapeCast _ (transpose S8x4096x2x2x32 [0, 1, 2, 4, 3]
    (shapeCast _ v shapeCasts_S8x4096x2x64_S8x4096x2x32x2 : FVec Ideal S8x4096x2x32x2 .f32) transposes_S8x4096x2x32x2_S8x4096x2x2x32_0_1_2_4_3)
    shapeCasts_S8x4096x2x2x32_S8x4096x2x64 : FVec Ideal S8x4096x2x64 .f32) transposes_S8x4096x2x64_S8x2x4096x64_0_2_1_3) bitsLt_bf16_f32

/-- The values as the attention takes them: a column per token, ones below. -/
def laidV (z : FVec Ideal S8x4096x1280 .f32) : FVec Ideal S8x2x80x4096 .bf16 :=
  truncf .bf16 (concatenate S8x2x80x4096 2
    [⟨S8x2x64x4096, transpose S8x2x64x4096 [0, 2, 3, 1]
      (shapeCast _ (extractStridedSlice S8x4096x128 ![0, 0, 640] z slices_S8x4096x1280_S8x4096x128_0_0_640) shapeCasts_S8x4096x128_S8x4096x2x64 : FVec Ideal S8x4096x2x64 .f32)
      transposes_S8x4096x2x64_S8x2x64x4096_0_2_3_1⟩,
     ⟨S8x2x16x4096, broadcastInDim S8x2x16x4096 ![] bcast_S_S8x2x16x4096 (constant S_ .f32 0x3F800000#32)⟩]
    concatenates_S8x2x64x4096_S8x2x16x4096_S8x2x80x4096_d2) bitsLt_bf16_f32

/-- The recurrence's input. -/
def inputR (z : FVec Ideal S8x4096x1280 .f32) : FVec Ideal S8x4096x512 .f32 :=
  extractStridedSlice S8x4096x512 ![0, 0, 768] z slices_S8x4096x1280_S8x4096x512_0_0_768

/-- The recurrence's input in chunks of sixteen tokens, by groups of sixteen features. -/
def laidC (u : FVec Ideal S8x4096x512 .f32) : FVec Ideal S32x2048x256 .bf16 :=
  truncf .bf16 (shapeCast _ (transpose S32x2048x16x16 [2, 0, 1, 3]
    (shapeCast _ u shapeCasts_S8x4096x512_S2048x16x32x16 : FVec Ideal S2048x16x32x16 .f32) transposes_S2048x16x32x16_S32x2048x16x16_2_0_1_3)
    shapeCasts_S32x2048x16x16_S32x2048x256) bitsLt_bf16_f32

/-! ## The lines at an index -/

theorem anglesR_apply (t : Fin 4096) (p : Fin 32) : anglesR (ix2 t p) = angle t p := by
  pointwise [anglesR]
  split_ifs with h
  · rw [angle_row t p p.val h rfl]
  · rw [angle_col t p (p.val - 16) h rfl]

theorem scaleR_apply (x : FVec Ideal S8x4096x1024 .f32) (b : Fin 8) (t : Fin 4096) (k : Fin 1024) :
    scaleR x (ix3 b t k) = x (ix3 b t k) * invRms 0x44800000#32 (fun k : Fin 1024 => x (ix3 b t k)) := by
  pointwise [scaleR, invRms]

theorem hiddenR_apply (x : FVec Ideal S8x4096x1024 .f32) (n : FVec Ideal S4x1024 .f32) (μ : FVec Ideal S8x6144 .f32) (b : Fin 8) (t : Fin 4096)
    (k : Fin 1024) : hiddenR x n μ (ix3 b t k)
      = x (ix3 b t k) * invRms 0x44800000#32 (fun k : Fin 1024 => x (ix3 b t k)) * n (ix2 0 k)
        * (Ideal.ofBits .f32 0x3F800000#32 + μ (ix2 b ⟨1024 + k.val, by omega⟩)) + μ (ix2 b ⟨k.val, by omega⟩) := by
  rw [← scaleR_apply]
  unfold hiddenR
  generalize scaleR x = X
  pointwise [modR]

theorem projR_apply (h : FVec Ideal S8x4096x1024 .f32) (w : FVec Ideal S4x1024x1280 .f32) (b : Fin 8) (t : Fin 4096) (j : Fin 1280) :
    projR h w (ix3 b t j) = ∑ k : Fin 1024, h (ix3 b t k) * w (ix3 0 k j) := by
  pointwise [projR]

theorem headsQ_apply (z : FVec Ideal S8x4096x1280 .f32) (b : Fin 8) (t : Fin 4096) (h : Fin 8) (d : Fin 64) :
    headsQ z (ix4 b t h d) = z (ix3 b t ⟨h.val * 64 + d.val, by omega⟩) := by
  pointwise [headsQ]

theorem headsK_apply (z : FVec Ideal S8x4096x1280 .f32) (b : Fin 8) (t : Fin 4096) (h : Fin 2) (d : Fin 64) :
    headsK z (ix4 b t h d) = z (ix3 b t ⟨512 + (h.val * 64 + d.val), by omega⟩) := by
  pointwise [headsK]

theorem normQ_apply (v : FVec Ideal S8x4096x8x64 .f32) (g : FVec Ideal S4x64 .f32) (b : Fin 8) (t : Fin 4096) (h : Fin 8) (d : Fin 64) :
    normQ v g (ix4 b t h d) = normOf (fun d => v (ix4 b t h d)) (fun d => g (ix2 0 d)) d := by
  pointwise [normQ, gainR, normOf, invRms]

theorem normK_apply (v : FVec Ideal S8x4096x2x64 .f32) (g : FVec Ideal S4x64 .f32) (b : Fin 8) (t : Fin 4096) (h : Fin 2) (d : Fin 64) :
    normK v g (ix4 b t h d) = normOf (fun d => v (ix4 b t h d)) (fun d => g (ix2 0 d)) d := by
  pointwise [normK, gainR, normOf, invRms]

theorem partQ0_apply (v : FVec Ideal S8x4096x8x64 .f32) (b : Fin 8) (t : Fin 4096) (h : Fin 8) (p : Fin 32) :
    partQ0 v (ix4 b t h p) = v (ix4 b t h ⟨p.val * 2, by omega⟩) := by
  pointwise [partQ0]

theorem partQ1_apply (v : FVec Ideal S8x4096x8x64 .f32) (b : Fin 8) (t : Fin 4096) (h : Fin 8) (p : Fin 32) :
    partQ1 v (ix4 b t h p) = v (ix4 b t h ⟨p.val * 2 + 1, by omega⟩) := by
  pointwise [partQ1]

theorem partK0_apply (v : FVec Ideal S8x4096x2x64 .f32) (b : Fin 8) (t : Fin 4096) (h : Fin 2) (p : Fin 32) :
    partK0 v (ix4 b t h p) = v (ix4 b t h ⟨p.val * 2, by omega⟩) := by
  pointwise [partK0]

theorem partK1_apply (v : FVec Ideal S8x4096x2x64 .f32) (b : Fin 8) (t : Fin 4096) (h : Fin 2) (p : Fin 32) :
    partK1 v (ix4 b t h p) = v (ix4 b t h ⟨p.val * 2 + 1, by omega⟩) := by
  pointwise [partK1]

theorem turnQ0_apply (v w : FVec Ideal S8x4096x8x32 .f32) (c s : FVec Ideal S4096x32 .f32) (b : Fin 8) (t : Fin 4096) (h : Fin 8) (p : Fin 32) :
    turnQ0 v w c s (ix4 b t h p) = v (ix4 b t h p) * c (ix2 t p) - w (ix4 b t h p) * s (ix2 t p) := by
  pointwise [turnQ0, tableR]

theorem turnQ1_apply (v w : FVec Ideal S8x4096x8x32 .f32) (c s : FVec Ideal S4096x32 .f32) (b : Fin 8) (t : Fin 4096) (h : Fin 8) (p : Fin 32) :
    turnQ1 v w c s (ix4 b t h p) = v (ix4 b t h p) * s (ix2 t p) + w (ix4 b t h p) * c (ix2 t p) := by
  pointwise [turnQ1, tableR]

theorem turnK0_apply (v w : FVec Ideal S8x4096x2x32 .f32) (c s : FVec Ideal S4096x32 .f32) (b : Fin 8) (t : Fin 4096) (h : Fin 2) (p : Fin 32) :
    turnK0 v w c s (ix4 b t h p) = v (ix4 b t h p) * c (ix2 t p) - w (ix4 b t h p) * s (ix2 t p) := by
  pointwise [turnK0, tableR]

theorem turnK1_apply (v w : FVec Ideal S8x4096x2x32 .f32) (c s : FVec Ideal S4096x32 .f32) (b : Fin 8) (t : Fin 4096) (h : Fin 2) (p : Fin 32) :
    turnK1 v w c s (ix4 b t h p) = v (ix4 b t h p) * s (ix2 t p) + w (ix4 b t h p) * c (ix2 t p) := by
  pointwise [turnK1, tableR]

theorem laidQ_apply (v w : FVec Ideal S8x4096x8x32 .f32) (b : Fin 8) (t : Fin 4096) (f : Fin 512) :
    laidQ (pairsQ v w) (ix3 b t f) = if h : f.val % 64 < 32 then v (ix4 b t ⟨f.val / 64, by omega⟩ ⟨f.val % 64, h⟩)
      else w (ix4 b t ⟨f.val / 64, by omega⟩ ⟨f.val % 64 - 32, by omega⟩) := by
  pointwise [laidQ, pairsQ]
  by_cases h : f.val % 64 < 32
  · refine (dif_pos (show f.val / 32 % 2 < 1 by omega)).trans (Eq.trans ?_ (dif_pos h).symm)
    exact congrArg (fun p : Fin 32 => v (ix4 b t (⟨f.val / 64, by omega⟩ : Fin 8) p)) (Fin.ext (show f.val % 32 = f.val % 64 by omega))
  · refine (dif_neg (show ¬f.val / 32 % 2 < 1 by omega)).trans (Eq.trans ?_ (dif_neg h).symm)
    exact congrArg (fun p : Fin 32 => w (ix4 b t (⟨f.val / 64, by omega⟩ : Fin 8) p)) (Fin.ext (show f.val % 32 = f.val % 64 - 32 by omega))

theorem laidK_apply (v w : FVec Ideal S8x4096x2x32 .f32) (b : Fin 8) (t : Fin 4096) (h : Fin 2) (e : Fin 64) :
    laidK (pairsK v w) (ix4 b h t e) = if he : e.val < 32 then v (ix4 b t h ⟨e.val, he⟩) else w (ix4 b t h ⟨e.val - 32, by omega⟩) := by
  pointwise [laidK, pairsK]
  by_cases he : e.val < 32
  · refine (dif_pos (show e.val / 32 < 1 by omega)).trans (Eq.trans ?_ (dif_pos he).symm)
    exact congrArg (fun p : Fin 32 => v (ix4 b t h p)) (Fin.ext (show e.val % 32 = e.val by omega))
  · refine (dif_neg (show ¬e.val / 32 < 1 by omega)).trans (Eq.trans ?_ (dif_neg he).symm)
    exact congrArg (fun p : Fin 32 => w (ix4 b t h p)) (Fin.ext (show e.val % 32 = e.val - 32 by omega))

theorem laidV_apply (z : FVec Ideal S8x4096x1280 .f32) (b : Fin 8) (g : Fin 2) (r : Fin 80) (t : Fin 4096) :
    laidV z (ix4 b g r t) = if h : r.val < 64 then z (ix3 b t ⟨640 + (g.val * 64 + r.val), by omega⟩) else 1 := by
  pointwise [laidV]

theorem inputR_apply (z : FVec Ideal S8x4096x1280 .f32) (b : Fin 8) (t : Fin 4096) (f : Fin 512) :
    inputR z (ix3 b t f) = z (ix3 b t ⟨768 + f.val, by omega⟩) := by
  pointwise [inputR]

theorem laidC_apply (u : FVec Ideal S8x4096x512 .f32) (g : Fin 32) (q : Fin 2048) (e : Fin 256) :
    laidC u (ix3 g q e) = u (ix3 ⟨q.val / 256, by omega⟩ ⟨q.val % 256 * 16 + e.val / 16, by omega⟩ ⟨g.val * 16 + e.val % 16, by omega⟩) := by
  pointwise [laidC]

end Cert.Inproj
-- ==== Proof.InReferenceResults.lean ====
/- The five arrays the in-projection's reference returns are the tokens' queries, keys, values and recurrence input. -/
module

public import proofs.«01_k».proof.Proof.InReference

@[expose] public section

set_option maxRecDepth 16384

noncomputable section

namespace Cert.Inproj

open Cert.Reference3Ideal Cert.Reference3Ideal.Gen Idealize.ShloMosaic

variable (x : FVec Ideal S8x4096x1024 .f32) (μ : FVec Ideal S8x6144 .f32) (n1 : FVec Ideal S4x1024 .f32) (w : FVec Ideal S4x1024x1280 .f32)
  (gq gk : FVec Ideal S4x64 .f32)

/-- The projection of the tokens. -/
def zR : FVec Ideal S8x4096x1280 .f32 := projR (hiddenR x n1 μ) w

/-- The queries, keys, values, recurrence input and its chunks. -/
def referenceQ : FVec Ideal S8x4096x512 .bf16 :=
  let v := normQ (headsQ (zR x μ n1 w)) gq
  laidQ (pairsQ (turnQ0 (partQ0 v) (partQ1 v) (Host.cos anglesR) (Host.sin anglesR)) (turnQ1 (partQ0 v) (partQ1 v) (Host.cos anglesR) (Host.sin anglesR)))
def referenceK : FVec Ideal S8x2x4096x64 .bf16 :=
  let v := normK (headsK (zR x μ n1 w)) gk
  laidK (pairsK (turnK0 (partK0 v) (partK1 v) (Host.cos anglesR) (Host.sin anglesR)) (turnK1 (partK0 v) (partK1 v) (Host.cos anglesR) (Host.sin anglesR)))
def referenceV : FVec Ideal S8x2x80x4096 .bf16 := laidV (zR x μ n1 w)
def referenceU : FVec Ideal S8x4096x512 .f32 := inputR (zR x μ n1 w)
def referenceC : FVec Ideal S32x2048x256 .bf16 := laidC (inputR (zR x μ n1 w))

theorem zR_apply (b : Fin 8) (t : Fin 4096) (j : Fin 1280) : zR x μ n1 w (ix3 b t j) = (argToken x μ n1 w gq gk b t).z j := by
  rw [zR, projR_apply, Token.z]
  refine Finset.sum_congr rfl fun k _ => ?_
  rw [hiddenR_apply]
  refine congrArg (· * w (ix3 0 k j)) ?_
  unfold hiddenOf argToken
  exact congr (congrArg HAdd.hAdd (congrArg (fun i => _ * (Ideal.ofBits .f32 0x3F800000#32 + μ (ix2 b i))) (Fin.ext (show 1024 + k.val = 1024 * 1 + k.val by omega))))
    (congrArg (fun i => μ (ix2 b i)) (Fin.ext (show k.val = 1024 * 0 + k.val by omega)))

theorem cos_apply (t : Fin 4096) (p : Fin 32) : (Host.cos anglesR : FVec Ideal S4096x32 .f32) (ix2 t p) = (argToken x μ n1 w gq gk 0 t).cs p :=
  congrArg Ideal.cos (anglesR_apply t p)

theorem sin_apply (t : Fin 4096) (p : Fin 32) : (Host.sin anglesR : FVec Ideal S4096x32 .f32) (ix2 t p) = (argToken x μ n1 w gq gk 0 t).sn p :=
  congrArg Ideal.sin (anglesR_apply t p)

theorem normQ_token (b : Fin 8) (t : Fin 4096) (h : Fin 8) (d : Fin 64) : normQ (headsQ (zR x μ n1 w)) gq (ix4 b t h d)
    = normOf (fun d => (argToken x μ n1 w gq gk b t).z ⟨64 * h.val + d.val, by omega⟩) (argToken x μ n1 w gq gk b t).gq d := by
  rw [normQ_apply]
  refine congrArg (fun v => normOf v (argToken x μ n1 w gq gk b t).gq d) (funext fun d => ?_)
  rw [headsQ_apply, zR_apply x μ n1 w gq gk]
  exact congrArg (argToken x μ n1 w gq gk b t).z (Fin.ext (show h.val * 64 + d.val = 64 * h.val + d.val by omega))

theorem normK_token (b : Fin 8) (t : Fin 4096) (h : Fin 2) (d : Fin 64) : normK (headsK (zR x μ n1 w)) gk (ix4 b t h d)
    = normOf (fun d => (argToken x μ n1 w gq gk b t).z ⟨512 + 64 * h.val + d.val, by omega⟩) (argToken x μ n1 w gq gk b t).gk d := by
  rw [normK_apply]
  refine congrArg (fun v => normOf v (argToken x μ n1 w gq gk b t).gk d) (funext fun d => ?_)
  rw [headsK_apply, zR_apply x μ n1 w gq gk]
  exact congrArg (argToken x μ n1 w gq gk b t).z (Fin.ext (show 512 + (h.val * 64 + d.val) = 512 + 64 * h.val + d.val by omega))

theorem referenceQ_apply (b : Fin 8) (t : Fin 4096) (f : Fin 512) : referenceQ x μ n1 w gq (ix3 b t f) = (argToken x μ n1 w gq gk b t).q f := by
  unfold referenceQ Token.q turnOf
  dsimp only
  rw [laidQ_apply]
  by_cases h : f.val % 64 < 32
  · refine (dif_pos h).trans (Eq.trans ?_ (dif_pos h).symm)
    rw [turnQ0_apply, partQ0_apply, partQ1_apply, normQ_token x μ n1 w gq gk, normQ_token x μ n1 w gq gk, cos_apply x μ n1 w gq gk, sin_apply x μ n1 w gq gk]
    simp only [Nat.mul_comm _ 2]
    rfl
  · refine (dif_neg h).trans (Eq.trans ?_ (dif_neg h).symm)
    rw [turnQ1_apply, partQ0_apply, partQ1_apply, normQ_token x μ n1 w gq gk, normQ_token x μ n1 w gq gk, cos_apply x μ n1 w gq gk, sin_apply x μ n1 w gq gk]
    simp only [Nat.mul_comm _ 2]
    rfl

theorem referenceK_apply (b : Fin 8) (h : Fin 2) (t : Fin 4096) (e : Fin 64) : referenceK x μ n1 w gk (ix4 b h t e) = (argToken x μ n1 w gq gk b t).k h e := by
  unfold referenceK Token.k turnOf
  rw [laidK_apply]
  by_cases he : e.val < 32
  · refine (dif_pos he).trans (Eq.trans ?_ (dif_pos he).symm)
    rw [turnK0_apply, partK0_apply, partK1_apply, normK_token x μ n1 w gq gk, normK_token x μ n1 w gq gk, cos_apply x μ n1 w gq gk, sin_apply x μ n1 w gq gk]
    simp only [Nat.mul_comm _ 2]
    rfl
  · refine (dif_neg he).trans (Eq.trans ?_ (dif_neg he).symm)
    rw [turnK1_apply, partK0_apply, partK1_apply, normK_token x μ n1 w gq gk, normK_token x μ n1 w gq gk, cos_apply x μ n1 w gq gk, sin_apply x μ n1 w gq gk]
    simp only [Nat.mul_comm _ 2]
    rfl

theorem referenceV_apply (b : Fin 8) (g : Fin 2) (r : Fin 80) (t : Fin 4096) : referenceV x μ n1 w (ix4 b g r t) = (argToken x μ n1 w gq gk b t).v g r := by
  unfold referenceV Token.v
  rw [laidV_apply]
  by_cases h : r.val < 64
  · refine (dif_pos h).trans (Eq.trans ?_ (dif_pos h).symm)
    rw [zR_apply x μ n1 w gq gk]
    exact congrArg (argToken x μ n1 w gq gk b t).z (Fin.ext (show 640 + (g.val * 64 + r.val) = 640 + 64 * g.val + r.val by omega))
  · rw [dif_neg h, dif_neg h]

theorem referenceU_apply (b : Fin 8) (t : Fin 4096) (f : Fin 512) : referenceU x μ n1 w (ix3 b t f) = (argToken x μ n1 w gq gk b t).u f := by
  rw [referenceU, inputR_apply, zR_apply x μ n1 w gq gk]
  rfl

theorem referenceC_apply (g : Fin 32) (q : Fin 2048) (e : Fin 256) : referenceC x μ n1 w (ix3 g q e) = chunk x μ n1 w gq gk g q e := by
  rw [referenceC, laidC_apply]
  exact referenceU_apply x μ n1 w gq gk _ _ _

end Cert.Inproj
-- ==== Proof.InEquation.lean ====
/- The five results of the in-projection are the reference's. -/
module

public import proofs.«01_k».proof.Proof.InArray
public import proofs.«01_k».proof.Proof.InReferenceResults

@[expose] public section

set_option maxRecDepth 16384

noncomputable section

namespace Cert.Inproj

open Idealize.ShloMosaic

variable (m : (ℓ : Loc Cert.Kernel3Ideal.nD Cert.Kernel3Ideal.τ Cert.Kernel3Ideal.sig) → Buf (Elt Ideal) ℓ) (c : Dev Cert.Kernel3Ideal.nD)

/-- The queries. -/
theorem referenceQ_eq_final : referenceQ (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4))
    = (Cert.Kernel3Ideal.Gen.dats m 0 c).arrAt 9 Cert.Kernel3Ideal.cfg0.N := by
  refine Eq.trans (funext fun i => ?_) (final_q m c).symm
  obtain ⟨b, t, f, rfl⟩ : ∃ (b : Fin 8) (t : Fin 4096) (f : Fin 512), i = ix3 b t f := ⟨i 0, i 1, i 2, eq_ix3 i⟩
  exact referenceQ_apply _ _ _ _ _ _ b t f

/-- The keys. -/
theorem referenceK_eq_final : referenceK (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg5))
    = (Cert.Kernel3Ideal.Gen.dats m 0 c).arrAt 10 Cert.Kernel3Ideal.cfg0.N := by
  refine Eq.trans (funext fun i => ?_) (final_k m c).symm
  obtain ⟨b, h, t, e, rfl⟩ : ∃ (b : Fin 8) (h : Fin 2) (t : Fin 4096) (e : Fin 64), i = ix4 b h t e := ⟨i 0, i 1, i 2, i 3, eq_ix4 i⟩
  exact referenceK_apply _ _ _ _ _ _ b h t e

/-- The values. -/
theorem referenceV_eq_final : referenceV (m (c.tc.loc Cert.Kernel3Ideal.main_arg0)) (m (c.tc.loc Cert.Kernel3Ideal.main_arg1)) (m (c.tc.loc Cert.Kernel3Ideal.main_arg2)) (m (c.tc.loc Cert.Kernel3Ideal.main_arg3))
    = (Cert.Kernel3Ideal.Gen.dats m 0 c).arrAt 11 Cert.Kernel3Ideal.cfg0.N := by
  refine Eq.trans (funext fun i => ?_) (final_v m c).symm
  obtain ⟨b, g, r, t, rfl⟩ : ∃ (b : Fin 8) (g : Fin 2) (r : Fin 80) (t : Fin 4096), i = ix4 b g r t := ⟨i 0, i 1, i 2, i 3, eq_ix4 i⟩
  exact referenceV_apply _ _ _ _ _ _ b g r t

/-- The recurrence's inputs. -/
theorem referenceU_eq_final : referenceU (m (c.tc.loc Cert.Kernel3Ideal.main_arg0)) (m (c.tc.loc Cert.Kernel3Ideal.main_arg1)) (m (c.tc.loc Cert.Kernel3Ideal.main_arg2)) (m (c.tc.loc Cert.Kernel3Ideal.main_arg3))
    = (Cert.Kernel3Ideal.Gen.dats m 0 c).arrAt 12 Cert.Kernel3Ideal.cfg0.N := by
  refine Eq.trans (funext fun i => ?_) (final_u m c).symm
  obtain ⟨b, t, f, rfl⟩ : ∃ (b : Fin 8) (t : Fin 4096) (f : Fin 512), i = ix3 b t f := ⟨i 0, i 1, i 2, eq_ix3 i⟩
  exact referenceU_apply _ _ _ _ _ _ b t f

/-- The chunks. -/
theorem referenceC_eq_final : referenceC (m (c.tc.loc Cert.Kernel3Ideal.main_arg0)) (m (c.tc.loc Cert.Kernel3Ideal.main_arg1)) (m (c.tc.loc Cert.Kernel3Ideal.main_arg2)) (m (c.tc.loc Cert.Kernel3Ideal.main_arg3))
    = (Cert.Kernel3Ideal.Gen.dats m 0 c).arrAt 13 Cert.Kernel3Ideal.cfg0.N := by
  refine Eq.trans (funext fun i => ?_) (final_c m c).symm
  obtain ⟨g, q, e, rfl⟩ : ∃ (g : Fin 32) (q : Fin 2048) (e : Fin 256), i = ix3 g q e := ⟨i 0, i 1, i 2, eq_ix3 i⟩
  exact referenceC_apply _ _ _ _ _ _ g q e

end Cert.Inproj
-- ==== Proof.InReferenceRun.lean ====
/- The in-projection's reference runs, and returns what its lines name. -/
module

public import proofs.«01_k».proof.Proof.InReferenceResults
public import Idealize.ShloMosaic.Adequacy
public import Idealize.ShloMosaic.Init
public import Idealize.ShloMosaic.Lib.Claim

@[expose] public section

set_option maxRecDepth 16384

noncomputable section

namespace Cert.Inproj

open Cert.Reference3Ideal Cert.Reference3Ideal.Gen Idealize.ShloMosaic Idealize.ShloMosaic.TcCoe Idealize.SL.Sem

/-- The reference's run in the names of its lines. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v154) = referenceQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v155) = referenceK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v156) = referenceV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v65) = referenceU (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v158) = referenceC (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference3Ideal.Value.run (F := Ideal) m ρ

end Cert.Inproj
-- ==== Proof.AdaFrame.lean ====
/- The call that computes the modulations, at bit patterns: its idealization has the same text, so the run found for the one is the other's. -/
module

public import proofs.«01_k».proof.Defs
public import proofs.«01_k».proof.Proof.Gen.Kernel4
public import proofs.«01_k».proof.Proof.Gen.Kernel4Ideal.Value

@[expose] public section

set_option maxRecDepth 16384

noncomputable section

namespace Cert.Adaln

open Idealize.ShloMosaic Idealize.SL.Sem

set_option maxHeartbeats 4000000 in
/-- The kernel and its idealization have the same text, so the same bodies … -/
theorem bodies_eq : Cert.Kernel4.defs₀ (F := Bits) = Cert.Kernel4Ideal.defs₀ (F := Bits) := by
  refine congrArg Defs.onTc (funext fun ℓ => funext fun a => ?_)
  match ℓ, a with
  | ⟨0, _⟩, (t, s) => rfl
  | ⟨_ + 1, h⟩, _ => exact absurd h (Nat.not_lt.2 (Nat.le_add_left _ _))

set_option maxHeartbeats 4000000 in
theorem defs_eq : Cert.Kernel4.defs (F := Bits) = Cert.Kernel4Ideal.defs (F := Bits) :=
  congrArg (Pipeline.defs Cert.Kernel4Ideal.pcfgs) bodies_eq

set_option maxHeartbeats 4000000 in
/-- … and the same run: the kernel's at bit patterns. -/
theorem frame_kernel : Cert.quiescent_Kernel4 := by
  intro m ρ _
  rw [defs_eq]
  exact Cert.Kernel4Ideal.Gen.frame (F := Bits) m ρ

end Cert.Adaln
-- ==== Proof.AdaArray.lean ====
/- What the array of the modulations holds after the run: for every layer and sequence, the gated conditioning vector's
   product with the layer's matrix, and the layer's offset. -/
module

public import proofs.«01_k».proof.Proof.Gen.Kernel4Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Adaln

open Cert.Kernel4Ideal Cert.Kernel4Ideal.Gen Idealize.ShloMosaic Idealize.ShloMosaic.TcCoe Idealize.SL.Sem
open Idealize.ShloMosaic.Pipeline (Dat)

/-- Place `j` of layer `i`'s modulation for sequence `b`. -/
def entry (x : FVec Ideal ⟨2, ![8, 1024]⟩ .f32) (w : FVec Ideal ⟨3, ![4, 1024, 6144]⟩ .f32) (β : FVec Ideal ⟨2, ![4, 6144]⟩ .f32) (i : Fin 4) (b : Fin 8) (j : Fin 6144) : EReal :=
  (∑ k : Fin 1024, x (ix2 b k) * Ideal.logistic (x (ix2 b k)) * w (ix3 i k j)) + β (ix2 i j)

/-- The whole result array. -/
def resultA (x : FVec Ideal ⟨2, ![8, 1024]⟩ .f32) (w : FVec Ideal ⟨3, ![4, 1024, 6144]⟩ .f32) (β : FVec Ideal ⟨2, ![4, 6144]⟩ .f32) : FVec Ideal S4x8x6144 .f32 :=
  fun i => entry x w β (i 0) (i 1) (i 2)

/-- A grid point's block of the result. -/
theorem pay_apply (x : FVec Ideal S8x1024 .f32) (w : FVec Ideal S1x1024x1024 .f32) (β : FVec Ideal S1x1x1024 .f32) (b : Fin 8) (j : Fin 1024) :
    k0_pay1 x w β (ix3 0 b j) = (∑ k : Fin 1024, x (ix2 b k) * Ideal.logistic (x (ix2 b k)) * w (ix3 0 k j)) + β (ix3 0 0 j) := by
  pointwise [k0_pay1]

section

variable {F : FTy → Type} [FloatOps F]

/-- What a grid point leaves in the output window. -/
theorem out_eq (x : Vec F S8x1024 .f32) (w : Vec F S1x1024x1024 .f32) (β : Vec F S1x1x1024 .f32) : out0_3 x w β = k0_pay1 x w β := by
  unfold out0_3
  frame_out

end

variable (m : (ℓ : Loc nD τ sig) → Buf (Elt Ideal) ℓ)

theorem idx : ∀ t : Fin cfg0.N, t.val < 24
    ∧ win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, _)

/-- The layer of a grid point … -/
def layerOf (t : Fin cfg0.N) : Fin 4 := ⟨t.val / 6, by have := (idx t).1; omega⟩

/-- … and where its column `j` lies in the layer's modulation. -/
def colOf (t : Fin cfg0.N) (j : Fin 1024) : Fin 6144 := ⟨1024 * (t.val % 6) + j.val, by omega⟩

theorem emb_0 (t : Fin cfg0.N) (b : Fin 8) (k : Fin 1024) : (win0_0.blk t).view.emb (ix2 b k) = ix2 (n0 := 8) (n1 := 1024) b k := by
  blk_ext [idx t, layerOf, colOf]

theorem emb_1 (t : Fin cfg0.N) (k j : Fin 1024) : (win0_1.blk t).view.emb (ix3 0 k j) = ix3 (n0 := 4) (n1 := 1024) (n2 := 6144) (layerOf t) k (colOf t j) := by
  blk_ext [idx t, layerOf, colOf]

theorem emb_2 (t : Fin cfg0.N) (j : Fin 1024) : (win0_2.blk t).view.emb (ix3 0 0 j) = ix3 (n0 := 4) (n1 := 1) (n2 := 6144) (layerOf t) 0 (colOf t j) := by
  blk_ext [idx t, layerOf, colOf]

theorem emb_3 (t : Fin cfg0.N) (b : Fin 8) (j : Fin 1024) : (win0_3.blk t).view.emb (ix3 0 b j)
    = ix3 (n0 := 4) (n1 := 8) (n2 := 6144) (layerOf t) b (colOf t j) := by
  blk_ext [idx t, layerOf, colOf]

section

variable (c : Dev nD) (t : Fin cfg0.N)

theorem blk_x (b : Fin 8) (k : Fin 1024) : iblk m c 0 t (ix2 b k) = m ((c : Thread nD τ).loc main_arg0) (ix2 b k) := by
  blk_simp [iblk]; rw [emb_0]; entry_read; rfl

theorem blk_w (k j : Fin 1024) : iblk m c 1 t (ix3 0 k j) = m ((c : Thread nD τ).loc main_arg1) (ix3 (layerOf t) k (colOf t j)) := by
  blk_simp [iblk]; rw [emb_1]; entry_read; rfl

/-- The offsets with an axis between. -/
theorem read_b (i : Fin 4) (j : Fin 6144) : V m c main_v0 (ix3 i 0 j) = m ((c : Thread nD τ).loc main_arg2) (ix2 i j) := by
  entry_read
  pointwise

theorem blk_b (j : Fin 1024) : iblk m c 2 t (ix3 0 0 j) = m ((c : Thread nD τ).loc main_arg2) (ix2 (layerOf t) (colOf t j)) := by
  blk_simp [iblk]; rw [emb_2, read_b]

/-- The result array after the run. -/
theorem final : (dats m 0 c).arrAt 3 (cfgs 0).N
    = resultA (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_eq]
  obtain ⟨b, j, rfl⟩ : ∃ (b : Fin 8) (j : Fin 1024), y = ix3 0 b j := ⟨y 1, y 2, by
    have h0 : y 0 = (0 : Fin 1) := Subsingleton.elim (α := Fin 1) _ _
    rw [← h0]; exact eq_ix3 y⟩
  rw [pay_apply, emb_3, blk_b]
  simp only [blk_x, blk_w]
  rfl

end

end Cert.Adaln
-- ==== Proof.AdaReference.lean ====
/- The modulations' reference: what it returns for every layer, sequence and place, and its run. -/
module

public import proofs.«01_k».proof.Proof.AdaArray
public import proofs.«01_k».proof.Proof.Gen.Reference4Ideal.Run
public import Idealize.ShloMosaic.Adequacy
public import Idealize.ShloMosaic.Init
public import Idealize.ShloMosaic.Lib.Claim

@[expose] public section

set_option maxRecDepth 16384

noncomputable section

namespace Cert.Adaln

open Cert.Reference4Ideal Cert.Reference4Ideal.Gen Idealize.ShloMosaic Idealize.ShloMosaic.TcCoe Idealize.SL.Sem

/-- The gated conditioning vectors. -/
def gatedR (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- A layer's matrix, applied, and its offset. -/
def layerR (x : FVec Ideal S8x1024 .f32) (w : FVec Ideal S1x1024x6144 .f32) (β : FVec Ideal S1x6144 .f32) : FVec Ideal S1x8x6144 .f32 :=
  broadcastInDim S1x8x6144 ![1, 2] bcast_S8x6144_S1x8x6144_1_2 (addf
    (Host.dotGeneral dot_S8x1024_S1024x6144_S8x6144_1_0_0_1_n_n none (gatedR x) (shapeCast _ w shapeCasts_S1x1024x6144_S1024x6144))
    (broadcastInDim S8x6144 ![0, 1] bcast_S1x6144_S8x6144_0_1 (broadcastInDim S1x6144 ![1] bcast_S6144_S1x6144_1 (shapeCast _ β shapeCasts_S1x6144_S6144))))

/-- The four layers' modulations. -/
def referenceA (x : FVec Ideal S8x1024 .f32) (w : FVec Ideal S4x1024x6144 .f32) (β : FVec Ideal S4x6144 .f32) : FVec Ideal S4x8x6144 .f32 :=
  concatenate S4x8x6144 0
    [⟨S1x8x6144, layerR x (extractStridedSlice S1x1024x6144 ![0, 0, 0] w slices_S4x1024x6144_S1x1024x6144_0_0_0) (extractStridedSlice S1x6144 ![0, 0] β slices_S4x6144_S1x6144_0_0)⟩,
     ⟨S1x8x6144, layerR x (extractStridedSlice S1x1024x6144 ![1, 0, 0] w slices_S4x1024x6144_S1x1024x6144_1_0_0) (extractStridedSlice S1x6144 ![1, 0] β slices_S4x6144_S1x6144_1_0)⟩,
     ⟨S1x8x6144, layerR x (extractStridedSlice S1x1024x6144 ![2, 0, 0] w slices_S4x1024x6144_S1x1024x6144_2_0_0) (extractStridedSlice S1x6144 ![2, 0] β slices_S4x6144_S1x6144_2_0)⟩,
     ⟨S1x8x6144, layerR x (extractStridedSlice S1x1024x6144 ![3, 0, 0] w slices_S4x1024x6144_S1x1024x6144_3_0_0) (extractStridedSlice S1x6144 ![3, 0] β slices_S4x6144_S1x6144_3_0)⟩]
    concatenates_S1x8x6144_S1x8x6144_S1x8x6144_S1x8x6144_S4x8x6144_d0

theorem gatedR_apply (x : FVec Ideal S8x1024 .f32) (b : Fin 8) (k : Fin 1024) : gatedR x (ix2 b k) = x (ix2 b k) * Ideal.logistic (x (ix2 b k)) := by
  pointwise [gatedR, Ideal.logistic]

theorem layerR_apply (x : FVec Ideal S8x1024 .f32) (w : FVec Ideal S1x1024x6144 .f32) (β : FVec Ideal S1x6144 .f32) (b : Fin 8) (j : Fin 6144) :
    layerR x w β (ix3 0 b j) = (∑ k : Fin 1024, x (ix2 b k) * Ideal.logistic (x (ix2 b k)) * w (ix3 0 k j)) + β (ix2 0 j) := by
  simp only [← gatedR_apply]
  unfold layerR
  generalize gatedR x = X
  pointwise

/-- The layers side by side: layer `i` is the `i`-th of them. -/
theorem layers_apply (p : Fin 4 → FVec Ideal S1x8x6144 .f32) (i : Fin 4) (b : Fin 8) (j : Fin 6144) :
    concatenate S4x8x6144 0 [⟨S1x8x6144, p 0⟩, ⟨S1x8x6144, p 1⟩, ⟨S1x8x6144, p 2⟩, ⟨S1x8x6144, p 3⟩]
      concatenates_S1x8x6144_S1x8x6144_S1x8x6144_S1x8x6144_S4x8x6144_d0 (ix3 i b j) = p i (ix3 0 b j) := by
  match i with
  | 0 => pointwise
  | 1 => pointwise
  | 2 => pointwise
  | 3 => pointwise

theorem referenceA_apply (x : FVec Ideal S8x1024 .f32) (w : FVec Ideal S4x1024x6144 .f32) (β : FVec Ideal S4x6144 .f32) (i : Fin 4) (b : Fin 8)
    (j : Fin 6144) : referenceA x w β (ix3 i b j) = entry x w β i b j := by
  refine (layers_apply ![_, _, _, _] i b j).trans ?_
  match i with
  | 0 => exact (layerR_apply x _ _ b j).trans (by pointwise [entry])
  | 1 => exact (layerR_apply x _ _ b j).trans (by pointwise [entry])
  | 2 => exact (layerR_apply x _ _ b j).trans (by pointwise [entry])
  | 3 => exact (layerR_apply x _ _ b j).trans (by pointwise [entry])

/-- The reference's run in the names of its lines. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = referenceA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run (F := Ideal) m ρ

end Cert.Adaln
-- ==== Proof.AdaEquation.lean ====
/- The modulations the call computes are the reference's. -/
module

public import proofs.«01_k».proof.Proof.AdaReference

@[expose] public section

set_option maxRecDepth 16384

noncomputable section

namespace Cert.Adaln

open Idealize.ShloMosaic

/-- The reference's array is what the call leaves in its result. -/
theorem referenceA_eq_final (m : (ℓ : Loc Cert.Kernel4Ideal.nD Cert.Kernel4Ideal.τ Cert.Kernel4Ideal.sig) → Buf (Elt Ideal) ℓ)
    (c : Dev Cert.Kernel4Ideal.nD) :
    referenceA (m (c.tc.loc Cert.Kernel4Ideal.main_arg0)) (m (c.tc.loc Cert.Kernel4Ideal.main_arg1)) (m (c.tc.loc Cert.Kernel4Ideal.main_arg2))
      = (Cert.Kernel4Ideal.Gen.dats m 0 c).arrAt 3 Cert.Kernel4Ideal.cfg0.N := by
  refine Eq.trans (funext fun i => ?_) (final m c).symm
  obtain ⟨l, b, j, rfl⟩ : ∃ (l : Fin 4) (b : Fin 8) (j : Fin 6144), i = ix3 l b j := ⟨i 0, i 1, i 2, eq_ix3 i⟩
  exact referenceA_apply _ _ _ l b j

end Cert.Adaln
-- ==== Proof.Precondition.lean ====
/- What the attention's precondition says: no query and no key is an infinity, so each is a real number. -/
module

public import proofs.«01_k».proof.Pre_finite_scores
public import Idealize.ShloMosaic.Lib.Pointwise

@[expose] public section

noncomputable section

namespace Cert.Attention

open Idealize.ShloMosaic

/-- The side conditions the precondition's operations take. -/
theorem preFacts : Cert.Pre_finite_scores.Facts where
  bcast_S_S8x4096x8x64 := by decide
  bcast_S_S8x4096x2x64 := by decide

/-- An extended real whose absolute value lies below the largest is real. -/
theorem real_of_abs_lt_top (x : EReal) (h : max x (-x) < ⊤) : ∃ r : ℝ, x = (r : EReal) := by
  induction x using EReal.rec with
  | bot => simp at h
  | coe r => exact ⟨r, rfl⟩
  | top => simp at h

/-- An array below the infinity everywhere holds real numbers. -/
theorem real_of_below {s : Shape} (hb : (⟨0, ![]⟩ : Shape).BroadcastsInDim s ![]) (x : FVec Ideal s .f32)
    (h : cmpf .olt (Host.absf x) (broadcastInDim s ![] hb (constant (⟨0, ![]⟩ : Shape) .f32 0x7F800000#32)) = fun _ => 1#1) (i : s.Idx) :
    ∃ r : ℝ, x i = (r : EReal) := by
  have ht : Ideal.ofBits .f32 0x7F800000#32 = ⊤ := by simp [Ideal.ofBits, Ideal.ieee]
  have e : FloatOps.cmpf (F := Ideal) (φ := .f32) .olt (max (x i) (-(x i)) : EReal) (Ideal.ofBits .f32 0x7F800000#32) = 1#1 := congrFun h i
  rw [ht] at e
  refine real_of_abs_lt_top _ ?_
  by_contra hn
  revert e
  show ¬ (Ideal.cmp .olt (max (x i) (-(x i)) : EReal) ⊤ = 1#1)
  simp [Ideal.cmp, hn]

end Cert.Attention
-- ==== Proof.lean ====
module

public import proofs.«01_k».proof.Defs
public import proofs.«01_k».proof.Proof.Gen.Kernel
public import proofs.«01_k».proof.Proof.Gen.KernelIdeal.Value
public import proofs.«01_k».proof.Proof.Gen.ReferenceIdeal.Run
public import proofs.«01_k».proof.Proof.Gen.Kernel2Ideal.Value
public import proofs.«01_k».proof.Proof.MixFrame
public import proofs.«01_k».proof.Proof.Gen.Reference2Ideal.Run
public import proofs.«01_k».proof.Proof.Gen.Kernel3Ideal.Value
public import proofs.«01_k».proof.Proof.Gen.Kernel3
public import proofs.«01_k».proof.Proof.Gen.Reference3Ideal.Run
public import proofs.«01_k».proof.Proof.Gen.Kernel4Ideal.Value
public import proofs.«01_k».proof.Proof.Gen.Kernel4
public import proofs.«01_k».proof.Proof.Gen.Reference4Ideal.Run
public import proofs.«01_k».proof.Proof.AttentionEquation
public import proofs.«01_k».proof.Proof.MixEquation
public import proofs.«01_k».proof.Proof.MixReferenceRun
public import proofs.«01_k».proof.Proof.InFrame
public import proofs.«01_k».proof.Proof.InEquation
public import proofs.«01_k».proof.Proof.InReferenceRun
public import proofs.«01_k».proof.Proof.AdaFrame
public import proofs.«01_k».proof.Proof.AdaEquation
public import proofs.«01_k».proof.Proof.Precondition
public import Idealize.ShloMosaic.Adequacy
public import Idealize.ShloMosaic.Init
public import Idealize.ShloMosaic.Lib.Claim

@[expose] public section

noncomputable section

namespace Cert.Proof

open Idealize.ShloMosaic Idealize.SL.Sem

/-- The kernel and its idealization have the same text, so the same bodies … -/
theorem bodies_eq : Cert.Kernel.defs₀ (F := Bits) = Cert.KernelIdeal.defs₀ (F := Bits) := by
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- … and the same run: the kernel's at bit patterns. -/
theorem frame_kernel : Cert.quiescent_Kernel := by
  intro m ρ _
  rw [defs_eq]
  exact Cert.KernelIdeal.Gen.frame (F := Bits) m ρ

/-- The reference runs, changes no argument and leaves every counter at zero. -/
theorem frame_reference : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

/-- The attention call against the reference. -/
theorem attention : Cert.algebraic_KernelIdeal_ReferenceIdeal_pre_finite_scores (hPre_finite_scores := Cert.Attention.preFacts) := by
  pair_intro
  · run_from Cert.KernelIdeal.Value.run_blocks m g
  · run_from Cert.ReferenceIdeal.Value.run m' g'
    exact Cert.Attention.reference_eq_final m c (Cert.Attention.real_of_below _ _ (hpre c).1) (Cert.Attention.real_of_below _ _ (hpre c).2)

/-! ## The call that ends the layer -/

/-- The reference runs, changes no argument and leaves every counter at zero. -/
theorem frame_mix_reference : Cert.quiescent_Reference2Ideal := by
  intro m g _
  exact (θ_run Cert.Reference2Ideal.defs _ _).mono (fun r h => ⟨fun c => (h c).2, Idealize.ShloMosaic.sem_eq_zero_of_no_sems (by decide) r.2⟩)
    (Cert.Mix.reference_run m g)

/-- The call against the reference. -/
theorem mixing : Cert.algebraic_Kernel2Ideal_Reference2Ideal := by
  pair_intro
  · run_from Cert.Kernel2Ideal.Value.run_blocks m g
  · run_from Cert.Mix.reference_run m' g'
    exact Cert.Mix.referenceMix_eq_final m c

/-! ## The call that begins the layer -/

/-- The reference runs, changes no argument and leaves every counter at zero. -/
theorem frame_inproj_reference : Cert.quiescent_Reference3Ideal := by
  intro m g _
  exact (θ_run Cert.Reference3Ideal.defs _ _).mono (fun r h => ⟨fun c => (h c).2.2.2.2.2, Idealize.ShloMosaic.sem_eq_zero_of_no_sems (by decide) r.2⟩)
    (Cert.Inproj.reference_run m g)

/-- The call against the reference: its five results. -/
theorem inprojection : Cert.algebraic_Kernel3Ideal_Reference3Ideal := by
  pair_intro
  · run_from Cert.Kernel3Ideal.Value.run_blocks m g
  · run_from Cert.Inproj.reference_run m' g'
    · exact Cert.Inproj.referenceQ_eq_final m c
    · exact Cert.Inproj.referenceK_eq_final m c
    · exact Cert.Inproj.referenceV_eq_final m c
    · exact Cert.Inproj.referenceU_eq_final m c
    · exact Cert.Inproj.referenceC_eq_final m c

/-! ## The call that computes the modulations -/

/-- The reference runs, changes no argument and leaves every counter at zero. -/
theorem frame_adaln_reference : Cert.quiescent_Reference4Ideal := by
  intro m g _
  exact (θ_run Cert.Reference4Ideal.defs _ _).mono (fun r h => ⟨fun c => (h c).2, Idealize.ShloMosaic.sem_eq_zero_of_no_sems (by decide) r.2⟩)
    (Cert.Adaln.reference_run m g)

/-- The call against the reference. -/
theorem modulations : Cert.algebraic_Kernel4Ideal_Reference4Ideal := by
  pair_intro
  · run_from Cert.Kernel4Ideal.Value.run_blocks m g
  · run_from Cert.Adaln.reference_run m' g'
    exact Cert.Adaln.referenceA_eq_final m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attention.preFacts,
  frame_kernel, fun m ρ _ => Cert.KernelIdeal.Gen.frame m ρ, fun m ρ _ => Cert.KernelIdeal.Gen.frame m ρ,
  frame_reference, fun m ρ _ => frame_reference m ρ trivial,
  Cert.Mix.frame_kernel, fun m ρ _ => Cert.Kernel2Ideal.Gen.frame m ρ, frame_mix_reference,
  Cert.Inproj.frame_kernel, fun m ρ _ => Cert.Kernel3Ideal.Gen.frame m ρ, frame_inproj_reference,
  Cert.Adaln.frame_kernel, fun m ρ _ => Cert.Kernel4Ideal.Gen.frame m ρ, frame_adaln_reference,
  trivial, attention, trivial, mixing, trivial, inprojection, trivial, modulations⟩

end Cert.Proof

end
